-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_unit_row [hPre_finite_scores_unit_row : Cert.Pre_finite_scores_unit_row.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_unit_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_unit_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores_unit_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_unit_row [hPre_finite_scores_unit_row : Cert.Pre_finite_scores_unit_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_unit_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_unit_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores_unit_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scan [hPre_finite_scan : Cert.Pre_finite_scan.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scan.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).1 = (fun _ => 1#1)
    ∧ (Cert.Pre_finite_scan.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scan [hPre_finite_scan : Cert.Pre_finite_scan.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scan.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).1 = (fun _ => 1#1)
    ∧ (Cert.Pre_finite_scan.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_modulation [hPre_finite_modulation : Cert.Pre_finite_modulation.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_modulation.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite_modulation.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite_modulation.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_modulation [hPre_finite_modulation : Cert.Pre_finite_modulation.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_modulation.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite_modulation.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite_modulation.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_first_stage [hPre_finite_first_stage : Cert.Pre_finite_first_stage.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_first_stage.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite_first_stage.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_first_stage [hPre_finite_first_stage : Cert.Pre_finite_first_stage.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_first_stage.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite_first_stage.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_second_stage [hPre_finite_second_stage : Cert.Pre_finite_second_stage.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_second_stage.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).1 = (fun _ => 1#1)
    ∧ (Cert.Pre_finite_second_stage.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_second_stage [hPre_finite_second_stage : Cert.Pre_finite_second_stage.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_second_stage.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).1 = (fun _ => 1#1)
    ∧ (Cert.Pre_finite_second_stage.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_unit_row [hKernelIdeal : Cert.KernelIdeal.Facts] [hPre_finite_scores_unit_row : Cert.Pre_finite_scores_unit_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_unit_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_unit_row [hReferenceIdeal : Cert.ReferenceIdeal.Facts] [hPre_finite_scores_unit_row : Cert.Pre_finite_scores_unit_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_unit_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_finite_scan [hKernel4Ideal : Cert.Kernel4Ideal.Facts] [hPre_finite_scan : Cert.Pre_finite_scan.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scan m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_finite_scan [hReference4Ideal : Cert.Reference4Ideal.Facts] [hPre_finite_scan : Cert.Pre_finite_scan.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scan m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_modulation [hKernel5Ideal : Cert.Kernel5Ideal.Facts] [hPre_finite_modulation : Cert.Pre_finite_modulation.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_modulation m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_modulation [hReference5Ideal : Cert.Reference5Ideal.Facts] [hPre_finite_modulation : Cert.Pre_finite_modulation.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_modulation m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_first_stage [hKernel6Ideal : Cert.Kernel6Ideal.Facts] [hPre_finite_first_stage : Cert.Pre_finite_first_stage.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_first_stage m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_first_stage [hReference6Ideal : Cert.Reference6Ideal.Facts] [hPre_finite_first_stage : Cert.Pre_finite_first_stage.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_first_stage m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite_second_stage [hKernel7Ideal : Cert.Kernel7Ideal.Facts] [hPre_finite_second_stage : Cert.Pre_finite_second_stage.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_second_stage m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite_second_stage [hReference7Ideal : Cert.Reference7Ideal.Facts] [hPre_finite_second_stage : Cert.Pre_finite_second_stage.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_second_stage m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_finite_scores_unit_row [hKernelIdeal : Cert.KernelIdeal.Facts] [hReferenceIdeal : Cert.ReferenceIdeal.Facts] [hPre_finite_scores_unit_row : Cert.Pre_finite_scores_unit_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_unit_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_scan [hKernel4Ideal : Cert.Kernel4Ideal.Facts] [hReference4Ideal : Cert.Reference4Ideal.Facts] [hPre_finite_scan : Cert.Pre_finite_scan.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scan m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal_pre_finite_modulation [hKernel5Ideal : Cert.Kernel5Ideal.Facts] [hReference5Ideal : Cert.Reference5Ideal.Facts] [hPre_finite_modulation : Cert.Pre_finite_modulation.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_modulation m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_first_stage [hKernel6Ideal : Cert.Kernel6Ideal.Facts] [hReference6Ideal : Cert.Reference6Ideal.Facts] [hPre_finite_first_stage : Cert.Pre_finite_first_stage.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_first_stage m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_second_stage [hKernel7Ideal : Cert.Kernel7Ideal.Facts] [hReference7Ideal : Cert.Reference7Ideal.Facts] [hPre_finite_second_stage : Cert.Pre_finite_second_stage.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_second_stage m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores_unit_row : Cert.Pre_finite_scores_unit_row.Facts) (hPre_finite_scan : Cert.Pre_finite_scan.Facts) (hPre_finite_modulation : Cert.Pre_finite_modulation.Facts) (hPre_finite_first_stage : Cert.Pre_finite_first_stage.Facts) (hPre_finite_second_stage : Cert.Pre_finite_second_stage.Facts),
    quiescent_Kernel (hKernel := hKernel)
    ∧ quiescent_KernelIdeal (hKernelIdeal := hKernelIdeal)
    ∧ quiescent_KernelIdeal_pre_finite_scores_unit_row (hKernelIdeal := hKernelIdeal) (hPre_finite_scores_unit_row := hPre_finite_scores_unit_row)
    ∧ quiescent_ReferenceIdeal (hReferenceIdeal := hReferenceIdeal)
    ∧ quiescent_ReferenceIdeal_pre_finite_scores_unit_row (hReferenceIdeal := hReferenceIdeal) (hPre_finite_scores_unit_row := hPre_finite_scores_unit_row)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_scan (hKernel4Ideal := hKernel4Ideal) (hPre_finite_scan := hPre_finite_scan)
    ∧ quiescent_Reference4Ideal (hReference4Ideal := hReference4Ideal)
    ∧ quiescent_Reference4Ideal_pre_finite_scan (hReference4Ideal := hReference4Ideal) (hPre_finite_scan := hPre_finite_scan)
    ∧ quiescent_Kernel5 (hKernel5 := hKernel5)
    ∧ quiescent_Kernel5Ideal (hKernel5Ideal := hKernel5Ideal)
    ∧ quiescent_Kernel5Ideal_pre_finite_modulation (hKernel5Ideal := hKernel5Ideal) (hPre_finite_modulation := hPre_finite_modulation)
    ∧ quiescent_Reference5Ideal (hReference5Ideal := hReference5Ideal)
    ∧ quiescent_Reference5Ideal_pre_finite_modulation (hReference5Ideal := hReference5Ideal) (hPre_finite_modulation := hPre_finite_modulation)
    ∧ quiescent_Kernel6 (hKernel6 := hKernel6)
    ∧ quiescent_Kernel6Ideal (hKernel6Ideal := hKernel6Ideal)
    ∧ quiescent_Kernel6Ideal_pre_finite_first_stage (hKernel6Ideal := hKernel6Ideal) (hPre_finite_first_stage := hPre_finite_first_stage)
    ∧ quiescent_Reference6Ideal (hReference6Ideal := hReference6Ideal)
    ∧ quiescent_Reference6Ideal_pre_finite_first_stage (hReference6Ideal := hReference6Ideal) (hPre_finite_first_stage := hPre_finite_first_stage)
    ∧ quiescent_Kernel7 (hKernel7 := hKernel7)
    ∧ quiescent_Kernel7Ideal (hKernel7Ideal := hKernel7Ideal)
    ∧ quiescent_Kernel7Ideal_pre_finite_second_stage (hKernel7Ideal := hKernel7Ideal) (hPre_finite_second_stage := hPre_finite_second_stage)
    ∧ quiescent_Reference7Ideal (hReference7Ideal := hReference7Ideal)
    ∧ quiescent_Reference7Ideal_pre_finite_second_stage (hReference7Ideal := hReference7Ideal) (hPre_finite_second_stage := hPre_finite_second_stage)
    ∧ preserves_Kernel_KernelIdeal
    ∧ algebraic_KernelIdeal_ReferenceIdeal_pre_finite_scores_unit_row (hKernelIdeal := hKernelIdeal) (hReferenceIdeal := hReferenceIdeal) (hPre_finite_scores_unit_row := hPre_finite_scores_unit_row)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_scan (hKernel4Ideal := hKernel4Ideal) (hReference4Ideal := hReference4Ideal) (hPre_finite_scan := hPre_finite_scan)
    ∧ preserves_Kernel5_Kernel5Ideal
    ∧ algebraic_Kernel5Ideal_Reference5Ideal_pre_finite_modulation (hKernel5Ideal := hKernel5Ideal) (hReference5Ideal := hReference5Ideal) (hPre_finite_modulation := hPre_finite_modulation)
    ∧ preserves_Kernel6_Kernel6Ideal
    ∧ algebraic_Kernel6Ideal_Reference6Ideal_pre_finite_first_stage (hKernel6Ideal := hKernel6Ideal) (hReference6Ideal := hReference6Ideal) (hPre_finite_first_stage := hPre_finite_first_stage)
    ∧ preserves_Kernel7_Kernel7Ideal
    ∧ algebraic_Kernel7Ideal_Reference7Ideal_pre_finite_second_stage (hKernel7Ideal := hKernel7Ideal) (hReference7Ideal := hReference7Ideal) (hPre_finite_second_stage := hPre_finite_second_stage)
-- ==== Pre_finite_first_stage.lean ====
abbrev S128x65536 : Shape := ⟨2, ![128, 65536]⟩
abbrev S256x128 : Shape := ⟨2, ![256, 128]⟩
abbrev S2x128x128x128 : Shape := ⟨4, ![2, 128, 128, 128]⟩
abbrev S_ : Shape := ⟨0, ![]⟩

class Facts : Prop where
  bcast_S_S128x65536 : S_.BroadcastsInDim S128x65536 (![] : Fin 0 → Fin S128x65536.rank)
  bcast_S_S256x128 : S_.BroadcastsInDim S256x128 (![] : Fin 0 → Fin S256x128.rank)

variable [Facts]

def fn {F : FTy → Type} [FloatOps F] (main_arg0 : FVec F S128x65536 .f32) (main_arg1 : FVec F S256x128 .f32) (main_arg2 : FVec F S2x128x128x128 .f32) : IVec S128x65536 1 × IVec S256x128 1 :=
  let main_v0 : FVec F S128x65536 .f32 := Host.absf main_arg0
  let main_cst : FVec F S_ .f32 := constant S_ .f32 0x7F800000#32
  let main_v1 : FVec F S128x65536 .f32 := broadcastInDim S128x65536 ![] bcast_S_S128x65536 main_cst
  let main_v2 : IVec S128x65536 1 := cmpf .olt main_v0 main_v1
  let main_v3 : FVec F S256x128 .f32 := Host.absf main_arg1
  let main_cst_0 : FVec F S_ .f32 := constant S_ .f32 0x7F800000#32
  let main_v4 : FVec F S256x128 .f32 := broadcastInDim S256x128 ![] bcast_S_S256x128 main_cst_0
  let main_v5 : IVec S256x128 1 := cmpf .olt main_v3 main_v4
  (main_v2, main_v5)
-- ==== Pre_finite_modulation.lean ====
abbrev S1x1024 : Shape := ⟨2, ![1, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩

class Facts : Prop where
  bcast_S_S1x1024 : S_.BroadcastsInDim S1x1024 (![] : Fin 0 → Fin S1x1024.rank)
  bcast_S_S1024 : S_.BroadcastsInDim S1024 (![] : Fin 0 → Fin S1024.rank)
  bcast_S_S4x1024x6144 : S_.BroadcastsInDim S4x1024x6144 (![] : Fin 0 → Fin S4x1024x6144.rank)

variable [Facts]

def fn {F : FTy → Type} [FloatOps F] (main_arg0 : FVec F S1x1024 .f32) (main_arg1 : FVec F S1024 .f32) (main_arg2 : FVec F S4x1024x6144 .f32) (main_arg3 : FVec F S4x6144 .f32) : IVec S1x1024 1 × IVec S1024 1 × IVec S4x1024x6144 1 :=
  let main_v0 : FVec F S1x1024 .f32 := Host.absf main_arg0
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x1024x6144 .f32 := Host.absf main_arg2
  let main_cst_1 : FVec F S_ .f32 := constant S_ .f32 0x7F800000#32
  let main_v7 : FVec F S4x1024x6144 .f32 := broadcastInDim S4x1024x6144 ![] bcast_S_S4x1024x6144 main_cst_1
  let main_v8 : IVec S4x1024x6144 1 := cmpf .olt main_v6 main_v7
  (main_v2, main_v5, main_v8)
-- ==== Pre_finite_scan.lean ====
abbrev S16640x384 : Shape := ⟨2, ![16640, 384]⟩
abbrev S2x16640x384 : Shape := ⟨3, ![2, 16640, 384]⟩
abbrev S16384x768 : Shape := ⟨2, ![16384, 768]⟩
abbrev S16384x256 : Shape := ⟨2, ![16384, 256]⟩
abbrev S16384x3072 : Shape := ⟨2, ![16384, 3072]⟩
abbrev S16384x1024 : Shape := ⟨2, ![16384, 1024]⟩
abbrev S1x1024 : Shape := ⟨2, ![1, 1024]⟩
abbrev S384 : Shape := ⟨1, ![384]⟩
abbrev S384x1024 : Shape := ⟨2, ![384, 1024]⟩
abbrev S256x1024 : Shape := ⟨2, ![256, 1024]⟩
abbrev S1024x1024 : Shape := ⟨2, ![1024, 1024]⟩
abbrev S16384x384 : Shape := ⟨2, ![16384, 384]⟩
abbrev S_ : Shape := ⟨0, ![]⟩

class Facts : Prop where
  slices_S16640x384_S16384x384_0_0 : S16640x384.Slices ![0, 0] S16384x384
  bcast_S_S16384x384 : S_.BroadcastsInDim S16384x384 (![] : Fin 0 → Fin S16384x384.rank)

variable [Facts]

def fn {F : FTy → Type} [FloatOps F] (main_arg0 : FVec F S16640x384 .bf16) (main_arg1 : FVec F S16640x384 .bf16) (main_arg2 : FVec F S2x16640x384 .bf16) (main_arg3 : FVec F S16384x768 .bf16) (main_arg4 : FVec F S16384x256 .f32) (main_arg5 : FVec F S16384x3072 .bf16) (main_arg6 : FVec F S16384x1024 .f32) (main_arg7 : FVec F S1x1024 .f32) (main_arg8 : FVec F S384 .f32) (main_arg9 : FVec F S384 .f32) (main_arg10 : FVec F S384x1024 .f32) (main_arg11 : FVec F S384x1024 .f32) (main_arg12 : FVec F S256x1024 .f32) (main_arg13 : FVec F S1024x1024 .f32) : IVec S16384x384 1 × IVec S16384x384 1 :=
  let main_v0 : FVec F S16384x384 .bf16 := (extractStridedSlice S16384x384 ![0, 0] · slices_S16640x384_S16384x384_0_0) main_arg0
  let main_v1 : FVec F S16384x384 .bf16 := Host.absf main_v0
  let main_cst : FVec F S_ .bf16 := constant S_ .bf16 0x7F80#16
  let main_v2 : FVec F S16384x384 .bf16 := broadcastInDim S16384x384 ![] bcast_S_S16384x384 main_cst
  let main_v3 : IVec S16384x384 1 := cmpf .olt main_v1 main_v2
  let main_v4 : FVec F S16384x384 .bf16 := (extractStridedSlice S16384x384 ![0, 0] · slices_S16640x384_S16384x384_0_0) main_arg1
  let main_v5 : FVec F S16384x384 .bf16 := Host.absf main_v4
  let main_cst_0 : FVec F S_ .bf16 := constant S_ .bf16 0x7F80#16
  let main_v6 : FVec F S16384x384 .bf16 := broadcastInDim S16384x384 ![] bcast_S_S16384x384 main_cst_0
  let main_v7 : IVec S16384x384 1 := cmpf .olt main_v5 main_v6
  (main_v3, main_v7)
-- ==== Pre_finite_scores_unit_row.lean ====
abbrev S6x16640x128 : Shape := ⟨3, ![6, 16640, 128]⟩
abbrev S6x80x16640 : Shape := ⟨3, ![6, 80, 16640]⟩
abbrev S6x16384x128 : Shape := ⟨3, ![6, 16384, 128]⟩
abbrev S_ : Shape := ⟨0, ![]⟩
abbrev S6x1x16640 : Shape := ⟨3, ![6, 1, 16640]⟩
abbrev S6x16640 : Shape := ⟨2, ![6, 16640]⟩

class Facts : Prop where
  slices_S6x16640x128_S6x16384x128_0_0_0 : S6x16640x128.Slices ![0, 0, 0] S6x16384x128
  bcast_S_S6x16384x128 : S_.BroadcastsInDim S6x16384x128 (![] : Fin 0 → Fin S6x16384x128.rank)
  bcast_S_S6x16640x128 : S_.BroadcastsInDim S6x16640x128 (![] : Fin 0 → Fin S6x16640x128.rank)
  slices_S6x80x16640_S6x1x16640_0_64_0 : S6x80x16640.Slices ![0, 64, 0] S6x1x16640
  shapeCasts_S6x1x16640_S6x16640 : S6x1x16640.ShapeCasts S6x16640
  bcast_S_S6x16640 : S_.BroadcastsInDim S6x16640 (![] : Fin 0 → Fin S6x16640.rank)

variable [Facts]

def fn {F : FTy → Type} [FloatOps F] (main_arg0 : FVec F S6x16640x128 .bf16) (main_arg1 : FVec F S6x16640x128 .bf16) (main_arg2 : FVec F S6x80x16640 .bf16) : IVec S6x16384x128 1 × IVec S6x16640x128 1 × IVec S6x16640 1 :=
  let main_v0 : FVec F S6x16384x128 .bf16 := (extractStridedSlice S6x16384x128 ![0, 0, 0] · slices_S6x16640x128_S6x16384x128_0_0_0) main_arg0
  let main_v1 : FVec F S6x16384x128 .bf16 := Host.absf main_v0
  let main_cst : FVec F S_ .bf16 := constant S_ .bf16 0x7F80#16
  let main_v2 : FVec F S6x16384x128 .bf16 := broadcastInDim S6x16384x128 ![] bcast_S_S6x16384x128 main_cst
  let main_v3 : IVec S6x16384x128 1 := cmpf .olt main_v1 main_v2
  let main_v4 : FVec F S6x16640x128 .bf16 := Host.absf main_arg1
  let main_cst_0 : FVec F S_ .bf16 := constant S_ .bf16 0x7F80#16
  let main_v5 : FVec F S6x16640x128 .bf16 := broadcastInDim S6x16640x128 ![] bcast_S_S6x16640x128 main_cst_0
  let main_v6 : IVec S6x16640x128 1 := cmpf .olt main_v4 main_v5
  let main_v7 : FVec F S6x1x16640 .bf16 := (extractStridedSlice S6x1x16640 ![0, 64, 0] · slices_S6x80x16640_S6x1x16640_0_64_0) main_arg2
  let main_v8 : FVec F S6x16640 .bf16 := shapeCast S6x16640 main_v7 shapeCasts_S6x1x16640_S6x16640
  let main_cst_1 : FVec F S_ .bf16 := constant S_ .bf16 0x3F80#16
  let main_v9 : FVec F S6x16640 .bf16 := broadcastInDim S6x16640 ![] bcast_S_S6x16640 main_cst_1
  let main_v10 : IVec S6x16640 1 := cmpf .oeq main_v8 main_v9
  (main_v3, main_v6, main_v10)
-- ==== Pre_finite_second_stage.lean ====
abbrev S128x128x512 : Shape := ⟨3, ![128, 128, 512]⟩
abbrev S2x128x128 : Shape := ⟨3, ![2, 128, 128]⟩
abbrev S_ : Shape := ⟨0, ![]⟩

class Facts : Prop where
  bcast_S_S128x128x512 : S_.BroadcastsInDim S128x128x512 (![] : Fin 0 → Fin S128x128x512.rank)
  bcast_S_S2x128x128 : S_.BroadcastsInDim S2x128x128 (![] : Fin 0 → Fin S2x128x128.rank)

variable [Facts]

def fn {F : FTy → Type} [FloatOps F] (main_arg0 : FVec F S128x128x512 .f32) (main_arg1 : FVec F S2x128x128 .f32) : IVec S128x128x512 1 × IVec S2x128x128 1 :=
  let main_v0 : FVec F S128x128x512 .f32 := Host.absf main_arg0
  let main_cst : FVec F S_ .f32 := constant S_ .f32 0x7F800000#32
  let main_v1 : FVec F S128x128x512 .f32 := broadcastInDim S128x128x512 ![] bcast_S_S128x128x512 main_cst
  let main_v2 : IVec S128x128x512 1 := cmpf .olt main_v0 main_v1
  let main_v3 : FVec F S2x128x128 .f32 := Host.absf main_arg1
  let main_cst_0 : FVec F S_ .f32 := constant S_ .f32 0x7F800000#32
  let main_v4 : FVec F S2x128x128 .f32 := broadcastInDim S2x128x128 ![] bcast_S_S2x128x128 main_cst_0
  let main_v5 : IVec S2x128x128 1 := cmpf .olt main_v3 main_v4
  (main_v2, main_v5)
-- ==== Kernel.lean ====
abbrev S6x16640x128 : Shape := ⟨3, ![6, 16640, 128]⟩
abbrev S6x80x16640 : Shape := ⟨3, ![6, 80, 16640]⟩
abbrev S16384x768 : Shape := ⟨2, ![16384, 768]⟩
abbrev S1x4096x128 : Shape := ⟨3, ![1, 4096, 128]⟩
abbrev S1x3328x128 : Shape := ⟨3, ![1, 3328, 128]⟩
abbrev S1x80x3328 : Shape := ⟨3, ![1, 80, 3328]⟩
abbrev S4096x128 : Shape := ⟨2, ![4096, 128]⟩
abbrev S128x4096 : Shape := ⟨2, ![128, 4096]⟩
abbrev S3328x128 : Shape := ⟨2, ![3328, 128]⟩
abbrev S80x3328 : Shape := ⟨2, ![80, 3328]⟩
abbrev S1x256x128 : Shape := ⟨3, ![1, 256, 128]⟩
abbrev S256x128 : Shape := ⟨2, ![256, 128]⟩
abbrev S3328x256 : Shape := ⟨2, ![3328, 256]⟩
abbrev S80x256 : Shape := ⟨2, ![80, 256]⟩
abbrev S1x4096 : Shape := ⟨2, ![1, 4096]⟩

abbrev nBuf : Space → Nat
  | .hbm => 4
  | .vmem => 9
  | .smem => 0
  | _ => 0

abbrev bufTy : (tb : Table) → Fin (tcTables nBuf tb) → BufTy
  | .hbm, ⟨0, _⟩ => ⟨S6x16640x128, .bf16⟩
  | .hbm, ⟨1, _⟩ => ⟨S6x16640x128, .bf16⟩
  | .hbm, ⟨2, _⟩ => ⟨S6x80x16640, .bf16⟩
  | .hbm, ⟨3, _⟩ => ⟨S16384x768, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x3328x128, .bf16⟩
  | .local _ .vmem, ⟨3, _⟩ => ⟨S1x3328x128, .bf16⟩
  | .local _ .vmem, ⟨4, _⟩ => ⟨S1x80x3328, .bf16⟩
  | .local _ .vmem, ⟨5, _⟩ => ⟨S1x80x3328, .bf16⟩
  | .local _ .vmem, ⟨6, _⟩ => ⟨S4096x128, .bf16⟩
  | .local _ .vmem, ⟨7, _⟩ => ⟨S4096x128, .bf16⟩
  | .local _ .vmem, ⟨8, _⟩ => ⟨S128x4096, .f32⟩
  | _, _ => ⟨S6x16640x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 5], ![false, false, false]⟩

def k0_cond2 (i : grid0.Coords) : BitVec 1 :=
  let arg2 : BitVec 32 := BitVec.ofNat 32 (i 2).val
  let c4_i32 : BitVec 32 := 4#32
  let v183 : BitVec 1 := Scalar.cmpi .eq arg2 c4_i32
  let v184 : BitVec 32 := Scalar.extui v183
  let c0_i32_134 : BitVec 32 := 0#32
  let v185 : BitVec 1 := Scalar.cmpi .ne v184 c0_i32_134
  v185

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg0.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3328x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x80x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S6x16640x128 : Shape := ⟨3, ![6, 16640, 128]⟩
abbrev S6x80x16640 : Shape := ⟨3, ![6, 80, 16640]⟩
abbrev S6x16384x128 : Shape := ⟨3, ![6, 16384, 128]⟩
abbrev S6x16384x16640 : Shape := ⟨3, ![6, 16384, 16640]⟩
abbrev S_ : Shape := ⟨0, ![]⟩
abbrev S6x16384 : Shape := ⟨2, ![6, 16384]⟩
abbrev S6x16384x1 : Shape := ⟨3, ![6, 16384, 1]⟩
abbrev S6x16384x80 : Shape := ⟨3, ![6, 16384, 80]⟩
abbrev S16384x6x128 : Shape := ⟨3, ![16384, 6, 128]⟩
abbrev S16384x768 : Shape := ⟨2, ![16384, 768]⟩

abbrev nBuf : Space → Nat
  | .hbm => 33
  | .vmem => 0
  | .smem => 0
  | _ => 0

abbrev bufTy : (tb : Table) → Fin (tcTables nBuf tb) → BufTy
  | .hbm, ⟨0, _⟩ => ⟨S6x16640x128, .bf16⟩
  | .hbm, ⟨1, _⟩ => ⟨S6x16640x128, .bf16⟩
  | .hbm, ⟨2, _⟩ => ⟨S6x80x16640, .bf16⟩
  | .hbm, ⟨3, _⟩ => ⟨S6x16384x128, .bf16⟩
  | .hbm, ⟨4, _⟩ => ⟨S6x16384x128, .f32⟩
  | .hbm, ⟨5, _⟩ => ⟨S6x16640x128, .f32⟩
  | .hbm, ⟨6, _⟩ => ⟨S6x16384x16640, .f32⟩
  | .hbm, ⟨7, _⟩ => ⟨S_, .f32⟩
  | .hbm, ⟨8, _⟩ => ⟨S_, .f32⟩
  | .hbm, ⟨9, _⟩ => ⟨S6x16384x16640, .f32⟩
  | .hbm, ⟨10, _⟩ => ⟨S6x16384x16640, .f32⟩
  | .hbm, ⟨11, _⟩ => ⟨S_, .f32⟩
  | .hbm, ⟨12, _⟩ => ⟨S6x16384, .f32⟩
  | .hbm, ⟨13, _⟩ => ⟨S_, .f32⟩
  | .hbm, ⟨14, _⟩ => ⟨S6x16384, .f32⟩
  | .hbm, ⟨15, _⟩ => ⟨S6x16384, .f32⟩
  | .hbm, ⟨16, _⟩ => ⟨S6x16384x1, .f32⟩
  | .hbm, ⟨17, _⟩ => ⟨S6x16384x16640, .f32⟩
  | .hbm, ⟨18, _⟩ => ⟨S6x16384x16640, .f32⟩
  | .hbm, ⟨19, _⟩ => ⟨S6x16384x16640, .f32⟩
  | .hbm, ⟨20, _⟩ => ⟨S_, .f32⟩
  | .hbm, ⟨21, _⟩ => ⟨S6x16384, .f32⟩
  | .hbm, ⟨22, _⟩ => ⟨S6x16384x1, .f32⟩
  | .hbm, ⟨23, _⟩ => ⟨S6x16384x16640, .f32⟩
  | .hbm, ⟨24, _⟩ => ⟨S6x16384x16640, .f32⟩
  | .hbm, ⟨25, _⟩ => ⟨S6x80x16640, .f32⟩
  | .hbm, ⟨26, _⟩ => ⟨S6x16384x80, .f32⟩
  | .hbm, ⟨27, _⟩ => ⟨S_, .i32⟩
  | .hbm, ⟨28, _⟩ => ⟨S_, .f32⟩
  | .hbm, ⟨29, _⟩ => ⟨S6x16384x128, .f32⟩
  | .hbm, ⟨30, _⟩ => ⟨S16384x6x128, .f32⟩
  | .hbm, ⟨31, _⟩ => ⟨S16384x768, .f32⟩
  | .hbm, ⟨32, _⟩ => ⟨S16384x768, .bf16⟩
  | _, _ => ⟨S6x16640x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S1024x1024 : Shape := ⟨2, ![1024, 1024]⟩
abbrev S16x1024 : Shape := ⟨2, ![16, 1024]⟩
abbrev S1056x1024 : Shape := ⟨2, ![1056, 1024]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S1024x256 : Shape := ⟨2, ![1024, 256]⟩
abbrev S1056x256 : Shape := ⟨2, ![1056, 256]⟩
abbrev S3x256 : Shape := ⟨2, ![3, 256]⟩
abbrev S1x256 : Shape := ⟨2, ![1, 256]⟩
abbrev S256x1024 : Shape := ⟨2, ![256, 1024]⟩

abbrev nBuf : Space → Nat
  | .hbm => 15
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S3x5632, .f32⟩
  | .hbm, ⟨7, _⟩ => ⟨S2816x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S2816x1024, .bf16⟩
  | .local _ .vmem, ⟨12, _⟩ => ⟨S1024x1024, .f32⟩
  | .local _ .vmem, ⟨13, _⟩ => ⟨S1024x1024, .f32⟩
  | .local _ .vmem, ⟨14, _⟩ => ⟨S1056x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16386x5632 : Shape := ⟨2, ![16386, 5632]⟩
abbrev S1x5632 : Shape := ⟨2, ![1, 5632]⟩
abbrev S5632 : Shape := ⟨1, ![5632]⟩
abbrev S16384x2816 : Shape := ⟨2, ![16384, 2816]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S3x5632, .f32⟩
  | .hbm, ⟨7, _⟩ => ⟨S2816x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x5632, .f32⟩
  | .hbm, ⟨31, _⟩ => ⟨S_, .i32⟩
  | .hbm, ⟨32, _⟩ => ⟨S_, .f32⟩
  | .hbm, ⟨33, _⟩ => ⟨S16386x5632, .f32⟩
  | .hbm, ⟨34, _⟩ => ⟨S1x5632, .f32⟩
  | .hbm, ⟨35, _⟩ => ⟨S5632, .f32⟩
  | .hbm, ⟨36, _⟩ => ⟨S16384x5632, .f32⟩
  | .hbm, ⟨37, _⟩ => ⟨S1x5632, .f32⟩
  | .hbm, ⟨38, _⟩ => ⟨S16384x5632, .f32⟩
  | .hbm, ⟨39, _⟩ => ⟨S16384x5632, .f32⟩
  | .hbm, ⟨40, _⟩ => ⟨S1x5632, .f32⟩
  | .hbm, ⟨41, _⟩ => ⟨S5632, .f32⟩
  | .hbm, ⟨42, _⟩ => ⟨S16384x5632, .f32⟩
  | .hbm, ⟨43, _⟩ => ⟨S1x5632, .f32⟩
  | .hbm, ⟨44, _⟩ => ⟨S16384x5632, .f32⟩
  | .hbm, ⟨45, _⟩ => ⟨S16384x5632, .f32⟩
  | .hbm, ⟨46, _⟩ => ⟨S16384x5632, .f32⟩
  | .hbm, ⟨47, _⟩ => ⟨S1x5632, .f32⟩
  | .hbm, ⟨48, _⟩ => ⟨S5632, .f32⟩
  | .hbm, ⟨49, _⟩ => ⟨S16384x5632, .f32⟩
  | .hbm, ⟨50, _⟩ => ⟨S1x5632, .f32⟩
  | .hbm, ⟨51, _⟩ => ⟨S16384x5632, .f32⟩
  | .hbm, ⟨52, _⟩ => ⟨S16384x5632, .f32⟩
  | .hbm, ⟨53, _⟩ => ⟨S16384x5632, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x5536 : Shape := ⟨2, ![1024, 5536]⟩
abbrev S3x1536 : Shape := ⟨2, ![3, 1536]⟩
abbrev S1024x3072 : Shape := ⟨2, ![1024, 3072]⟩
abbrev S1024x1536 : Shape := ⟨2, ![1024, 1536]⟩
abbrev S1024x672 : Shape := ⟨2, ![1024, 672]⟩
abbrev S_ : Shape := ⟨0, ![]⟩
abbrev S1024x96 : Shape := ⟨2, ![1024, 96]⟩
abbrev S1024x256 : Shape := ⟨2, ![1024, 256]⟩
abbrev S1024x5632 : Shape := ⟨2, ![1024, 5632]⟩
abbrev S16384x3072 : Shape := ⟨2, ![16384, 3072]⟩
abbrev S16384x2560 : Shape := ⟨2, ![16384, 2560]⟩
abbrev S512x1024 : Shape := ⟨2, ![512, 1024]⟩
abbrev S16x1024 : Shape := ⟨2, ![16, 1024]⟩
abbrev S512x3072 : Shape := ⟨2, ![512, 3072]⟩
abbrev S512x2560 : Shape := ⟨2, ![512, 2560]⟩
abbrev S544x1024 : Shape := ⟨2, ![544, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S1024x512 : Shape := ⟨2, ![1024, 512]⟩
abbrev S512x512 : Shape := ⟨2, ![512, 512]⟩
abbrev S544x512 : Shape := ⟨2, ![544, 512]⟩
abbrev S3x512 : Shape := ⟨2, ![3, 512]⟩
abbrev S1x512 : Shape := ⟨2, ![1, 512]⟩

abbrev nBuf : Space → Nat
  | .hbm => 20
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5536, .f32⟩
  | .hbm, ⟨5, _⟩ => ⟨S3x1536, .f32⟩
  | .hbm, ⟨6, _⟩ => ⟨S1024x3072, .f32⟩
  | .hbm, ⟨7, _⟩ => ⟨S1024x1536, .f32⟩
  | .hbm, ⟨8, _⟩ => ⟨S1024x672, .f32⟩
  | .hbm, ⟨9, _⟩ => ⟨S_, .f32⟩
  | .hbm, ⟨10, _⟩ => ⟨S1024x96, .f32⟩
  | .hbm, ⟨11, _⟩ => ⟨S1024x256, .f32⟩
  | .hbm, ⟨12, _⟩ => ⟨S1024x5632, .f32⟩
  | .hbm, ⟨13, _⟩ => ⟨S1024x5632, .bf16⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S16384x3072, .bf16⟩
  | .hbm, ⟨19, _⟩ => ⟨S16384x2560, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1x1024, .f32⟩
  | .local _ .vmem, ⟨8, _⟩ => ⟨S1024x5632, .bf16⟩
  | .local _ .vmem, ⟨9, _⟩ => ⟨S3x1536, .f32⟩
  | .local _ .vmem, ⟨10, _⟩ => ⟨S512x3072, .bf16⟩
  | .local _ .vmem, ⟨11, _⟩ => ⟨S512x3072, .bf16⟩
  | .local _ .vmem, ⟨12, _⟩ => ⟨S512x2560, .f32⟩
  | .local _ .vmem, ⟨13, _⟩ => ⟨S512x2560, .f32⟩
  | .local _ .vmem, ⟨14, _⟩ => ⟨S544x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x1024 : Shape := ⟨2, ![16384, 1024]⟩
abbrev S1x1024 : Shape := ⟨2, ![1, 1024]⟩
abbrev S1024x5536 : Shape := ⟨2, ![1024, 5536]⟩
abbrev S3x1536 : Shape := ⟨2, ![3, 1536]⟩
abbrev S_ : Shape := ⟨0, ![]⟩
abbrev S16384 : Shape := ⟨1, ![16384]⟩
abbrev S16384x1 : Shape := ⟨2, ![16384, 1]⟩
abbrev S16384x5536 : Shape := ⟨2, ![16384, 5536]⟩
abbrev S16384x1536 : Shape := ⟨2, ![16384, 1536]⟩
abbrev S16384x672 : Shape := ⟨2, ![16384, 672]⟩
abbrev S16384x256 : Shape := ⟨2, ![16384, 256]⟩
abbrev S16384x3072 : Shape := ⟨2, ![16384, 3072]⟩
abbrev S16386x1536 : Shape := ⟨2, ![16386, 1536]⟩
abbrev S1x1536 : Shape := ⟨2, ![1, 1536]⟩
abbrev S1536 : Shape := ⟨1, ![1536]⟩
abbrev S16384x96 : Shape := ⟨2, ![16384, 96]⟩
abbrev S16384x2560 : Shape := ⟨2, ![16384, 2560]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5536, .f32⟩
  | .hbm, ⟨5, _⟩ => ⟨S3x1536, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x5536, .f32⟩
  | .hbm, ⟨29, _⟩ => ⟨S16384x1536, .f32⟩
  | .hbm, ⟨30, _⟩ => ⟨S16384x672, .f32⟩
  | .hbm, ⟨31, _⟩ => ⟨S16384x256, .f32⟩
  | .hbm, ⟨32, _⟩ => ⟨S16384x3072, .f32⟩
  | .hbm, ⟨33, _⟩ => ⟨S_, .i32⟩
  | .hbm, ⟨34, _⟩ => ⟨S_, .f32⟩
  | .hbm, ⟨35, _⟩ => ⟨S16386x1536, .f32⟩
  | .hbm, ⟨36, _⟩ => ⟨S1x1536, .f32⟩
  | .hbm, ⟨37, _⟩ => ⟨S1536, .f32⟩
  | .hbm, ⟨38, _⟩ => ⟨S16384x1536, .f32⟩
  | .hbm, ⟨39, _⟩ => ⟨S1x1536, .f32⟩
  | .hbm, ⟨40, _⟩ => ⟨S16384x1536, .f32⟩
  | .hbm, ⟨41, _⟩ => ⟨S16384x1536, .f32⟩
  | .hbm, ⟨42, _⟩ => ⟨S1x1536, .f32⟩
  | .hbm, ⟨43, _⟩ => ⟨S1536, .f32⟩
  | .hbm, ⟨44, _⟩ => ⟨S16384x1536, .f32⟩
  | .hbm, ⟨45, _⟩ => ⟨S1x1536, .f32⟩
  | .hbm, ⟨46, _⟩ => ⟨S16384x1536, .f32⟩
  | .hbm, ⟨47, _⟩ => ⟨S16384x1536, .f32⟩
  | .hbm, ⟨48, _⟩ => ⟨S16384x1536, .f32⟩
  | .hbm, ⟨49, _⟩ => ⟨S1x1536, .f32⟩
  | .hbm, ⟨50, _⟩ => ⟨S1536, .f32⟩
  | .hbm, ⟨51, _⟩ => ⟨S16384x1536, .f32⟩
  | .hbm, ⟨52, _⟩ => ⟨S1x1536, .f32⟩
  | .hbm, ⟨53, _⟩ => ⟨S16384x1536, .f32⟩
  | .hbm, ⟨54, _⟩ => ⟨S16384x1536, .f32⟩
  | .hbm, ⟨55, _⟩ => ⟨S16384x1536, .f32⟩
  | .hbm, ⟨56, _⟩ => ⟨S_, .f32⟩
  | .hbm, ⟨57, _⟩ => ⟨S16384x96, .f32⟩
  | .hbm, ⟨58, _⟩ => ⟨S16384x2560, .f32⟩
  | .hbm, ⟨59, _⟩ => ⟨S16384x3072, .f32⟩
  | .hbm, ⟨60, _⟩ => ⟨S16384x3072, .f32⟩
  | .hbm, ⟨61, _⟩ => ⟨S_, .f32⟩
  | .hbm, ⟨62, _⟩ => ⟨S16384x3072, .f32⟩
  | .hbm, ⟨63, _⟩ => ⟨S16384x3072, .f32⟩
  | .hbm, ⟨64, _⟩ => ⟨S_, .f32⟩
  | .hbm, ⟨65, _⟩ => ⟨S16384x3072, .f32⟩
  | .hbm, ⟨66, _⟩ => ⟨S16384x3072, .f32⟩
  | .hbm, ⟨67, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel4.lean ====
abbrev S16640x384 : Shape := ⟨2, ![16640, 384]⟩
abbrev S2x16640x384 : Shape := ⟨3, ![2, 16640, 384]⟩
abbrev S16384x768 : Shape := ⟨2, ![16384, 768]⟩
abbrev S16384x256 : Shape := ⟨2, ![16384, 256]⟩
abbrev S16384x3072 : Shape := ⟨2, ![16384, 3072]⟩
abbrev S16384x1024 : Shape := ⟨2, ![16384, 1024]⟩
abbrev S1x1024 : Shape := ⟨2, ![1, 1024]⟩
abbrev S384 : Shape := ⟨1, ![384]⟩
abbrev S384x1024 : Shape := ⟨2, ![384, 1024]⟩
abbrev S256x1024 : Shape := ⟨2, ![256, 1024]⟩
abbrev S1024x1024 : Shape := ⟨2, ![1024, 1024]⟩
abbrev S6x64 : Shape := ⟨2, ![6, 64]⟩
abbrev S384x1 : Shape := ⟨2, ![384, 1]⟩
abbrev S1x384 : Shape := ⟨2, ![1, 384]⟩
abbrev S384x384 : Shape := ⟨2, ![384, 384]⟩
abbrev S_ : Shape := ⟨0, ![]⟩
abbrev S6x64x1024 : Shape := ⟨3, ![6, 64, 1024]⟩
abbrev S6x128x1024 : Shape := ⟨3, ![6, 128, 1024]⟩
abbrev S768x1024 : Shape := ⟨2, ![768, 1024]⟩
abbrev S2x384 : Shape := ⟨2, ![2, 384]⟩
abbrev S512x384 : Shape := ⟨2, ![512, 384]⟩
abbrev S2x512x384 : Shape := ⟨3, ![2, 512, 384]⟩
abbrev S512x768 : Shape := ⟨2, ![512, 768]⟩
abbrev S512x256 : Shape := ⟨2, ![512, 256]⟩
abbrev S512x1024 : Shape := ⟨2, ![512, 1024]⟩
abbrev S1x512x384 : Shape := ⟨3, ![1, 512, 384]⟩

abbrev nBuf : Space → Nat
  | .hbm => 39
  | .vmem => 27
  | .smem => 0
  | _ => 0

abbrev bufTy : (tb : Table) → Fin (tcTables nBuf tb) → BufTy
  | .hbm, ⟨0, _⟩ => ⟨S16640x384, .bf16⟩
  | .hbm, ⟨1, _⟩ => ⟨S16640x384, .bf16⟩
  | .hbm, ⟨2, _⟩ => ⟨S2x16640x384, .bf16⟩
  | .hbm, ⟨3, _⟩ => ⟨S16384x768, .bf16⟩
  | .hbm, ⟨4, _⟩ => ⟨S16384x256, .f32⟩
  | .hbm, ⟨5, _⟩ => ⟨S16384x3072, .bf16⟩
  | .hbm, ⟨6, _⟩ => ⟨S16384x1024, .f32⟩
  | .hbm, ⟨7, _⟩ => ⟨S1x1024, .f32⟩
  | .hbm, ⟨8, _⟩ => ⟨S384, .f32⟩
  | .hbm, ⟨9, _⟩ => ⟨S384, .f32⟩
  | .hbm, ⟨10, _⟩ => ⟨S384x1024, .f32⟩
  | .hbm, ⟨11, _⟩ => ⟨S384x1024, .f32⟩
  | .hbm, ⟨12, _⟩ => ⟨S256x1024, .f32⟩
  | .hbm, ⟨13, _⟩ => ⟨S1024x1024, .f32⟩
  | .hbm, ⟨14, _⟩ => ⟨S6x64, .i32⟩
  | .hbm, ⟨15, _⟩ => ⟨S384, .i32⟩
  | .hbm, ⟨16, _⟩ => ⟨S384x1, .i32⟩
  | .hbm, ⟨17, _⟩ => ⟨S1x384, .i32⟩
  | .hbm, ⟨18, _⟩ => ⟨S384x384, .i32⟩
  | .hbm, ⟨19, _⟩ => ⟨S384x384, .i32⟩
  | .hbm, ⟨20, _⟩ => ⟨S384x384, .i1⟩
  | .hbm, ⟨21, _⟩ => ⟨S384x384, .f32⟩
  | .hbm, ⟨22, _⟩ => ⟨S384x384, .bf16⟩
  | .hbm, ⟨23, _⟩ => ⟨S_, .bf16⟩
  | .hbm, ⟨24, _⟩ => ⟨S384x384, .bf16⟩
  | .hbm, ⟨25, _⟩ => ⟨S384x384, .bf16⟩
  | .hbm, ⟨26, _⟩ => ⟨S6x64x1024, .f32⟩
  | .hbm, ⟨27, _⟩ => ⟨S_, .i32⟩
  | .hbm, ⟨28, _⟩ => ⟨S_, .f32⟩
  | .hbm, ⟨29, _⟩ => ⟨S6x128x1024, .f32⟩
  | .hbm, ⟨30, _⟩ => ⟨S768x1024, .f32⟩
  | .hbm, ⟨31, _⟩ => ⟨S1x384, .f32⟩
  | .hbm, ⟨32, _⟩ => ⟨S1x384, .f32⟩
  | .hbm, ⟨33, _⟩ => ⟨S2x384, .f32⟩
  | .hbm, ⟨34, _⟩ => ⟨S384x1024, .bf16⟩
  | .hbm, ⟨35, _⟩ => ⟨S768x1024, .bf16⟩
  | .hbm, ⟨36, _⟩ => ⟨S256x1024, .bf16⟩
  | .hbm, ⟨37, _⟩ => ⟨S1024x1024, .bf16⟩
  | .hbm, ⟨38, _⟩ => ⟨S16384x1024, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S2x512x384, .bf16⟩
  | .local _ .vmem, ⟨5, _⟩ => ⟨S2x512x384, .bf16⟩
  | .local _ .vmem, ⟨6, _⟩ => ⟨S384x384, .bf16⟩
  | .local _ .vmem, ⟨7, _⟩ => ⟨S2x384, .f32⟩
  | .local _ .vmem, ⟨8, _⟩ => ⟨S512x768, .bf16⟩
  | .local _ .vmem, ⟨9, _⟩ => ⟨S512x768, .bf16⟩
  | .local _ .vmem, ⟨10, _⟩ => ⟨S512x256, .f32⟩
  | .local _ .vmem, ⟨11, _⟩ => ⟨S512x256, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S384x1024, .bf16⟩
  | .local _ .vmem, ⟨22, _⟩ => ⟨S768x1024, .bf16⟩
  | .local _ .vmem, ⟨23, _⟩ => ⟨S256x1024, .bf16⟩
  | .local _ .vmem, ⟨24, _⟩ => ⟨S1024x1024, .bf16⟩
  | .local _ .vmem, ⟨25, _⟩ => ⟨S512x1024, .f32⟩
  | .local _ .vmem, ⟨26, _⟩ => ⟨S512x1024, .f32⟩
  | _, _ => ⟨S16640x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_call0_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S16640x384 : Shape := ⟨2, ![16640, 384]⟩
abbrev S2x16640x384 : Shape := ⟨3, ![2, 16640, 384]⟩
abbrev S16384x768 : Shape := ⟨2, ![16384, 768]⟩
abbrev S16384x256 : Shape := ⟨2, ![16384, 256]⟩
abbrev S16384x3072 : Shape := ⟨2, ![16384, 3072]⟩
abbrev S16384x1024 : Shape := ⟨2, ![16384, 1024]⟩
abbrev S1x1024 : Shape := ⟨2, ![1, 1024]⟩
abbrev S384 : Shape := ⟨1, ![384]⟩
abbrev S384x1024 : Shape := ⟨2, ![384, 1024]⟩
abbrev S256x1024 : Shape := ⟨2, ![256, 1024]⟩
abbrev S1024x1024 : Shape := ⟨2, ![1024, 1024]⟩
abbrev S16384x384 : Shape := ⟨2, ![16384, 384]⟩
abbrev S16384x6x64 : Shape := ⟨3, ![16384, 6, 64]⟩
abbrev S1x16384x384 : Shape := ⟨3, ![1, 16384, 384]⟩
abbrev S_ : Shape := ⟨0, ![]⟩
abbrev S16384x6 : Shape := ⟨2, ![16384, 6]⟩
abbrev S16384x6x1 : Shape := ⟨3, ![16384, 6, 1]⟩
abbrev S1x384 : Shape := ⟨2, ![1, 384]⟩
abbrev S16384x6x128 : Shape := ⟨3, ![16384, 6, 128]⟩

abbrev nBuf : Space → Nat
  | .hbm => 78
  | .vmem => 0
  | .smem => 0
  | _ => 0

abbrev bufTy : (tb : Table) → Fin (tcTables nBuf tb) → BufTy
  | .hbm, ⟨0, _⟩ => ⟨S16640x384, .bf16⟩
  | .hbm, ⟨1, _⟩ => ⟨S16640x384, .bf16⟩
  | .hbm, ⟨2, _⟩ => ⟨S2x16640x384, .bf16⟩
  | .hbm, ⟨3, _⟩ => ⟨S16384x768, .bf16⟩
  | .hbm, ⟨4, _⟩ => ⟨S16384x256, .f32⟩
  | .hbm, ⟨5, _⟩ => ⟨S16384x3072, .bf16⟩
  | .hbm, ⟨6, _⟩ => ⟨S16384x1024, .f32⟩
  | .hbm, ⟨7, _⟩ => ⟨S1x1024, .f32⟩
  | .hbm, ⟨8, _⟩ => ⟨S384, .f32⟩
  | .hbm, ⟨9, _⟩ => ⟨S384, .f32⟩
  | .hbm, ⟨10, _⟩ => ⟨S384x1024, .f32⟩
  | .hbm, ⟨11, _⟩ => ⟨S384x1024, .f32⟩
  | .hbm, ⟨12, _⟩ => ⟨S256x1024, .f32⟩
  | .hbm, ⟨13, _⟩ => ⟨S1024x1024, .f32⟩
  | .hbm, ⟨14, _⟩ => ⟨S16384x384, .bf16⟩
  | .hbm, ⟨15, _⟩ => ⟨S16384x384, .f32⟩
  | .hbm, ⟨16, _⟩ => ⟨S16384x384, .bf16⟩
  | .hbm, ⟨17, _⟩ => ⟨S16384x384, .f32⟩
  | .hbm, ⟨18, _⟩ => ⟨S16384x384, .f32⟩
  | .hbm, ⟨19, _⟩ => ⟨S16384x6x64, .f32⟩
  | .hbm, ⟨20, _⟩ => ⟨S1x16384x384, .bf16⟩
  | .hbm, ⟨21, _⟩ => ⟨S16384x384, .bf16⟩
  | .hbm, ⟨22, _⟩ => ⟨S16384x384, .f32⟩
  | .hbm, ⟨23, _⟩ => ⟨S1x16384x384, .bf16⟩
  | .hbm, ⟨24, _⟩ => ⟨S16384x384, .bf16⟩
  | .hbm, ⟨25, _⟩ => ⟨S16384x384, .f32⟩
  | .hbm, ⟨26, _⟩ => ⟨S_, .f32⟩
  | .hbm, ⟨27, _⟩ => ⟨S16384x6, .f32⟩
  | .hbm, ⟨28, _⟩ => ⟨S16384x6x1, .f32⟩
  | .hbm, ⟨29, _⟩ => ⟨S_, .f32⟩
  | .hbm, ⟨30, _⟩ => ⟨S16384x6x1, .f32⟩
  | .hbm, ⟨31, _⟩ => ⟨S16384x6x1, .f32⟩
  | .hbm, ⟨32, _⟩ => ⟨S16384x6x64, .f32⟩
  | .hbm, ⟨33, _⟩ => ⟨S16384x6x64, .f32⟩
  | .hbm, ⟨34, _⟩ => ⟨S16384x6x64, .f32⟩
  | .hbm, ⟨35, _⟩ => ⟨S_, .f32⟩
  | .hbm, ⟨36, _⟩ => ⟨S16384x6, .f32⟩
  | .hbm, ⟨37, _⟩ => ⟨S16384x6x1, .f32⟩
  | .hbm, ⟨38, _⟩ => ⟨S_, .f32⟩
  | .hbm, ⟨39, _⟩ => ⟨S16384x6x1, .f32⟩
  | .hbm, ⟨40, _⟩ => ⟨S16384x6x1, .f32⟩
  | .hbm, ⟨41, _⟩ => ⟨S16384x6x64, .f32⟩
  | .hbm, ⟨42, _⟩ => ⟨S16384x6x64, .f32⟩
  | .hbm, ⟨43, _⟩ => ⟨S_, .f32⟩
  | .hbm, ⟨44, _⟩ => ⟨S16384x6x1, .f32⟩
  | .hbm, ⟨45, _⟩ => ⟨S16384x6x1, .f32⟩
  | .hbm, ⟨46, _⟩ => ⟨S16384x6x1, .f32⟩
  | .hbm, ⟨47, _⟩ => ⟨S16384x6x64, .f32⟩
  | .hbm, ⟨48, _⟩ => ⟨S16384x6x64, .f32⟩
  | .hbm, ⟨49, _⟩ => ⟨S16384x384, .f32⟩
  | .hbm, ⟨50, _⟩ => ⟨S1x384, .f32⟩
  | .hbm, ⟨51, _⟩ => ⟨S16384x384, .f32⟩
  | .hbm, ⟨52, _⟩ => ⟨S16384x384, .f32⟩
  | .hbm, ⟨53, _⟩ => ⟨S1x384, .f32⟩
  | .hbm, ⟨54, _⟩ => ⟨S16384x384, .f32⟩
  | .hbm, ⟨55, _⟩ => ⟨S16384x384, .f32⟩
  | .hbm, ⟨56, _⟩ => ⟨S16384x384, .f32⟩
  | .hbm, ⟨57, _⟩ => ⟨S16384x384, .f32⟩
  | .hbm, ⟨58, _⟩ => ⟨S16384x768, .f32⟩
  | .hbm, ⟨59, _⟩ => ⟨S16384x6x128, .f32⟩
  | .hbm, ⟨60, _⟩ => ⟨S16384x6x64, .f32⟩
  | .hbm, ⟨61, _⟩ => ⟨S16384x384, .f32⟩
  | .hbm, ⟨62, _⟩ => ⟨S16384x3072, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | _, _ => ⟨S16640x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel5.lean ====
abbrev S1x1024 : Shape := ⟨2, ![1, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S8x1024 : Shape := ⟨2, ![8, 1024]⟩
abbrev S1 : Shape := ⟨1, ![1]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 15
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S8x1024, .f32⟩
  | .hbm, ⟨6, _⟩ => ⟨S1024, .f32⟩
  | .hbm, ⟨7, _⟩ => ⟨S_, .i32⟩
  | .hbm, ⟨8, _⟩ => ⟨S1, .i32⟩
  | .hbm, ⟨9, _⟩ => ⟨S8x1024, .f32⟩
  | .hbm, ⟨10, _⟩ => ⟨S_, .i32⟩
  | .hbm, ⟨11, _⟩ => ⟨S1, .i32⟩
  | .hbm, ⟨12, _⟩ => ⟨S8x1024, .f32⟩
  | .hbm, ⟨13, _⟩ => ⟨S4x1x6144, .f32⟩
  | .hbm, ⟨14, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S1x1024 : Shape := ⟨2, ![1, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S6x1024 : Shape := ⟨2, ![6, 1024]⟩
abbrev S8x1024 : Shape := ⟨2, ![8, 1024]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S6x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S4x6144x8, .f32⟩
  | .hbm, ⟨18, _⟩ => ⟨S4x8x6144, .f32⟩
  | .hbm, ⟨19, _⟩ => ⟨S4x1x6144, .f32⟩
  | .hbm, ⟨20, _⟩ => ⟨S4x8x6144, .f32⟩
  | .hbm, ⟨21, _⟩ => ⟨S4x8x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel6.lean ====
abbrev S128x65536 : Shape := ⟨2, ![128, 65536]⟩
abbrev S256x128 : Shape := ⟨2, ![256, 128]⟩
abbrev S2x128x128x128 : Shape := ⟨4, ![2, 128, 128, 128]⟩
abbrev S128x4096 : Shape := ⟨2, ![128, 4096]⟩
abbrev S2x8x128x128 : Shape := ⟨4, ![2, 8, 128, 128]⟩
abbrev S256x4096 : Shape := ⟨2, ![256, 4096]⟩
abbrev S256x256 : Shape := ⟨2, ![256, 256]⟩
abbrev S128x256 : Shape := ⟨2, ![128, 256]⟩
abbrev S1x1x128x128 : Shape := ⟨4, ![1, 1, 128, 128]⟩
abbrev S128x128 : Shape := ⟨2, ![128, 128]⟩

abbrev nBuf : Space → Nat
  | .hbm => 4
  | .vmem => 7
  | .smem => 0
  | _ => 0

abbrev bufTy : (tb : Table) → Fin (tcTables nBuf tb) → BufTy
  | .hbm, ⟨0, _⟩ => ⟨S128x65536, .f32⟩
  | .hbm, ⟨1, _⟩ => ⟨S256x128, .f32⟩
  | .hbm, ⟨2, _⟩ => ⟨S2x128x128x128, .f32⟩
  | .hbm, ⟨3, _⟩ => ⟨S128x65536, .f32⟩
  | .local _ .vmem, ⟨0, _⟩ => ⟨S128x4096, .f32⟩
  | .local _ .vmem, ⟨1, _⟩ => ⟨S128x4096, .f32⟩
  | .local _ .vmem, ⟨2, _⟩ => ⟨S256x128, .f32⟩
  | .local _ .vmem, ⟨3, _⟩ => ⟨S2x8x128x128, .f32⟩
  | .local _ .vmem, ⟨4, _⟩ => ⟨S2x8x128x128, .f32⟩
  | .local _ .vmem, ⟨5, _⟩ => ⟨S128x4096, .f32⟩
  | .local _ .vmem, ⟨6, _⟩ => ⟨S128x4096, .f32⟩
  | _, _ => ⟨S128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S128x65536 : Shape := ⟨2, ![128, 65536]⟩
abbrev S256x128 : Shape := ⟨2, ![256, 128]⟩
abbrev S2x128x128x128 : Shape := ⟨4, ![2, 128, 128, 128]⟩
abbrev S128x128x2x256 : Shape := ⟨4, ![128, 128, 2, 256]⟩
abbrev S128x128x1x256 : Shape := ⟨4, ![128, 128, 1, 256]⟩
abbrev S128x128x256 : Shape := ⟨3, ![128, 128, 256]⟩
abbrev S128x128 : Shape := ⟨2, ![128, 128]⟩
abbrev S1x128x128x128 : Shape := ⟨4, ![1, 128, 128, 128]⟩
abbrev S128x128x128 : Shape := ⟨3, ![128, 128, 128]⟩

abbrev nBuf : Space → Nat
  | .hbm => 34
  | .vmem => 0
  | .smem => 0
  | _ => 0

abbrev bufTy : (tb : Table) → Fin (tcTables nBuf tb) → BufTy
  | .hbm, ⟨0, _⟩ => ⟨S128x65536, .f32⟩
  | .hbm, ⟨1, _⟩ => ⟨S256x128, .f32⟩
  | .hbm, ⟨2, _⟩ => ⟨S2x128x128x128, .f32⟩
  | .hbm, ⟨3, _⟩ => ⟨S128x128x2x256, .f32⟩
  | .hbm, ⟨4, _⟩ => ⟨S128x128x1x256, .f32⟩
  | .hbm, ⟨5, _⟩ => ⟨S128x128x256, .f32⟩
  | .hbm, ⟨6, _⟩ => ⟨S128x128x1x256, .f32⟩
  | .hbm, ⟨7, _⟩ => ⟨S128x128x256, .f32⟩
  | .hbm, ⟨8, _⟩ => ⟨S128x128, .f32⟩
  | .hbm, ⟨9, _⟩ => ⟨S128x128, .f32⟩
  | .hbm, ⟨10, _⟩ => ⟨S128x128x256, .f32⟩
  | .hbm, ⟨11, _⟩ => ⟨S128x128x256, .f32⟩
  | .hbm, ⟨12, _⟩ => ⟨S128x128x256, .f32⟩
  | .hbm, ⟨13, _⟩ => ⟨S128x128x256, .f32⟩
  | .hbm, ⟨14, _⟩ => ⟨S128x128x256, .f32⟩
  | .hbm, ⟨15, _⟩ => ⟨S128x128x256, .f32⟩
  | .hbm, ⟨16, _⟩ => ⟨S1x128x128x128, .f32⟩
  | .hbm, ⟨17, _⟩ => ⟨S128x128x128, .f32⟩
  | .hbm, ⟨18, _⟩ => ⟨S128x128x128, .f32⟩
  | .hbm, ⟨19, _⟩ => ⟨S128x128x256, .f32⟩
  | .hbm, ⟨20, _⟩ => ⟨S1x128x128x128, .f32⟩
  | .hbm, ⟨21, _⟩ => ⟨S128x128x128, .f32⟩
  | .hbm, ⟨22, _⟩ => ⟨S128x128x128, .f32⟩
  | .hbm, ⟨23, _⟩ => ⟨S128x128x256, .f32⟩
  | .hbm, ⟨24, _⟩ => ⟨S128x128x256, .f32⟩
  | .hbm, ⟨25, _⟩ => ⟨S128x128x256, .f32⟩
  | .hbm, ⟨26, _⟩ => ⟨S128x128x256, .f32⟩
  | .hbm, ⟨27, _⟩ => ⟨S128x128x256, .f32⟩
  | .hbm, ⟨28, _⟩ => ⟨S128x128x256, .f32⟩
  | .hbm, ⟨29, _⟩ => ⟨S128x128x256, .f32⟩
  | .hbm, ⟨30, _⟩ => ⟨S128x128x1x256, .f32⟩
  | .hbm, ⟨31, _⟩ => ⟨S128x128x1x256, .f32⟩
  | .hbm, ⟨32, _⟩ => ⟨S128x128x2x256, .f32⟩
  | .hbm, ⟨33, _⟩ => ⟨S128x65536, .f32⟩
  | _, _ => ⟨S128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== Kernel7.lean ====
abbrev S128x128x512 : Shape := ⟨3, ![128, 128, 512]⟩
abbrev S2x128x128 : Shape := ⟨3, ![2, 128, 128]⟩
abbrev S128x32768 : Shape := ⟨2, ![128, 32768]⟩
abbrev S8x128x512 : Shape := ⟨3, ![8, 128, 512]⟩
abbrev S128x2048 : Shape := ⟨2, ![128, 2048]⟩
abbrev S1x128x128 : Shape := ⟨3, ![1, 128, 128]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩

abbrev nBuf : Space → Nat
  | .hbm => 3
  | .vmem => 5
  | .smem => 0
  | _ => 0

abbrev bufTy : (tb : Table) → Fin (tcTables nBuf tb) → BufTy
  | .hbm, ⟨0, _⟩ => ⟨S128x128x512, .f32⟩
  | .hbm, ⟨1, _⟩ => ⟨S2x128x128, .f32⟩
  | .hbm, ⟨2, _⟩ => ⟨S128x32768, .f32⟩
  | .local _ .vmem, ⟨0, _⟩ => ⟨S8x128x512, .f32⟩
  | .local _ .vmem, ⟨1, _⟩ => ⟨S8x128x512, .f32⟩
  | .local _ .vmem, ⟨2, _⟩ => ⟨S2x128x128, .f32⟩
  | .local _ .vmem, ⟨3, _⟩ => ⟨S128x2048, .f32⟩
  | .local _ .vmem, ⟨4, _⟩ => ⟨S128x2048, .f32⟩
  | _, _ => ⟨S128x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S128x128x512 : Shape := ⟨3, ![128, 128, 512]⟩
abbrev S2x128x128 : Shape := ⟨3, ![2, 128, 128]⟩
abbrev S1x128x128 : Shape := ⟨3, ![1, 128, 128]⟩
abbrev S128x128 : Shape := ⟨2, ![128, 128]⟩
abbrev S128x128x256 : Shape := ⟨3, ![128, 128, 256]⟩
abbrev S_ : Shape := ⟨0, ![]⟩
abbrev S128x32768 : Shape := ⟨2, ![128, 32768]⟩

abbrev nBuf : Space → Nat
  | .hbm => 15
  | .vmem => 0
  | .smem => 0
  | _ => 0

abbrev bufTy : (tb : Table) → Fin (tcTables nBuf tb) → BufTy
  | .hbm, ⟨0, _⟩ => ⟨S128x128x512, .f32⟩
  | .hbm, ⟨1, _⟩ => ⟨S2x128x128, .f32⟩
  | .hbm, ⟨2, _⟩ => ⟨S1x128x128, .f32⟩
  | .hbm, ⟨3, _⟩ => ⟨S128x128, .f32⟩
  | .hbm, ⟨4, _⟩ => ⟨S128x128x256, .f32⟩
  | .hbm, ⟨5, _⟩ => ⟨S128x128x256, .f32⟩
  | .hbm, ⟨6, _⟩ => ⟨S1x128x128, .f32⟩
  | .hbm, ⟨7, _⟩ => ⟨S128x128, .f32⟩
  | .hbm, ⟨8, _⟩ => ⟨S128x128x256, .f32⟩
  | .hbm, ⟨9, _⟩ => ⟨S128x128x256, .f32⟩
  | .hbm, ⟨10, _⟩ => ⟨S128x128x256, .f32⟩
  | .hbm, ⟨11, _⟩ => ⟨S_, .f32⟩
  | .hbm, ⟨12, _⟩ => ⟨S128x128x256, .f32⟩
  | .hbm, ⟨13, _⟩ => ⟨S128x128x256, .f32⟩
  | .hbm, ⟨14, _⟩ => ⟨S128x32768, .f32⟩
  | _, _ => ⟨S128x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.AttnPay.lean ====
/- One sub-block of the attention's accumulation: 256 query columns against one tile of keys. -/
module

public import proofs.«01_k».proof.Proof.Gen.KernelIdeal.Skeleton
public import Idealize.ShloMosaic.Lib.Pipeline.ValueKit
public import Idealize.ShloMosaic.Lib.WholeRead
public import Idealize.ShloMosaic.Lib.Writes

@[expose] public section

set_option maxRecDepth 16384

noncomputable section

namespace Cert.KernelIdeal.Gen

open Idealize.ShloMosaic

/-- The accumulated sub-block at an index: what was there plus the tile's weighted values. -/
theorem upd_apply (k : Vec Ideal S1x3328x128 .bf16) (v : Vec Ideal S1x80x3328 .bf16) (q : Vec Ideal S1x256x128 .bf16)
    (p : Vec Ideal S80x256 .f32) (x : S80x256.Idx) :
    k0_pay7 (F := Ideal) k v q p x = p x + ∑ κ : Fin 3328, v (ix3 0 (x 0) κ) * Ideal.exp2 (∑ d : Fin 128, k (ix3 0 κ d) * q (ix3 0 (x 1) d)) := by
  pointwise [k0_pay7, k0_pay3, k0_pay4]
  rfl

/-- What one grid point adds to the scratch at an index: nothing below row 80. -/
def part (q : Vec Ideal S1x4096x128 .bf16) (k : Vec Ideal S1x3328x128 .bf16) (v : Vec Ideal S1x80x3328 .bf16) (y : S128x4096.Idx) : EReal :=
  if h : (y 0).val < 80 then
    ∑ κ : Fin 3328, v (ix3 0 ⟨(y 0).val, h⟩ κ) * Ideal.exp2 (∑ d : Fin 128, k (ix3 0 κ d) * q (ix3 0 (y 1) d))
  else 0

/-- One sub-block's store is a block of the sum of what was there and the point's part. -/
theorem piece (q : Vec Ideal S1x4096x128 .bf16) (k : Vec Ideal S1x3328x128 .bf16) (v : Vec Ideal S1x80x3328 .bf16) (xs : Vec Ideal S128x4096 .f32)
    (o : ℕ) (inb : ∀ a : Fin 2, (![0, o] : Fin 2 → ℕ) a + (![80, 256] : Fin 2 → ℕ) a ≤ S128x4096.size a)
    (k' : Vec Ideal S1x3328x128 .bf16) (v' : Vec Ideal S1x80x3328 .bf16) (q' : Vec Ideal S1x256x128 .bf16) (p' : Vec Ideal S80x256 .f32)
    (hk : ∀ x, k' x = k x) (hv : ∀ x, v' x = v x) (ho : o + 256 ≤ 4096)
    (hq : ∀ (j : Fin 256) (d : Fin 128), q' (ix3 0 j d) = q (ix3 0 ⟨o + j.val, by omega⟩ d))
    (hp : ∀ x : S80x256.Idx, p' x = xs ((Rect.unit (s := S128x4096) ![0, o] ![80, 256] inb).emb x)) (x : S80x256.Idx) :
    k0_pay7 (F := Ideal) k' v' q' p' x = xs ((Rect.unit (s := S128x4096) ![0, o] ![80, 256] inb).emb x) + part q k v ((Rect.unit (s := S128x4096) ![0, o] ![80, 256] inb).emb x) := by
  have h0 : ((Rect.unit (s := S128x4096) ![0, o] ![80, 256] inb).emb x 0).val = (x 0).val := by
    show 0 + 1 * (x 0).val = _; omega
  have h1 : ((Rect.unit (s := S128x4096) ![0, o] ![80, 256] inb).emb x 1).val = o + (x 1).val := by
    show o + 1 * (x 1).val = _; omega
  have hx : (x 0).val < 80 := (x 0).isLt
  rw [upd_apply, hp, part, dif_pos (by omega)]
  congr 1
  refine Finset.sum_congr rfl fun κ _ => ?_
  rw [hv]
  congr 2
  · congr 1; exact Fin.ext h0.symm
  · refine Finset.sum_congr rfl fun d _ => ?_
    rw [hk]
    refine congrArg (k (ix3 0 κ d) * ·) ((hq (x 1) d).trans ?_)
    congr 2; exact Fin.ext h1.symm

/-- The columns and rows a sub-block's store covers. -/
theorem mem_sub (o : ℕ) (inb : ∀ a : Fin 2, (![0, o] : Fin 2 → ℕ) a + (![80, 256] : Fin 2 → ℕ) a ≤ S128x4096.size a) (y : S128x4096.Idx) :
    y ∈ (Rect.unit (s := S128x4096) ![0, o] ![80, 256] inb).set ↔ (y 0).val < 80 ∧ o ≤ (y 1).val ∧ (y 1).val < o + 256 := by
  refine (Rect.unit (s := S128x4096) ![0, o] ![80, 256] inb).mem_set.trans ?_
  constructor
  · intro h
    obtain ⟨a, ha, ha'⟩ := h 0
    obtain ⟨b, hb, hb'⟩ := h 1
    have ha : a < 80 := ha
    have hb : b < 256 := hb
    have ha' : (y 0).val = 0 + 1 * a := ha'
    have hb' : (y 1).val = o + 1 * b := hb'
    omega
  · rintro ⟨h0, h1, h2⟩ a
    fin_cases a
    · exact ⟨(y 0).val, h0, by show (y 0).val = 0 + 1 * (y 0).val; omega⟩
    · exact ⟨(y 1).val - o, by show _ < 256; omega, by show (y 1).val = o + 1 * _; omega⟩

/-- The keys' staging buffer, loaded whole. -/
theorem readK {sig' : RefSig} {a : Memref sig' .tc .vmem S1x3328x128 .bf16} (ha : a.IsWhole) (X : Vec Ideal S1x3328x128 .bf16) (inb) (x : S1x3328x128.Idx) :
    View.readAt (Elt Ideal) a.view (Rect.unit (s := S1x3328x128) ![0, 0, 0] ![1, 3328, 128] inb).toLoadRect (ha.unread X) x = X x := by
  rw [ha.readAt_unread]
  congr 1; funext a; fin_cases a <;> exact Fin.ext (by show 0 + 1 * _ = _; omega)

/-- The values' staging buffer, loaded whole. -/
theorem readV {sig' : RefSig} {a : Memref sig' .tc .vmem S1x80x3328 .bf16} (ha : a.IsWhole) (X : Vec Ideal S1x80x3328 .bf16) (inb) (x : S1x80x3328.Idx) :
    View.readAt (Elt Ideal) a.view (Rect.unit (s := S1x80x3328) ![0, 0, 0] ![1, 80, 3328] inb).toLoadRect (ha.unread X) x = X x := by
  rw [ha.readAt_unread]
  congr 1; funext a; fin_cases a <;> exact Fin.ext (by show 0 + 1 * _ = _; omega)

/-- 256 queries loaded from row `o` of their staging buffer. -/
theorem readQ {sig' : RefSig} {a : Memref sig' .tc .vmem S1x4096x128 .bf16} (ha : a.IsWhole) (X : Vec Ideal S1x4096x128 .bf16) (o : ℕ) (ho : o + 256 ≤ 4096) (inb)
    (j : Fin 256) (d : Fin 128) :
    View.readAt (Elt Ideal) a.view (Rect.unit (s := S1x4096x128) ![0, o, 0] ![1, 256, 128] inb).toLoadRect (ha.unread X) (ix3 0 j d) = X (ix3 0 ⟨o + j.val, by omega⟩ d) := by
  rw [ha.readAt_unread]
  congr 1; funext a; fin_cases a <;> exact Fin.ext (by simp [LoadRect.idx, Rect.toLoadRect])

/-- A sub-block loaded from the scratch. -/
theorem readS {sig' : RefSig} {a : Memref sig' .tc .vmem S128x4096 .f32} (ha : a.IsWhole) (X : Vec Ideal S128x4096 .f32) (o : ℕ) (inb) (x : S80x256.Idx) :
    View.readAt (Elt Ideal) a.view (Rect.unit (s := S128x4096) ![0, o] ![80, 256] inb).toLoadRect (ha.unread X) x
      = X ((Rect.unit (s := S128x4096) ![0, o] ![80, 256] inb).emb x) := by
  rw [ha.readAt_unread]; rfl

/-- A sub-block loaded after stores. -/
theorem readC {sig' : RefSig} {κ : Kind} {sp : Space} (v : View sig' κ sp S128x4096 .f32) (L : List (View.Piece (Elt Ideal) S128x4096 .f32)) (o : ℕ) (inb) (x : S80x256.Idx) :
    v.readCov L (Rect.unit (s := S128x4096) ![0, o] ![80, 256] inb).toLoadRect x = View.canon L ((Rect.unit (s := S128x4096) ![0, o] ![80, 256] inb).emb x) := by
  rw [View.readCov_eq_canon']; rfl

/-- The scratch loaded whole. -/
theorem readW {sig' : RefSig} {κ : Kind} {sp : Space} (v : View sig' κ sp S128x4096 .f32) (f) (inb) :
    View.readAt (Elt Ideal) v (Rect.unit (s := S128x4096) ![0, 0] ![128, 4096] inb).toLoadRect f = v.read (Elt Ideal) f := by
  funext x
  show v.read (Elt Ideal) f _ = v.read (Elt Ideal) f x
  congr 1; funext a; fin_cases a <;> exact Fin.ext (by show 0 + 1 * _ = _; omega)

/-- The first `o` columns hold the point's part, the others nothing yet. -/
def stage (q : Vec Ideal S1x4096x128 .bf16) (k : Vec Ideal S1x3328x128 .bf16) (v : Vec Ideal S1x80x3328 .bf16) (o : ℕ) (y : S128x4096.Idx) : EReal :=
  if (y 1).val < o then part q k v y else 0

theorem stage_lt {q k v} {o : ℕ} {y : S128x4096.Idx} (h : (y 1).val < o) : stage q k v o y = part q k v y := if_pos h
theorem stage_ge {q k v} {o : ℕ} {y : S128x4096.Idx} (h : ¬ (y 1).val < o) : stage q k v o y = 0 := if_neg h

/-- One more sub-block stored over a scratch that began at nothing. -/
theorem stage_step (q : Vec Ideal S1x4096x128 .bf16) (k : Vec Ideal S1x3328x128 .bf16) (v : Vec Ideal S1x80x3328 .bf16)
    (o : ℕ) (inb : ∀ a : Fin 2, (![0, o] : Fin 2 → ℕ) a + (![80, 256] : Fin 2 → ℕ) a ≤ S128x4096.size a)
    (L : List (View.Piece (Elt Ideal) S128x4096 .f32)) (P : Vec Ideal S80x256 .f32)
    (hL : ∀ y, View.canon L y = stage q k v o y)
    (hP : ∀ x, P x = View.canon L ((Rect.unit (s := S128x4096) ![0, o] ![80, 256] inb).emb x) + part q k v ((Rect.unit (s := S128x4096) ![0, o] ![80, 256] inb).emb x))
    (y : S128x4096.Idx) :
    View.canon ((⟨Rect.unit (s := S128x4096) ![0, o] ![80, 256] inb, P⟩ : View.Piece (Elt Ideal) S128x4096 .f32) :: L) y = stage q k v (o + 256) y := by
  by_cases hy : y ∈ (Rect.unit (s := S128x4096) ![0, o] ![80, 256] inb).set
  · have hb := (mem_sub o inb y).mp hy
    obtain ⟨x, hx⟩ : ∃ x, (Rect.unit (s := S128x4096) ![0, o] ![80, 256] inb).emb x = y := (Rect.unit (s := S128x4096) ![0, o] ![80, 256] inb).exists_idx_of_mem hy
    have h1 : View.canon ((⟨Rect.unit (s := S128x4096) ![0, o] ![80, 256] inb, P⟩ : View.Piece (Elt Ideal) S128x4096 .f32) :: L) y = P x := by
      rw [← hx]; exact View.canon_cons_emb _ _ _ x
    have h2 := hP x
    rw [hx, hL] at h2
    rw [h1, h2, stage_ge (Nat.not_lt.mpr hb.2.1), stage_lt hb.2.2, zero_add]
  · rw [View.canon_cons_of_not_mem (⟨Rect.unit (s := S128x4096) ![0, o] ![80, 256] inb, P⟩ : View.Piece (Elt Ideal) S128x4096 .f32) L hy, hL]
    rw [mem_sub] at hy
    by_cases h : (y 0).val < 80
    · by_cases h1 : (y 1).val < o
      · rw [stage_lt h1, stage_lt (by omega)]
      · rw [stage_ge h1, stage_ge (by omega)]
    · have e : part q k v y = 0 := dif_neg h
      unfold stage
      rw [e, ite_self, ite_self]

end Cert.KernelIdeal.Gen
-- ==== Proof.AttnScratch.lean ====
/- What one grid point of the attention leaves in its scratch, in each of its three cases. -/
module

public import proofs.«01_k».proof.Proof.AttnPay
public import proofs.«01_k».proof.Proof.Gen.KernelIdeal.Frame
public import Idealize.ShloMosaic.Lib.Pipeline.ReadBack

@[expose] public section

set_option maxRecDepth 16384

noncomputable section

namespace Cert.KernelIdeal.Gen

open Idealize.ShloMosaic Idealize.ShloMosaic.TcCoe
open Idealize.SL Idealize.SL.Sem
open Idealize.ShloMosaic.Rounds

variable (c : Dev nD) (i : grid0.Coords) (arg3 : Memref sig .tc .vmem S1x4096x128 .bf16) (harg3 : arg3.IsWhole)
  (arg4 : Memref sig .tc .vmem S1x3328x128 .bf16) (harg4 : arg4.IsWhole) (arg5 : Memref sig .tc .vmem S1x80x3328 .bf16) (harg5 : arg5.IsWhole)
  (arg6 : Memref sig .tc .vmem S4096x128 .bf16) (harg6 : arg6.IsWhole) (arg7 : Memref sig .tc .vmem S128x4096 .f32) (harg7 : arg7.IsWhole)
  (x0 : Vec Ideal S1x4096x128 .bf16) (x1 : Vec Ideal S1x3328x128 .bf16) (x2 : Vec Ideal S1x80x3328 .bf16) (xs0 : Vec Ideal S128x4096 .f32)

/-- A later point adds its part to the scratch. -/
theorem scrB (hc0 : ¬cond0_0 i) (hc1 : ¬cond0_1 i) (y : S128x4096.Idx) :
    sout0_B_0 c i arg3 harg3 arg4 harg4 arg5 harg5 arg6 harg6 arg7 harg7 hc0 hc1 x0 x1 x2 xs0 y = xs0 y + part x0 x1 x2 y := by
  unfold sout0_B_0
  by_cases hy : (y 0).val < 80
  · refine View.read_writes_apply_of_pieces _ _ (fun y => xs0 y + part x0 x1 x2 y) _ (View.PiecesOf.mem (G := fun y => xs0 y + part x0 x1 x2 y) ?_) y ?_
    · unfold kernelRun0_B
      dsimp only
      refine ⟨?_, ?_, ?_, ?_, ?_, ?_, ?_, ?_, ?_, ?_, ?_, ?_, ?_, ?_, ?_, ?_, trivial⟩ <;>
        exact piece x0 x1 x2 xs0 _ _ _ _ _ _ (readK harg4 x1 _) (readV harg5 x2 _) (by omega) (readQ harg3 x0 _ (by omega) _) (readS harg7 xs0 _ _)
    · unfold kernelRun0_B
      dsimp only
      simp only [List.exists_mem_cons_iff, mem_sub]
      have : (y 1).val < 4096 := (y 1).isLt
      omega
  · rw [View.read_writes_apply_of_forall_not_mem, harg7.read_unread, part, dif_neg hy, add_zero]
    unfold kernelRun0_B
    dsimp only
    simp only [List.forall_mem_cons]
    refine ⟨?_, ?_, ?_, ?_, ?_, ?_, ?_, ?_, ?_, ?_, ?_, ?_, ?_, ?_, ?_, ?_, fun _ h => absurd h List.not_mem_nil⟩ <;>
      exact Rect.not_mem_set_of_axis _ y 0 0 80 rfl rfl rfl (Or.inr (by omega))

/-- The last point of a run adds its part to the scratch. -/
theorem scrC (hc0 : ¬cond0_0 i) (hc1 : cond0_1 i) (y : S128x4096.Idx) :
    sout0_C_0 c i arg3 harg3 arg4 harg4 arg5 harg5 arg6 harg6 arg7 harg7 hc0 hc1 x0 x1 x2 xs0 y = xs0 y + part x0 x1 x2 y := by
  unfold sout0_C_0
  by_cases hy : (y 0).val < 80
  · refine View.read_writes_apply_of_pieces _ _ (fun y => xs0 y + part x0 x1 x2 y) _ (View.PiecesOf.mem (G := fun y => xs0 y + part x0 x1 x2 y) ?_) y ?_
    · unfold kernelRun0_C kernelRun0_C.sl.HS0_16
      dsimp only
      refine ⟨?_, ?_, ?_, ?_, ?_, ?_, ?_, ?_, ?_, ?_, ?_, ?_, ?_, ?_, ?_, ?_, trivial⟩ <;>
        exact piece x0 x1 x2 xs0 _ _ _ _ _ _ (readK harg4 x1 _) (readV harg5 x2 _) (by omega) (readQ harg3 x0 _ (by omega) _) (readS harg7 xs0 _ _)
    · unfold kernelRun0_C kernelRun0_C.sl.HS0_16
      dsimp only [S80x256]
      simp only [List.exists_mem_cons_iff, mem_sub]
      have : (y 1).val < 4096 := (y 1).isLt
      omega
  · rw [View.read_writes_apply_of_forall_not_mem, harg7.read_unread, part, dif_neg hy, add_zero]
    unfold kernelRun0_C kernelRun0_C.sl.HS0_16
    dsimp only
    simp only [List.forall_mem_cons]
    refine ⟨?_, ?_, ?_, ?_, ?_, ?_, ?_, ?_, ?_, ?_, ?_, ?_, ?_, ?_, ?_, ?_, fun _ h => absurd h List.not_mem_nil⟩ <;>
      exact Rect.not_mem_set_of_axis _ y 0 0 80 rfl rfl rfl (Or.inr (by omega))

/-- The first point of a run leaves its part alone. -/
theorem scrA (hc0 : cond0_0 i) (hc1 : ¬cond0_1 i) (y : S128x4096.Idx) :
    sout0_A_0 c i arg3 harg3 arg4 harg4 arg5 harg5 arg6 harg6 arg7 harg7 hc0 hc1 x0 x1 x2 y = part x0 x1 x2 y := by
  have h1 : ∀ y, View.canon (kernelRun0_A.sl.HS0_1 (F := Ideal)) y = stage x0 x1 x2 0 y := by
    intro y
    rw [stage_ge (Nat.not_lt_zero _)]
    unfold kernelRun0_A.sl.HS0_1
    rw [View.canon_cons_unit_lit _ _ _ (by decide)]
    pointwise [k0_pay2]
  have h2 : ∀ y, View.canon (kernelRun0_A.sl.HS0_2 c arg3 harg3 arg4 harg4 arg5 harg5 arg7 x0 x1 x2) y = stage x0 x1 x2 256 y :=
    stage_step x0 x1 x2 0 _ _ _ h1 (piece x0 x1 x2 _ _ _ _ _ _ _ (readK harg4 x1 _) (readV harg5 x2 _) (by omega) (readQ harg3 x0 _ (by omega) _) fun x => readC _ _ _ _ x)
  have h3 : ∀ y, View.canon (kernelRun0_A.sl.HS0_3 c arg3 harg3 arg4 harg4 arg5 harg5 arg7 x0 x1 x2) y = stage x0 x1 x2 512 y :=
    stage_step x0 x1 x2 256 _ _ _ h2 (piece x0 x1 x2 _ _ _ _ _ _ _ (readK harg4 x1 _) (readV harg5 x2 _) (by omega) (readQ harg3 x0 _ (by omega) _) fun x => readC _ _ _ _ x)
  have h4 : ∀ y, View.canon (kernelRun0_A.sl.HS0_4 c arg3 harg3 arg4 harg4 arg5 harg5 arg7 x0 x1 x2) y = stage x0 x1 x2 768 y :=
    stage_step x0 x1 x2 512 _ _ _ h3 (piece x0 x1 x2 _ _ _ _ _ _ _ (readK harg4 x1 _) (readV harg5 x2 _) (by omega) (readQ harg3 x0 _ (by omega) _) fun x => readC _ _ _ _ x)
  have h5 : ∀ y, View.canon (kernelRun0_A.sl.HS0_5 c arg3 harg3 arg4 harg4 arg5 harg5 arg7 x0 x1 x2) y = stage x0 x1 x2 1024 y :=
    stage_step x0 x1 x2 768 _ _ _ h4 (piece x0 x1 x2 _ _ _ _ _ _ _ (readK harg4 x1 _) (readV harg5 x2 _) (by omega) (readQ harg3 x0 _ (by omega) _) fun x => readC _ _ _ _ x)
  have h6 : ∀ y, View.canon (kernelRun0_A.sl.HS0_6 c arg3 harg3 arg4 harg4 arg5 harg5 arg7 x0 x1 x2) y = stage x0 x1 x2 1280 y :=
    stage_step x0 x1 x2 1024 _ _ _ h5 (piece x0 x1 x2 _ _ _ _ _ _ _ (readK harg4 x1 _) (readV harg5 x2 _) (by omega) (readQ harg3 x0 _ (by omega) _) fun x => readC _ _ _ _ x)
  have h7 : ∀ y, View.canon (kernelRun0_A.sl.HS0_7 c arg3 harg3 arg4 harg4 arg5 harg5 arg7 x0 x1 x2) y = stage x0 x1 x2 1536 y :=
    stage_step x0 x1 x2 1280 _ _ _ h6 (piece x0 x1 x2 _ _ _ _ _ _ _ (readK harg4 x1 _) (readV harg5 x2 _) (by omega) (readQ harg3 x0 _ (by omega) _) fun x => readC _ _ _ _ x)
  have h8 : ∀ y, View.canon (kernelRun0_A.sl.HS0_8 c arg3 harg3 arg4 harg4 arg5 harg5 arg7 x0 x1 x2) y = stage x0 x1 x2 1792 y :=
    stage_step x0 x1 x2 1536 _ _ _ h7 (piece x0 x1 x2 _ _ _ _ _ _ _ (readK harg4 x1 _) (readV harg5 x2 _) (by omega) (readQ harg3 x0 _ (by omega) _) fun x => readC _ _ _ _ x)
  have h9 : ∀ y, View.canon (kernelRun0_A.sl.HS0_9 c arg3 harg3 arg4 harg4 arg5 harg5 arg7 x0 x1 x2) y = stage x0 x1 x2 2048 y :=
    stage_step x0 x1 x2 1792 _ _ _ h8 (piece x0 x1 x2 _ _ _ _ _ _ _ (readK harg4 x1 _) (readV harg5 x2 _) (by omega) (readQ harg3 x0 _ (by omega) _) fun x => readC _ _ _ _ x)
  have h10 : ∀ y, View.canon (kernelRun0_A.sl.HS0_10 c arg3 harg3 arg4 harg4 arg5 harg5 arg7 x0 x1 x2) y = stage x0 x1 x2 2304 y :=
    stage_step x0 x1 x2 2048 _ _ _ h9 (piece x0 x1 x2 _ _ _ _ _ _ _ (readK harg4 x1 _) (readV harg5 x2 _) (by omega) (readQ harg3 x0 _ (by omega) _) fun x => readC _ _ _ _ x)
  have h11 : ∀ y, View.canon (kernelRun0_A.sl.HS0_11 c arg3 harg3 arg4 harg4 arg5 harg5 arg7 x0 x1 x2) y = stage x0 x1 x2 2560 y :=
    stage_step x0 x1 x2 2304 _ _ _ h10 (piece x0 x1 x2 _ _ _ _ _ _ _ (readK harg4 x1 _) (readV harg5 x2 _) (by omega) (readQ harg3 x0 _ (by omega) _) fun x => readC _ _ _ _ x)
  have h12 : ∀ y, View.canon (kernelRun0_A.sl.HS0_12 c arg3 harg3 arg4 harg4 arg5 harg5 arg7 x0 x1 x2) y = stage x0 x1 x2 2816 y :=
    stage_step x0 x1 x2 2560 _ _ _ h11 (piece x0 x1 x2 _ _ _ _ _ _ _ (readK harg4 x1 _) (readV harg5 x2 _) (by omega) (readQ harg3 x0 _ (by omega) _) fun x => readC _ _ _ _ x)
  have h13 : ∀ y, View.canon (kernelRun0_A.sl.HS0_13 c arg3 harg3 arg4 harg4 arg5 harg5 arg7 x0 x1 x2) y = stage x0 x1 x2 3072 y :=
    stage_step x0 x1 x2 2816 _ _ _ h12 (piece x0 x1 x2 _ _ _ _ _ _ _ (readK harg4 x1 _) (readV harg5 x2 _) (by omega) (readQ harg3 x0 _ (by omega) _) fun x => readC _ _ _ _ x)
  have h14 : ∀ y, View.canon (kernelRun0_A.sl.HS0_14 c arg3 harg3 arg4 harg4 arg5 harg5 arg7 x0 x1 x2) y = stage x0 x1 x2 3328 y :=
    stage_step x0 x1 x2 3072 _ _ _ h13 (piece x0 x1 x2 _ _ _ _ _ _ _ (readK harg4 x1 _) (readV harg5 x2 _) (by omega) (readQ harg3 x0 _ (by omega) _) fun x => readC _ _ _ _ x)
  have h15 : ∀ y, View.canon (kernelRun0_A.sl.HS0_15 c arg3 harg3 arg4 harg4 arg5 harg5 arg7 x0 x1 x2) y = stage x0 x1 x2 3584 y :=
    stage_step x0 x1 x2 3328 _ _ _ h14 (piece x0 x1 x2 _ _ _ _ _ _ _ (readK harg4 x1 _) (readV harg5 x2 _) (by omega) (readQ harg3 x0 _ (by omega) _) fun x => readC _ _ _ _ x)
  have h16 : ∀ y, View.canon (kernelRun0_A.sl.HS0_16 c arg3 harg3 arg4 harg4 arg5 harg5 arg7 x0 x1 x2) y = stage x0 x1 x2 3840 y :=
    stage_step x0 x1 x2 3584 _ _ _ h15 (piece x0 x1 x2 _ _ _ _ _ _ _ (readK harg4 x1 _) (readV harg5 x2 _) (by omega) (readQ harg3 x0 _ (by omega) _) fun x => readC _ _ _ _ x)
  unfold sout0_A_0
  rw [View.read_writes_junk_apply_eq_canon]
  refine Eq.trans (b := stage x0 x1 x2 4096 y) ?_ (stage_lt (y 1).isLt)
  exact stage_step x0 x1 x2 3840 _ _ _ h16 (piece x0 x1 x2 _ _ _ _ _ _ _ (readK harg4 x1 _) (readV harg5 x2 _) (by omega) (readQ harg3 x0 _ (by omega) _) fun x => readC _ _ _ _ x) y

/-- The block written back is the scratch the last point leaves, divided through and transposed. -/
theorem outC (hc0 : ¬cond0_0 i) (hc1 : cond0_1 i) :
    out0_C_3 c i arg3 harg3 arg4 harg4 arg5 harg5 arg6 harg6 arg7 harg7 hc0 hc1 x0 x1 x2 xs0
      = k0_pay1 (sout0_C_0 c i arg3 harg3 arg4 harg4 arg5 harg5 arg6 harg6 arg7 harg7 hc0 hc1 x0 x1 x2 xs0) := by
  have e : kernelRun0_C.sl.v186 c arg3 harg3 arg4 harg4 arg5 harg5 arg7 harg7 x0 x1 x2 xs0
      = sout0_C_0 c i arg3 harg3 arg4 harg4 arg5 harg5 arg6 harg6 arg7 harg7 hc0 hc1 x0 x1 x2 xs0 := readW _ _ _
  rw [← e]
  unfold out0_C_3
  rw [View.read_writes_junk_eq_canon]
  exact View.canon_cons_unit_lit _ _ _ (fun a => by fin_cases a <;> rfl)

end Cert.KernelIdeal.Gen
-- ==== Proof.AttnFold.lean ====
/- The attention kernel's array after its run, at an index: one quotient of two sums over all the keys. -/
module

public import proofs.«01_k».proof.Proof.AttnScratch
public import proofs.«01_k».proof.Proof.Gen.KernelIdeal.Value

@[expose] public section

set_option maxRecDepth 16384

noncomputable section

namespace Cert.KernelIdeal.Gen

open Idealize.ShloMosaic Idealize.ShloMosaic.TcCoe
open Idealize.SL Idealize.SL.Sem
open Idealize.ShloMosaic.Rounds

variable (m : (ℓ : Loc nD τ sig) → Buf (Elt Ideal) ℓ)

/-- What a point adds to the scratch. -/
def ptPart (c : Dev nD) (t : Fin cfg0.N) (y : S128x4096.Idx) : EReal := part (X0_0 m c t) (iblk m c 1 t) (iblk m c 2 t) y

/-- The scratch after the last point of a run: the run's five parts. -/
theorem scratch_last (c : Dev nD) (t : Fin cfg0.N) (h4 : t.val % 5 = 5 - 1) (y : S128x4096.Idx) :
    (outsAt0 m c t.val t.isLt).2 y = 0 + ∑ s : Fin 5, ptPart m c ⟨5 * (t.val / 5) + s.val, Pipeline.run_point_lt_of_flush t h4 s⟩ y := by
  refine Pipeline.eq_sum_fin_of_reset_step_apply_of_flush (M := EReal) (fun n h => (outsAt0 m c n h).2) 5 (fun _ => 0) (ptPart m c) ?_ ?_ t h4 y
  · intro t h y
    have h1 : ¬ t.val % 5 = 4 := by omega
    rw [outsAt0_A m c t h h1, zero_add]
    dsimp only
    rw [scrA]; rfl
  · intro t h y
    by_cases h1 : t.val % 5 = 4
    · rw [outsAt0_C m c t h h1]
      dsimp only
      rw [scrC]; rfl
    · rw [outsAt0_B m c t h h1]
      dsimp only
      rw [scrB]; rfl

/-- The block written back, at an index: the scratch's row over its row 64. -/
theorem pay1_apply (S : Vec Ideal S128x4096 .f32) (y : S4096x128.Idx) :
    k0_pay1 (F := Ideal) S y = Ideal.div (S (ix2 (y 1) (y 0))) (S (ix2 64 (y 0))) := by
  pointwise [k0_pay1]

/-- The weighted values' sum of one head, one query row and one value row, over all the keys. -/
def num (Q K : S6x16640x128.Idx → EReal) (W : S6x80x16640.Idx → EReal) (h : Fin 6) (i : Fin 16640) (r : ℕ) : EReal :=
  if hr : r < 80 then ∑ κ : Fin 16640, W (ix3 h ⟨r, hr⟩ κ) * Ideal.exp2 (∑ d : Fin 128, K (ix3 h κ d) * Q (ix3 h i d)) else 0

theorem idx : ∀ t : Fin cfg0.N, win0_0.index t = ![t.val / 20, t.val / 5 % 4, 0] ∧ win0_1.index t = ![t.val / 20, t.val % 5, 0]
    ∧ win0_2.index t = ![t.val / 20, 0, t.val % 5] ∧ win0_3.index t = ![t.val / 5 % 4, t.val / 20] :=
  (by decide +kernel : ∀ t : Fin grid0.N, _)

theorem blk0 (c : Dev nD) (t : Fin cfg0.N) (j : Fin 4096) (d : Fin 128) (hh : t.val / 20 < 6) (hj : t.val / 5 % 4 * 4096 + j.val < 16640) :
    X0_0 m c t (ix3 0 j d) = m ((c : Thread nD τ).loc main_arg0) (ix3 ⟨t.val / 20, hh⟩ ⟨t.val / 5 % 4 * 4096 + j.val, hj⟩ d) := by
  unfold X0_0 Pipeline.Window.fill
  rw [dif_pos (moved0_0 t _)]
  change V m c (Pipeline.arrRef spec0 0) (((cfg0.win 0).blk t).view.emb _) = _
  blk_ext [V, idx t]

theorem blk1 (c : Dev nD) (t : Fin cfg0.N) (κ : Fin 3328) (d : Fin 128) (hh : t.val / 20 < 6) (hκ : t.val % 5 * 3328 + κ.val < 16640) :
    iblk m c 1 t (ix3 0 κ d) = m ((c : Thread nD τ).loc main_arg1) (ix3 ⟨t.val / 20, hh⟩ ⟨t.val % 5 * 3328 + κ.val, hκ⟩ d) := by
  blk_ext [iblk, V, idx t]

theorem blk2 (c : Dev nD) (t : Fin cfg0.N) (r : Fin 80) (κ : Fin 3328) (hh : t.val / 20 < 6) (hκ : t.val % 5 * 3328 + κ.val < 16640) :
    iblk m c 2 t (ix3 0 r κ) = m ((c : Thread nD τ).loc main_arg2) (ix3 ⟨t.val / 20, hh⟩ r ⟨t.val % 5 * 3328 + κ.val, hκ⟩) := by
  blk_ext [iblk, V, idx t]

/-- The queries. -/
abbrev Q0 (c : Dev nD) : S6x16640x128.Idx → EReal := m ((c : Thread nD τ).loc main_arg0)
/-- The keys. -/
abbrev K0 (c : Dev nD) : S6x16640x128.Idx → EReal := m ((c : Thread nD τ).loc main_arg1)
/-- The values, transposed. -/
abbrev W0 (c : Dev nD) : S6x80x16640.Idx → EReal := m ((c : Thread nD τ).loc main_arg2)
/-- The queries' block. -/
abbrev b0 (c : Dev nD) (t : Fin cfg0.N) : S1x4096x128.Idx → EReal := X0_0 m c t
/-- The keys' block. -/
abbrev b1 (c : Dev nD) (t : Fin cfg0.N) : S1x3328x128.Idx → EReal := iblk m c 1 t
/-- The values' block. -/
abbrev b2 (c : Dev nD) (t : Fin cfg0.N) : S1x80x3328.Idx → EReal := iblk m c 2 t

/-- The run's five parts make the sum over all the keys. -/
theorem sum_parts (c : Dev nD) (t : Fin cfg0.N) (h4 : t.val % 5 = 5 - 1) (r : Fin 128) (j : Fin 4096) (hh : t.val / 20 < 6) (hj : t.val / 5 % 4 * 4096 + j.val < 16640) :
    ∑ s : Fin 5, ptPart m c ⟨5 * (t.val / 5) + s.val, Pipeline.run_point_lt_of_flush t h4 s⟩ (ix2 r j)
      = num (Q0 m c) (K0 m c) (W0 m c) ⟨t.val / 20, hh⟩ ⟨t.val / 5 % 4 * 4096 + j.val, hj⟩ r.val := by
  unfold num
  by_cases hr : r.val < 80
  · rw [dif_pos hr]
    have e0 : ∀ s : Fin 5, ptPart m c ⟨5 * (t.val / 5) + s.val, Pipeline.run_point_lt_of_flush t h4 s⟩ (ix2 r j)
        = ∑ κ : Fin 3328, b2 m c ⟨5 * (t.val / 5) + s.val, Pipeline.run_point_lt_of_flush t h4 s⟩ (ix3 0 ⟨r.val, hr⟩ κ)
          * Ideal.exp2 (∑ d : Fin 128, b1 m c ⟨5 * (t.val / 5) + s.val, Pipeline.run_point_lt_of_flush t h4 s⟩ (ix3 0 κ d)
            * b0 m c ⟨5 * (t.val / 5) + s.val, Pipeline.run_point_lt_of_flush t h4 s⟩ (ix3 0 j d)) := fun s => dif_pos hr
    rw [Finset.sum_congr rfl fun s _ => e0 s]
    refine Fin.sum_mul_add_congr (S := 5) (n := 3328) (L := 16640)
      (f := fun κ => W0 m c (ix3 ⟨t.val / 20, hh⟩ ⟨r.val, hr⟩ κ)
        * Ideal.exp2 (∑ d : Fin 128, K0 m c (ix3 ⟨t.val / 20, hh⟩ κ d)
          * Q0 m c (ix3 ⟨t.val / 20, hh⟩ ⟨t.val / 5 % 4 * 4096 + j.val, hj⟩ d))) (fun s κ hl => ?_) rfl
    have hs : s.val < 5 := s.isLt
    have e1 : (5 * (t.val / 5) + s.val) / 20 = t.val / 20 := by omega
    have e2 : (5 * (t.val / 5) + s.val) % 5 = s.val := by omega
    have e3 : (5 * (t.val / 5) + s.val) / 5 % 4 = t.val / 5 % 4 := by omega
    refine congr (congrArg (fun (a b : EReal) => a * b) ?_) (congrArg Ideal.exp2 (Finset.sum_congr rfl fun d _ => congr (congrArg (fun (a b : EReal) => a * b) ?_) ?_))
    · refine (blk2 m c _ _ κ (by dsimp only; omega) (by dsimp only; omega)).trans ?_
      simp only [e1, e2]
    · refine (blk1 m c _ κ d (by dsimp only; omega) (by dsimp only; omega)).trans ?_
      simp only [e1, e2]
    · refine (blk0 m c _ j d (by dsimp only; omega) (by dsimp only; omega)).trans ?_
      simp only [e1, e3]
  · rw [dif_neg hr]
    exact Finset.sum_eq_zero fun s _ => dif_neg hr

/-- The output array: each head's 128 columns, the row's weighted sums over its row 64. -/
def attn (Q K : S6x16640x128.Idx → EReal) (W : S6x80x16640.Idx → EReal) : S16384x768.Idx → EReal := fun y =>
  Ideal.div (num Q K W ⟨(y 1).val / 128, by have : (y 1).val < 768 := (y 1).isLt; omega⟩ ⟨(y 0).val, by have : (y 0).val < 16384 := (y 0).isLt; omega⟩ ((y 1).val % 128))
    (num Q K W ⟨(y 1).val / 128, by have : (y 1).val < 768 := (y 1).isLt; omega⟩ ⟨(y 0).val, by have : (y 0).val < 16384 := (y 0).isLt; omega⟩ 64)

theorem attn_at (Q K : S6x16640x128.Idx → EReal) (W : S6x80x16640.Idx → EReal) (y : S16384x768.Idx) (h : Fin 6) (i : Fin 16640) (r : Fin 128)
    (h0 : (y 0).val = i.val) (h1 : (y 1).val = h.val * 128 + r.val) :
    attn Q K W y = Ideal.div (num Q K W h i r.val) (num Q K W h i 64) := by
  unfold attn
  have hr := r.isLt
  have e1 : (y 1).val / 128 = h.val := by omega
  have e2 : (y 1).val % 128 = r.val := by omega
  simp only [h0, e1, e2]

theorem out_last (c : Dev nD) (t : Fin cfg0.N) (h4 : t.val % 5 = 5 - 1) :
    (outsAt0 m c t.val t.isLt).1 = k0_pay1 (outsAt0 m c t.val t.isLt).2 := by
  have h0 : ¬t.val % 5 = 0 := by omega
  rw [outsAt0_C m c t h0 h4]
  dsimp only
  rw [outC]

theorem final (c : Dev nD) : (dats m 0 c).arrAt 3 cfg0.N
    = attn (Q0 m c) (K0 m c) (W0 m c) := by
  refine (dats m 0 c).arrAt_eq_of_covers 3 _ (by decide +kernel) fun t hf y => ?_
  have h4 : t.val % 5 = 5 - 1 := (flush0_3 t).mp hf
  have hh : t.val / 20 < 6 := by have : t.val < 120 := t.isLt; omega
  rw [after0_3, out_last m c t h4]
  have key : ∀ (i : Fin 4096) (r : Fin 128) (hj : t.val / 5 % 4 * 4096 + i.val < 16640),
      (outsAt0 m c t.val t.isLt).2 (ix2 r i) = num (Q0 m c) (K0 m c) (W0 m c) ⟨t.val / 20, hh⟩ ⟨t.val / 5 % 4 * 4096 + i.val, hj⟩ r.val := fun i r hj =>
    (scratch_last m c t h4 _).trans ((zero_add _).trans (sum_parts m c t h4 r i hh hj))
  generalize (outsAt0 m c t.val t.isLt).2 = S at key ⊢
  have hi : (y 0).val < 4096 := (y 0).isLt
  have hr : (y 1).val < 128 := (y 1).isLt
  have hb : t.val / 5 % 4 * 4096 + (y 0).val < 16640 := by omega
  refine (pay1_apply S y).trans ?_
  refine Eq.trans ?_ (attn_at _ _ _ _ ⟨t.val / 20, hh⟩ ⟨t.val / 5 % 4 * 4096 + (y 0).val, hb⟩ ⟨(y 1).val, hr⟩ ?_ ?_).symm
  · exact congr (congrArg Ideal.div (key ⟨(y 0).val, hi⟩ ⟨(y 1).val, hr⟩ hb)) (key ⟨(y 0).val, hi⟩ 64 hb)
  · blk_simp [idx t]
  · blk_simp [idx t]

end Cert.KernelIdeal.Gen
-- ==== Proof.ERealSum.lean ====
/-
  Sums over the extended reals: a real factor that is not negative comes out of a sum on either side, whatever
  infinities the summands hold, and a sum of reals is a real.
-/
module

public import Idealize.ShloMosaic.PureOps.Ideal
public import Idealize.ShloMosaic.PureOps.Ideal.Laws

@[expose] public section

noncomputable section

namespace Cert.Math

open Idealize.ShloMosaic

/-- A real factor `0 ≤ c` on the right of a sum multiplies each summand. -/
theorem sum_mul_real {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- A sum of products of reals is a real: the one of the products. -/
theorem sum_coe_mul {ι : Type*} (s : Finset ι) (a b : ι → ℝ) :
    (∑ i ∈ s, (a i : EReal) * (b i : EReal)) = ((∑ i ∈ s, a i * b i : ℝ) : EReal) := by
  classical
  induction s using Finset.induction_on with
  | empty => simp
  | insert c s hc ih => rw [Finset.sum_insert hc, Finset.sum_insert hc, ih, EReal.coe_add, EReal.coe_mul]

/-- A sum of reals read as extended reals is their real sum. -/
theorem sum_coe {ι : Type*} (s : Finset ι) (a : ι → ℝ) :
    (∑ i ∈ s, (a i : EReal)) = ((∑ i ∈ s, a i : ℝ) : EReal) := by
  classical
  induction s using Finset.induction_on with
  | empty => simp
  | insert c s hc ih => rw [Finset.sum_insert hc, Finset.sum_insert hc, ih, EReal.coe_add]

/-- An extended real of finite magnitude is a real. -/
theorem exists_real_of_abs_lt {x : EReal} (h : max x (-x) < ⊤) : ∃ r : ℝ, x = (r : EReal) := by
  induction x using EReal.rec with
  | bot => simp at h
  | top => simp at h
  | coe r => exact ⟨r, rfl⟩

/-- The largest of finitely many reals, taken from `⊥` up, is a real as soon as there is one of them. -/
theorem fold_max_real {ι : Type*} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max (a := f a) (b := M)).symm

end Cert.Math

end
-- ==== Proof.AttnRef.lean ====
/- The reference's attention at an index, where the scores of its query row are real. -/
module

public import proofs.«01_k».proof.Proof.ERealSum
public import proofs.«01_k».proof.Proof.Gen.ReferenceIdeal.Read
public import Idealize.ShloMosaic.Lib.KernelVsHost
public import Idealize.ShloMosaic.Lib.Pipeline.ValueKit

@[expose] public section

set_option maxRecDepth 16384

noncomputable section

namespace Cert.ReferenceIdeal.Read

open Idealize.ShloMosaic Idealize.ShloMosaic.TcCoe
open Idealize.SL Idealize.SL.Sem

variable (x0 x1 : S6x16640x128.Idx → EReal) (x2 : S6x80x16640.Idx → EReal)

/-- The score of one query row against one key row. -/
def score (h : Fin 6) (i κ : Fin 16640) : EReal := ∑ d : Fin 128, x0 (ix3 h i d) * x1 (ix3 h κ d)

/-- The constant 2 of the reference. -/
theorem two_const : Ideal.ofBits .f32 0x40000000#32 = ((2 : ℝ) : EReal) := by
  simp [Ideal.ofBits, Ideal.ieee, -EReal.coe_mul]; norm_num

theorem neg_inf : Ideal.ofBits .f32 0xFF800000#32 = (⊥ : EReal) := by
  simp [Ideal.ofBits, Ideal.ieee]

theorem log_two : Ideal.log ((2 : ℝ) : EReal) = ((Real.log 2 : ℝ) : EReal) :=
  if_neg (by norm_num)

theorem v6_at (h : Fin 6) (i : Fin 16384) (κ : Fin 16640) (i' : Fin 16640) (hi : i'.val = i.val) :
    val_main_v6 (F := Ideal) x0 x1 (ix3 h i κ) = score x0 x1 h i' κ * ((Real.log 2 : ℝ) : EReal) := by
  rw [val_main_v6_apply, val_main_v3_apply, val_main_v5_apply, val_main_v4_apply, val_main_cst_apply]
  refine congr (congrArg (fun (a b : EReal) => a * b) (Finset.sum_congr rfl fun d _ => ?_)) ?_
  · rw [val_main_v1_apply, val_main_v0_apply, val_main_v2_apply]
    refine congr (congrArg (fun (a b : EReal) => a * b) (congrArg x0 ?_)) (congrArg x1 ?_)
    · exact funext fun a => Fin.ext (by match a with | ⟨0, _⟩ => rfl | ⟨1, _⟩ => exact hi.symm | ⟨2, _⟩ => rfl)
    · exact funext fun a => Fin.ext (by match a with | ⟨0, _⟩ => rfl | ⟨1, _⟩ => rfl | ⟨2, _⟩ => rfl)
  · show Ideal.log (Ideal.ofBits .f32 0x40000000#32) = _
    rw [two_const, log_two]

/-- The row's greatest scaled score is real. -/
theorem v9_real (h : Fin 6) (i : Fin 16384) (i' : Fin 16640) (hi : i'.val = i.val) (s : Fin 16640 → ℝ)
    (hs : ∀ κ, score x0 x1 h i' κ = ((s κ : ℝ) : EReal)) :
    ∃ M : ℝ, val_main_v9 (F := Ideal) x0 x1 (ix2 h i) = (M : EReal) := by
  obtain ⟨M, hM⟩ := Cert.Math.fold_max_real (Finset.univ : Finset (Fin 16640)) ⟨0, Finset.mem_univ _⟩ (fun κ => s κ * Real.log 2)
  refine ⟨M, ?_⟩
  rw [val_main_v9_apply, val_main_v8_apply, val_main_cst_1_apply]
  have e : val_main_v7 (F := Ideal) x0 x1 (ix2 h i) = (M : EReal) := by
    unfold val_main_v7
    refine (Host.reduce_eq_fold_single (a := 2) (max : EReal → EReal → EReal) _ _ _ (by decide) _ (ix2 h i)).trans ?_
    refine Eq.trans ?_ hM
    refine congrArg₂ (fun (b : EReal) (f : Fin 16640 → EReal) => Finset.fold max b f (Finset.univ : Finset (Fin 16640))) neg_inf (funext fun (κ : Fin 16640) => ?_)
    refine Eq.trans (congrArg (val_main_v6 (F := Ideal) x0 x1) (a₂ := ix3 h i κ) ?_) ?_
    · exact funext fun a => Fin.ext (by match a with | ⟨0, _⟩ => rfl | ⟨1, _⟩ => rfl | ⟨2, _⟩ => rfl)
    · exact (v6_at x0 x1 h i κ i' hi).trans (by rw [hs κ, EReal.coe_mul])
  rw [e]
  show max (Ideal.ofBits .f32 0xFF800000#32) (M : EReal) = _
  rw [neg_inf, bot_sup_eq]

/-- The reference's attention before its padding, at an index. -/
theorem v19_at (h : Fin 6) (i : Fin 16384) (i' : Fin 16640) (hi : i'.val = i.val) (s : Fin 16640 → ℝ)
    (hs : ∀ κ, score x0 x1 h i' κ = ((s κ : ℝ) : EReal)) :
    ∃ M : ℝ, ∀ r : Fin 80, val_main_v19 (F := Ideal) x0 x1 x2 (ix3 h i r)
      = ∑ κ : Fin 16640, Ideal.div (Ideal.exp ((s κ : EReal) * ((Real.log 2 : ℝ) : EReal) - (M : EReal)))
          (∑ j : Fin 16640, Ideal.exp ((s j : EReal) * ((Real.log 2 : ℝ) : EReal) - (M : EReal))) * x2 (ix3 h r κ) := by
  obtain ⟨M, hM⟩ := v9_real x0 x1 h i i' hi s hs
  refine ⟨M, fun r => ?_⟩
  have e13 : ∀ κ, val_main_v13 (F := Ideal) x0 x1 (ix3 h i κ) = Ideal.exp ((s κ : EReal) * ((Real.log 2 : ℝ) : EReal) - (M : EReal)) := fun κ => by
    rw [val_main_v13_apply, val_main_v12_apply, val_main_v11_apply, val_main_v10_apply, v6_at x0 x1 h i κ i' hi, hs κ]
    have e9 : idx_main_v10 (idx_main_v11 (ix3 h i κ)) = ix2 h i := funext fun a => Fin.ext (by match a with | ⟨0, _⟩ => rfl | ⟨1, _⟩ => rfl)
    rw [e9, hM]
    rfl
  have e16 : ∀ κ, val_main_v16 (F := Ideal) x0 x1 (ix3 h i κ) = ∑ j : Fin 16640, Ideal.exp ((s j : EReal) * ((Real.log 2 : ℝ) : EReal) - (M : EReal)) := fun κ => by
    rw [val_main_v16_apply, val_main_v15_apply, val_main_v14_apply, val_main_cst_2_apply]
    have ez : FloatOps.ofBits (F := Ideal) .f32 0x00000000#32 = (0 : EReal) := Ideal.ofBits_zero_f32
    rw [ez, zero_add]
    refine Finset.sum_congr rfl fun j _ => ?_
    rw [← e13 j]
    exact congrArg (val_main_v13 (F := Ideal) x0 x1) <| funext fun a => Fin.ext (by match a with | ⟨0, _⟩ => rfl | ⟨1, _⟩ => rfl | ⟨2, _⟩ => rfl)
  rw [val_main_v19_apply]
  refine Finset.sum_congr rfl fun κ _ => ?_
  have el : lidx_main_v19 (ix3 h i r) κ = ix3 h i κ := funext fun a => Fin.ext (by match a with | ⟨0, _⟩ => rfl | ⟨1, _⟩ => rfl | ⟨2, _⟩ => rfl)
  have er : ridx_main_v19 (ix3 h i r) κ = ix3 h r κ := funext fun a => Fin.ext (by match a with | ⟨0, _⟩ => rfl | ⟨1, _⟩ => rfl | ⟨2, _⟩ => rfl)
  rw [el, er, val_main_v17_apply, val_main_v18_apply, e13, e16]
  rfl

/-- The padding's constant is zero. -/
theorem pad_zero (z : S_.Idx) : val_main_call0_v0 (F := Ideal) z = (0 : EReal) := by
  rw [val_main_call0_v0_apply, val_main_c_apply]
  show (((0#32 : BitVec 32).toInt : ℝ) : EReal) = 0
  simp

theorem v23_eq (y : S16384x768.Idx) : val_main_v23 (F := Ideal) x0 x1 x2 y = val_main_v20 (F := Ideal) x0 x1 x2 (idx_main_v21 (idx_main_v22 y)) := by
  rw [val_main_v23_apply, val_main_v22_apply, val_main_v21_apply]
  rfl

/-- The result at an index: the head's columns below 80 are the attention's, the others zero. -/
theorem v23_lt (y : S16384x768.Idx) (h : Fin 6) (i : Fin 16384) (r : Fin 80) (h0 : (y 0).val = i.val) (h1 : (y 1).val = h.val * 128 + r.val) :
    val_main_v23 (F := Ideal) x0 x1 x2 y = val_main_v19 (F := Ideal) x0 x1 x2 (ix3 h i r) := by
  rw [v23_eq]
  unfold val_main_v20
  have hh := h.isLt; have hr := r.isLt; have hi := i.isLt
  refine pad_apply_of_inside _ _ _ _ _ _ _ _ _ fun a => ?_
  match a with
  | ⟨0, _⟩ => show ((y 0).val * 768 + (y 1).val) / 128 % 6 = 0 + h.val * 1; rw [h0, h1]; omega
  | ⟨1, _⟩ => show ((y 0).val * 768 + (y 1).val) / 768 = 0 + i.val * 1; rw [h0, h1]; omega
  | ⟨2, _⟩ => show ((y 0).val * 768 + (y 1).val) % 128 = 0 + r.val * 1; rw [h0, h1]; omega

theorem v23_ge (y : S16384x768.Idx) (h80 : 80 ≤ (y 1).val % 128) : val_main_v23 (F := Ideal) x0 x1 x2 y = (0 : EReal) := by
  rw [v23_eq]
  unfold val_main_v20
  refine (pad_apply_of_not_inside _ _ _ _ _ _ _ _ (2 : Fin 3) fun hin => ?_).trans (pad_zero _)
  have hb : (((y 0).val * 768 + (y 1).val) % 128 - 0) / (0 + 1) < 80 := hin.2.2
  omega

end Cert.ReferenceIdeal.Read
-- ==== Proof.AttnPre.lean ====
/- What the attention's precondition says of its arguments: finite queries and keys, and ones in row 64 of the values. -/
module

public import proofs.«01_k».proof.Proof.ERealSum
public import proofs.«01_k».proof.Pre_finite_scores_unit_row
public import Idealize.ShloMosaic.Lib.Pipeline.ValueKit

@[expose] public section

set_option maxRecDepth 16384

noncomputable section

namespace Cert.Pre_finite_scores_unit_row

open Idealize.ShloMosaic

/-- The predicate's shape relations hold. -/
theorem preFacts : Facts where
  slices_S6x16640x128_S6x16384x128_0_0_0 := by decide
  bcast_S_S6x16384x128 := by decide
  bcast_S_S6x16640x128 := by decide
  slices_S6x80x16640_S6x1x16640_0_64_0 := by decide
  shapeCasts_S6x1x16640_S6x16640 := by decide
  bcast_S_S6x16640 := by decide

/-- The word the predicates compare with is infinity. -/
theorem inf_bf16 : Ideal.ofBits .bf16 0x7F80#16 = (⊤ : EReal) := by
  simp [Ideal.ofBits, Ideal.ieee]

/-- A bit made of a truth value is one only if it is true. -/
theorem of_bool_one {b : Bool} (h : BitVec.ofBool b = 1#1) : b = true := by
  cases b
  · exact absurd h (by decide)
  · rfl

variable [Facts] (x0 x1 : S6x16640x128.Idx → EReal) (x2 : S6x80x16640.Idx → EReal)

theorem query_real (H : (fn (F := Ideal) x0 x1 x2).1 = fun _ => 1#1) (h : Fin 6) (i : Fin 16384) (i' : Fin 16640) (hi : i'.val = i.val) (d : Fin 128) :
    ∃ r : ℝ, x0 (ix3 h i' d) = (r : EReal) := by
  have e := congrFun H (ix3 h i d)
  refine Cert.Math.exists_real_of_abs_lt ?_
  have e2 := of_decide_eq_true (of_bool_one e)
  have e3 : extractStridedSlice S6x16384x128 ![0, 0, 0] x0 Facts.slices_S6x16640x128_S6x16384x128_0_0_0 (ix3 h i d) = x0 (ix3 h i' d) :=
    extractStridedSlice_apply _ x0 _ _ _ (fun a => by match a with | ⟨0, _⟩ => exact (Nat.zero_add _).symm | ⟨1, _⟩ => exact hi.trans (Nat.zero_add _).symm | ⟨2, _⟩ => exact (Nat.zero_add _).symm)
  rw [← e3, ← inf_bf16]
  exact e2

theorem key_real (H : (fn (F := Ideal) x0 x1 x2).2.1 = fun _ => 1#1) (j : S6x16640x128.Idx) :
    ∃ r : ℝ, x1 j = (r : EReal) := by
  have e := congrFun H j
  refine Cert.Math.exists_real_of_abs_lt ?_
  have e2 := of_decide_eq_true (of_bool_one e)
  rw [← inf_bf16]
  exact e2

theorem row_one (H : (fn (F := Ideal) x0 x1 x2).2.2 = fun _ => 1#1) (h : Fin 6) (κ : Fin 16640) : x2 (ix3 h 64 κ) = (1 : EReal) := by
  have e := congrFun H (ix2 h κ)
  have e2 := of_decide_eq_true (of_bool_one e)
  have e3 : shapeCast S6x16640 (extractStridedSlice S6x1x16640 ![0, 64, 0] x2 Facts.slices_S6x80x16640_S6x1x16640_0_64_0) Facts.shapeCasts_S6x1x16640_S6x16640 (ix2 h κ) = x2 (ix3 h 64 κ) := by
    refine (shapeCast_apply _ _ _ (ix3 h 0 κ : S6x1x16640.Idx) ?_).trans ?_
    · rw [Shape.rowMajor_val_three, Shape.rowMajor_val_two]
      show (h.val * 1 + 0) * 16640 + κ.val = h.val * 16640 + κ.val
      omega
    · exact extractStridedSlice_apply _ x2 _ _ _ (fun a => by match a with | ⟨0, _⟩ => exact (Nat.zero_add _).symm | ⟨1, _⟩ => rfl | ⟨2, _⟩ => exact (Nat.zero_add _).symm)
  rw [← e3, ← Ideal.ofBits_one_bf16]
  exact e2

end Cert.Pre_finite_scores_unit_row
-- ==== Proof.Softmax.lean ====
/-
  A softmax-weighted sum over the extended reals, two ways. The plain one weighs each value by
  `exp (sᵢ·ln 2 - M) / Σ exp (sⱼ·ln 2 - M)`; the other sums `vᵢ·2^sᵢ` and the bare weights `2^sᵢ` and divides once at
  the end. With real scores the two are equal for every value, infinite ones included: the weights are positive reals.
-/
module

public import proofs.«01_k».proof.Proof.ERealSum

@[expose] public section

noncomputable section

namespace Cert.Math

open Idealize.ShloMosaic

theorem exp2_real (s : ℝ) : Ideal.exp2 (s : EReal) = ((2 : ℝ) ^ s : ℝ) := rfl

/-- `exp (s·ln 2 - M)` for real `s` and `M` is `2^s` times a positive constant. -/
theorem exp_shift (s M : ℝ) :
    Ideal.exp ((s : EReal) * ((Real.log 2 : ℝ) : EReal) - (M : EReal)) = (((2 : ℝ) ^ s * Real.exp (-M) : ℝ) : EReal) := by
  rw [← EReal.coe_mul, ← EReal.coe_sub]
  show ((Real.exp (s * Real.log 2 - M) : ℝ) : EReal) = _
  rw [sub_eq_add_neg, Real.exp_add, Real.rpow_def_of_pos (by norm_num : (0 : ℝ) < 2), mul_comm s]

/-- The one division at the end against the division of every weight. -/
theorem softmax_sum {n : ℕ} (hn : 0 < n) (s : Fin n → ℝ) (M : ℝ) (v : Fin n → EReal) :
    Ideal.div (∑ i, v i * Ideal.exp2 (s i : EReal)) (∑ i, 1 * Ideal.exp2 (s i : EReal))
      = ∑ i, Ideal.div (Ideal.exp ((s i : EReal) * ((Real.log 2 : ℝ) : EReal) - (M : EReal)))
          (∑ j, Ideal.exp ((s j : EReal) * ((Real.log 2 : ℝ) : EReal) - (M : EReal))) * v i := by
  have hpos : 0 < ∑ i, (2 : ℝ) ^ s i :=
    Finset.sum_pos (fun i _ => Real.rpow_pos_of_pos (by norm_num) _) ⟨⟨0, hn⟩, Finset.mem_univ _⟩
  have hden : (∑ i, (1 : EReal) * Ideal.exp2 (s i : EReal)) = ((∑ i, (2 : ℝ) ^ s i : ℝ) : EReal) := by
    rw [← sum_coe]; exact Finset.sum_congr rfl fun i _ => by rw [one_mul, exp2_real]
  have hden' : (∑ j, Ideal.exp ((s j : EReal) * ((Real.log 2 : ℝ) : EReal) - (M : EReal)))
      = (((∑ i, (2 : ℝ) ^ s i) * Real.exp (-M) : ℝ) : EReal) := by
    rw [Finset.sum_mul, ← sum_coe]; exact Finset.sum_congr rfl fun i _ => exp_shift _ _
  have he : 0 < Real.exp (-M) := Real.exp_pos _
  rw [hden, hden', Ideal.div_coe hpos.ne', sum_mul_real _ _ (by positivity)]
  refine Finset.sum_congr rfl fun i _ => ?_
  rw [exp_shift, Ideal.div_coe (mul_pos hpos he).ne', exp2_real, mul_assoc, mul_comm (v i), ← EReal.coe_mul, ← EReal.coe_mul]
  congr 2
  field_simp

end Cert.Math

end
-- ==== Proof.AttnValue.lean ====
/- The attention kernel's array is the reference's, for finite queries and keys and values whose row 64 is one. -/
module

public import proofs.«01_k».proof.Proof.AttnFold
public import proofs.«01_k».proof.Proof.AttnRef
public import proofs.«01_k».proof.Proof.AttnPre
public import proofs.«01_k».proof.Proof.Softmax

@[expose] public section

set_option maxRecDepth 16384

noncomputable section

namespace Cert.Attn

open Idealize.ShloMosaic Cert.KernelIdeal.Gen Cert.KernelIdeal

variable (Q K : S6x16640x128.Idx → EReal) (W : S6x80x16640.Idx → EReal)

/-- The scores of one query row are real. -/
theorem scores_real (h : Fin 6) (i : Fin 16640) (hq : ∀ d, ∃ r : ℝ, Q (ix3 h i d) = (r : EReal)) (hk : ∀ κ d, ∃ r : ℝ, K (ix3 h κ d) = (r : EReal)) :
    ∃ s : Fin 16640 → ℝ, ∀ κ, Cert.ReferenceIdeal.Read.score Q K h i κ = ((s κ : ℝ) : EReal) := by
  choose q hq using hq
  choose k hk using hk
  refine ⟨fun κ => ∑ d, q d * k κ d, fun κ => ?_⟩
  rw [← Cert.Math.sum_coe_mul]
  unfold Cert.ReferenceIdeal.Read.score
  exact Finset.sum_congr rfl fun d _ => by rw [hq, hk]

/-- The kernel's weighted sum, written with the reference's scores. -/
theorem num_eq (h : Fin 6) (i : Fin 16640) (r : Fin 80) (s : Fin 16640 → ℝ)
    (hs : ∀ κ, Cert.ReferenceIdeal.Read.score Q K h i κ = ((s κ : ℝ) : EReal)) :
    num Q K W h i r.val = ∑ κ : Fin 16640, W (ix3 h r κ) * Ideal.exp2 (s κ : EReal) := by
  unfold num
  rw [dif_pos r.isLt]
  refine Finset.sum_congr rfl fun κ _ => ?_
  rw [← hs κ]
  unfold Cert.ReferenceIdeal.Read.score
  refine congrArg (fun z : EReal => W (ix3 h r κ) * Ideal.exp2 z) (Finset.sum_congr rfl fun d _ => mul_comm _ _)

/-- The two arrays agree. -/
theorem attn_eq (hq : ∀ (h : Fin 6) (i' : Fin 16640) (d : Fin 128), i'.val < 16384 → ∃ r : ℝ, Q (ix3 h i' d) = (r : EReal))
    (hk : ∀ (h : Fin 6) κ d, ∃ r : ℝ, K (ix3 h κ d) = (r : EReal)) (hw : ∀ (h : Fin 6) κ, W (ix3 h 64 κ) = (1 : EReal)) :
    attn Q K W = Cert.ReferenceIdeal.Read.val_main_v23 (F := Ideal) Q K W := by
  funext y
  have hy0 : (y 0).val < 16384 := (y 0).isLt
  have hy1 : (y 1).val < 768 := (y 1).isLt
  have hh : (y 1).val / 128 < 6 := by omega
  have hi : (y 0).val < 16640 := by omega
  have hr : (y 1).val % 128 < 128 := by omega
  obtain ⟨s, hs⟩ := scores_real Q K ⟨(y 1).val / 128, hh⟩ ⟨(y 0).val, hi⟩ (fun d => hq _ _ d hy0) (fun κ d => hk _ κ d)
  have hden : num Q K W ⟨(y 1).val / 128, hh⟩ ⟨(y 0).val, hi⟩ 64 = ∑ κ : Fin 16640, 1 * Ideal.exp2 (s κ : EReal) := by
    refine (num_eq Q K W _ _ 64 s hs).trans (Finset.sum_congr rfl fun κ _ => ?_)
    rw [hw]
  refine (attn_at Q K W y ⟨(y 1).val / 128, hh⟩ ⟨(y 0).val, hi⟩ ⟨(y 1).val % 128, hr⟩ rfl (Nat.div_add_mod' _ _).symm).trans ?_
  rw [hden]
  by_cases h80 : (y 1).val % 128 < 80
  · obtain ⟨M, hM⟩ := Cert.ReferenceIdeal.Read.v19_at Q K W ⟨(y 1).val / 128, hh⟩ ⟨(y 0).val, hy0⟩ ⟨(y 0).val, hi⟩ rfl s hs
    rw [Cert.ReferenceIdeal.Read.v23_lt Q K W y ⟨(y 1).val / 128, hh⟩ ⟨(y 0).val, hy0⟩ ⟨(y 1).val % 128, h80⟩ rfl (Nat.div_add_mod' _ _).symm, hM]
    refine (congrArg (fun z => Ideal.div z _) (num_eq Q K W _ _ ⟨(y 1).val % 128, h80⟩ s hs)).trans ?_
    exact Cert.Math.softmax_sum (by norm_num) s M _
  · rw [Cert.ReferenceIdeal.Read.v23_ge Q K W y (by omega)]
    have e : num Q K W ⟨(y 1).val / 128, hh⟩ ⟨(y 0).val, hi⟩ ((y 1).val % 128) = 0 := dif_neg h80
    refine (congrArg (fun z => Ideal.div z _) e).trans ?_
    have hpos : ∑ κ : Fin 16640, 1 * Ideal.exp2 (s κ : EReal) = ((∑ κ : Fin 16640, (2 : ℝ) ^ s κ : ℝ) : EReal) := by
      rw [← Cert.Math.sum_coe]
      exact Finset.sum_congr rfl fun κ _ => by rw [one_mul, Cert.Math.exp2_real]
    have hne : (0 : ℝ) < ∑ κ : Fin 16640, (2 : ℝ) ^ s κ :=
      Finset.sum_pos (fun κ _ => Real.rpow_pos_of_pos (by norm_num) _) ⟨0, Finset.mem_univ _⟩
    rw [hpos, Ideal.div, if_neg (by exact_mod_cast hne.ne'), zero_mul]

end Cert.Attn
-- ==== Proof.NormConv.lean ====
/-
  The row-wise mathematics shared by the feed-forward block and the input projection: the scaled normalisation of a
  row, a three-tap convolution down the rows with a zero row at either end, and the logistic function written with the
  hyperbolic tangent.
-/
module

public import Idealize.ShloMosaic.PureOps.Ideal
public import Idealize.ShloMosaic.PureOps.Ideal.Laws

@[expose] public section

noncomputable section

namespace Cert.Math

open Idealize.ShloMosaic

/-- The constant one half. -/
theorem half_const : Ideal.ofBits .f32 1056964608#32 = ((1 / 2 : ℝ) : EReal) := by
  simp [Ideal.ofBits, Ideal.ieee, -EReal.coe_mul]; norm_num

/-- The logistic function by the hyperbolic tangent, at every extended real. -/
theorem tanh_logistic (x : EReal) :
    ((1 / 2 : ℝ) : EReal) * Ideal.tanh (((1 / 2 : ℝ) : EReal) * x) + ((1 / 2 : ℝ) : EReal)
      = Ideal.div 1 (1 + Ideal.exp (-x)) := by
  induction x using EReal.rec with
  | bot =>
    rw [EReal.coe_mul_bot_of_pos (by norm_num)]
    show ((1 / 2 : ℝ) : EReal) * (-1 : EReal) + _ = Ideal.div 1 (1 + ⊤)
    rw [show (1 + ⊤ : EReal) = ⊤ from rfl, Ideal.div, if_neg (by decide), EReal.inv_top, mul_zero]
    rw [show (-1 : EReal) = ((-1 : ℝ) : EReal) from rfl, ← EReal.coe_mul, ← EReal.coe_add]
    norm_num
  | top =>
    rw [EReal.coe_mul_top_of_pos (by norm_num)]
    show ((1 / 2 : ℝ) : EReal) * (1 : EReal) + _ = Ideal.div 1 (1 + 0)
    rw [add_zero, Ideal.div, if_neg one_ne_zero, mul_one, show (1 : EReal) = ((1 : ℝ) : EReal) from rfl, ← EReal.coe_inv, ← EReal.coe_mul, ← EReal.coe_add]
    norm_num
  | coe r =>
    rw [← EReal.coe_mul]
    show ((1 / 2 : ℝ) : EReal) * ((Real.tanh (1 / 2 * r) : ℝ) : EReal) + _ = Ideal.div 1 (1 + ((Real.exp (-r) : ℝ) : EReal))
    have hp : (0 : ℝ) < 1 + Real.exp (-r) := by positivity
    rw [show (1 : EReal) = ((1 : ℝ) : EReal) from rfl, ← EReal.coe_add, Ideal.div,
      if_neg (by rw [← EReal.coe_zero]; exact fun h => hp.ne' (EReal.coe_injective h)), ← EReal.coe_inv, ← EReal.coe_mul, ← EReal.coe_mul, ← EReal.coe_add]
    congr 1
    rw [Real.tanh_eq_sinh_div_cosh, Real.sinh_eq, Real.cosh_eq]
    have e : Real.exp (-r) = Real.exp (-(1 / 2 * r)) / Real.exp (1 / 2 * r) := by
      rw [← Real.exp_sub]; congr 1; ring
    rw [e]
    have h1 := Real.exp_pos (1 / 2 * r)
    have h2 := Real.exp_pos (-(1 / 2 * r))
    field_simp
    ring

/-- The reciprocal root of a row's mean square, with its small constant. -/
def rowInv (x : Fin 1024 → EReal) : EReal :=
  Ideal.rsqrt (Ideal.div (∑ k, x k * x k) (Ideal.ofBits .f32 1149239296#32) + Ideal.ofBits .f32 897988541#32)

/-- A row normalised, scaled and shifted. -/
def nrow (x g s : Fin 1024 → EReal) (d : Fin 1024) : EReal := x d * rowInv x * g d + s d

theorem nrow_congr {x x' g g' s s' : Fin 1024 → EReal} (hx : ∀ d, x d = x' d) (hg : ∀ d, g d = g' d) (hs : ∀ d, s d = s' d) (k : Fin 1024) :
    nrow x g s k = nrow x' g' s' k := by
  rw [funext hx, funext hg, funext hs]

/-- The normalised rows with a zero row before the first and zero rows after the last: row `r` is the array's row `r - 1`. -/
def hp (X : Fin 16384 → Fin 1024 → EReal) (g s : Fin 1024 → EReal) (r : ℕ) (d : Fin 1024) : EReal :=
  if h : 1 ≤ r ∧ r ≤ 16384 then nrow (X ⟨r - 1, by omega⟩) g s d else 0

theorem hp_row (X : Fin 16384 → Fin 1024 → EReal) (g s : Fin 1024 → EReal) (r : ℕ) (i : Fin 16384) (h : r = i.val + 1) (d : Fin 1024) :
    hp X g s r d = nrow (X i) g s d := by
  subst h
  exact dif_pos ⟨by omega, by have := i.isLt; omega⟩

theorem hp_out (X : Fin 16384 → Fin 1024 → EReal) (g s : Fin 1024 → EReal) (r : ℕ) (h : ¬(1 ≤ r ∧ r ≤ 16384)) (d : Fin 1024) :
    hp X g s r d = 0 := dif_neg h

/-- A padded row times a column. -/
def lin (X : Fin 16384 → Fin 1024 → EReal) (g s w : Fin 1024 → EReal) (r : ℕ) : EReal := ∑ k, hp X g s r k * w k

theorem lin_row (X : Fin 16384 → Fin 1024 → EReal) (g s w : Fin 1024 → EReal) (r : ℕ) (i : Fin 16384) (h : r = i.val + 1) :
    lin X g s w r = ∑ k, nrow (X i) g s k * w k :=
  Finset.sum_congr rfl fun k _ => by rw [hp_row X g s r i h k]

theorem lin_out (X : Fin 16384 → Fin 1024 → EReal) (g s w : Fin 1024 → EReal) (r : ℕ) (h : ¬(1 ≤ r ∧ r ≤ 16384)) : lin X g s w r = 0 :=
  Finset.sum_eq_zero fun k _ => by rw [hp_out X g s r h k, zero_mul]

/-- Three neighbouring padded rows times a column, weighted by three taps. -/
def cv (X : Fin 16384 → Fin 1024 → EReal) (g s w : Fin 1024 → EReal) (c : Fin 3 → EReal) (i : ℕ) : EReal :=
  c 0 * lin X g s w i + c 1 * lin X g s w (i + 1) + c 2 * lin X g s w (i + 2)

/-- The gated product of the feed-forward block: one column of the first half through the logistic gate, times its
    partner of the second half. -/
def gated (X : Fin 16384 → Fin 1024 → EReal) (g s : Fin 1024 → EReal) (Wu : Fin 1024 → Fin 5632 → EReal)
    (C : Fin 3 → Fin 5632 → EReal) (i : ℕ) (a b : Fin 5632) : EReal :=
  cv X g s (fun k => Wu k a) (fun t => C t a) i
    * Ideal.div 1 (1 + Ideal.exp (-cv X g s (fun k => Wu k a) (fun t => C t a) i))
    * cv X g s (fun k => Wu k b) (fun t => C t b) i

/-- The feed-forward block at one entry. -/
def ffn (X : Fin 16384 → Fin 1024 → EReal) (g s gt : Fin 1024 → EReal) (Wu : Fin 1024 → Fin 5632 → EReal)
    (C : Fin 3 → Fin 5632 → EReal) (Wd : Fin 2816 → Fin 1024 → EReal) (i : Fin 16384) (d : Fin 1024) : EReal :=
  X i d + gt d * ∑ f : Fin 2816, gated X g s Wu C i.val ⟨f.val, by omega⟩ ⟨2816 + f.val, by omega⟩ * Wd f d

end Cert.Math
-- ==== Proof.FfnPay.lean ====
/- The feed-forward kernel's payloads at an index. -/
module

public import proofs.«01_k».proof.Proof.NormConv
public import proofs.«01_k».proof.Proof.Gen.Kernel2Ideal.Skeleton
public import Idealize.ShloMosaic.Lib.Pipeline.ValueKit
public import Idealize.ShloMosaic.Lib.KernelVsHost

@[expose] public section

set_option maxRecDepth 16384

noncomputable section

namespace Cert.Kernel2Ideal.Gen

open Idealize.ShloMosaic Idealize.ShloMosaic.TcCoe
open Idealize.SL Idealize.SL.Sem
open Idealize.ShloMosaic.Rounds
open Cert.Math

/-- The tile's rows, normalised. -/
theorem pay3_at (g s : Vec Ideal S1x1024 .f32) (x : Vec Ideal S1024x1024 .f32) (i k : Fin 1024) :
    k0_pay3 (F := Ideal) g s x (ix2 i k)
      = nrow (fun d => x (ix2 i d)) (fun d => g (ix2 0 d)) (fun d => s (ix2 0 d)) k := by
  unfold nrow rowInv
  pointwise [k0_pay3, k0_pay2]

/-- The rows before the tile, normalised, or zero at the first tile. -/
theorem pay5_at (n : grid0.Coords) (g s : Vec Ideal S1x1024 .f32) (x : Vec Ideal S16x1024 .f32) (i : Fin 16) (k : Fin 1024) :
    k0_pay5 (F := Ideal) (k0_pay4 n g s x) (ix2 i k)
      = Scalar.select (Scalar.cmpi .sgt (BitVec.ofNat 32 (n 0).val) 0#32)
          (nrow (fun d => x (ix2 i d)) (fun d => g (ix2 0 d)) (fun d => s (ix2 0 d)) k) 0 := by
  unfold nrow rowInv
  pointwise [k0_pay5, k0_pay4, k0_pay2]

/-- The rows after the tile, normalised, or zero at the last tile. -/
theorem pay6_at (n : BitVec 32) (g s : Vec Ideal S1x1024 .f32) (x : Vec Ideal S16x1024 .f32) (i : Fin 16) (k : Fin 1024) :
    k0_pay6 (F := Ideal) n (k0_pay2 g) s x (ix2 i k)
      = Scalar.select (Scalar.cmpi .slt n 15#32)
          (nrow (fun d => x (ix2 i d)) (fun d => g (ix2 0 d)) (fun d => s (ix2 0 d)) k) 0 := by
  unfold nrow rowInv
  pointwise [k0_pay6, k0_pay2]

/-- The gated product of two column blocks, from the scratch holding the normalised rows. -/
theorem gate_at (X : Fin 16384 → Fin 1024 → EReal) (g s : Fin 1024 → EReal) (n0 : ℕ) (H : S1056x1024.Idx → EReal)
    (hH : ∀ (q : Fin 1056) (k : Fin 1024), H (ix2 q k) = hp X g s (n0 + q.val - 15) k)
    (Wu : Fin 1024 → Fin 5632 → EReal) (C : Fin 3 → Fin 5632 → EReal) (A B : S1024x256.Idx → EReal) (a b : S3x256.Idx → EReal)
    (u v : Fin 256 → Fin 5632)
    (hA : ∀ k j, A (ix2 k j) = Wu k (u j)) (hB : ∀ k j, B (ix2 k j) = Wu k (v j))
    (ha : ∀ t j, a (ix2 t j) = C t (u j)) (hb : ∀ t j, b (ix2 t j) = C t (v j)) (i : Fin 1024) (j : Fin 256) :
    k0_pay11 (F := Ideal) (k0_pay7 (F := Ideal) H A) (k0_pay7 (F := Ideal) H B) a b (ix2 i j)
      = gated X g s Wu C (n0 + i.val) (u j) (v j) := by
  have hi := i.isLt
  unfold gated cv lin
  rw [← tanh_logistic, ← half_const]
  pointwise [k0_pay11, k0_pay7]
  have e1 : n0 + (16 + i.val + 1056 - 1) % 1056 - 15 = n0 + i.val := by omega
  have e2 : n0 + (16 + i.val) - 15 = n0 + i.val + 1 := by omega
  have e3 : n0 + (16 + i.val + 1056 - 1055) % 1056 - 15 = n0 + i.val + 2 := by omega
  simp only [hH, hA, hB, ha, hb, e1, e2, e3]

/-- One column block's share of the product with the second weights. -/
theorem pay15_at (G : Vec Ideal S1024x256 .bf16) (W : Vec Ideal S256x1024 .bf16) (i d : Fin 1024) :
    k0_pay15 (F := Ideal) G W (ix2 i d) = ∑ f : Fin 256, G (ix2 i f) * W (ix2 f d) := by
  pointwise [k0_pay15]

/-- A later column block's share, added. -/
theorem pay21_at (G : Vec Ideal S1024x256 .bf16) (W : Vec Ideal S256x1024 .bf16) (o : Vec Ideal S1024x1024 .f32) (i d : Fin 1024) :
    k0_pay21 (F := Ideal) G W o (ix2 i d) = o (ix2 i d) + ∑ f : Fin 256, G (ix2 i f) * W (ix2 f d) := by
  pointwise [k0_pay21]

/-- The gate and the residual. -/
theorem pay1_at (x : Vec Ideal S1024x1024 .f32) (gt : Vec Ideal S1x1024 .f32) (o : Vec Ideal S1024x1024 .f32) (i d : Fin 1024) :
    k0_pay1 (F := Ideal) x gt o (ix2 i d) = x (ix2 i d) + gt (ix2 0 d) * o (ix2 i d) := by
  pointwise [k0_pay1]

end Cert.Kernel2Ideal.Gen
-- ==== Proof.ReadRect.lean ====
/- Loads of a rectangle from a staging buffer of two axes. -/
module

public import Idealize.ShloMosaic.Lib.WholeRead
public import Idealize.ShloMosaic.Lib.Writes
public import Idealize.ShloMosaic.Lib.Pipeline.ReadBack
public import Idealize.ShloMosaic.Lib.Pipeline.ValueKit

@[expose] public section

noncomputable section

namespace Cert.Math

open Idealize.ShloMosaic Idealize.ShloMosaic.TcCoe

/-- A rectangle of a whole buffer, loaded: the buffer's contents at the rectangle's offsets. -/
theorem read2 {sig' : RefSig} {n p : ℕ} {e : EltTy} {a : Memref sig' .tc .vmem ⟨2, ![n, p]⟩ e} (ha : a.IsWhole)
    (X : Vec Ideal ⟨2, ![n, p]⟩ e) (o q n' p' : ℕ) (inb) (i : Fin n') (j : Fin p') (hi : o + i.val < n) (hj : q + j.val < p) :
    View.readAt (Elt Ideal) a.view (Rect.unit (s := ⟨2, ![n, p]⟩) ![o, q] ![n', p'] inb).toLoadRect (ha.unread X) (ix2 i j)
      = X (ix2 ⟨o + i.val, hi⟩ ⟨q + j.val, hj⟩) := by
  rw [ha.readAt_unread]
  congr 1; funext a; fin_cases a <;> exact Fin.ext (by simp [LoadRect.idx, Rect.toLoadRect])

/-- A whole buffer loaded whole. -/
theorem readAll {sig' : RefSig} {n p : ℕ} {e : EltTy} {a : Memref sig' .tc .vmem ⟨2, ![n, p]⟩ e} (ha : a.IsWhole)
    (X : Vec Ideal ⟨2, ![n, p]⟩ e) (inb) :
    View.readAt (Elt Ideal) a.view (Rect.unit (s := ⟨2, ![n, p]⟩) ![0, 0] ![n, p] inb).toLoadRect (ha.unread X) = X := by
  funext x
  rw [ha.readAt_unread]
  congr 1; funext a; fin_cases a <;> exact Fin.ext (by show 0 + 1 * _ = _; omega)

/-- A buffer last stored whole, loaded whole: what was stored. -/
theorem readTop {sig' : RefSig} {κ : Kind} {sp : Space} {n p : ℕ} {e : EltTy} (v : View sig' κ sp ⟨2, ![n, p]⟩ e)
    (w : Vec Ideal ⟨2, ![n, p]⟩ e) (L : List (View.Piece (Elt Ideal) ⟨2, ![n, p]⟩ e)) (inb inb') :
    v.readCov (⟨Rect.unit (s := ⟨2, ![n, p]⟩) ![0, 0] ![n, p] inb, w⟩ :: L)
      (Rect.unit (s := ⟨2, ![n, p]⟩) ![0, 0] ![n, p] inb').toLoadRect = w := by
  rw [View.readCov_eq_canon', View.canon_cons_unit_lit _ _ _ (fun a => by fin_cases a <;> rfl)]
  funext x
  show w _ = w x
  congr 1; funext a; fin_cases a <;> exact Fin.ext (by show 0 + 1 * _ = _; omega)

/-- A stored buffer loaded whole, at an index inside a rectangle: its contents at the rectangle's own index. -/
theorem readSub {sig' : RefSig} {κ : Kind} {sp : Space} {n p : ℕ} {e : EltTy} (v : View sig' κ sp ⟨2, ![n, p]⟩ e)
    (L : List (View.Piece (Elt Ideal) ⟨2, ![n, p]⟩ e)) (o q n' p' : ℕ) (inb inb') (i : Fin n') (j : Fin p') (a : Fin n) (b : Fin p)
    (ha : a.val = o + i.val) (hb : b.val = q + j.val) :
    v.readCov L (Rect.unit (s := ⟨2, ![n, p]⟩) ![0, 0] ![n, p] inb).toLoadRect (ix2 a b)
      = View.canon L ((Rect.unit (s := ⟨2, ![n, p]⟩) ![o, q] ![n', p'] inb').emb (ix2 i j)) := by
  rw [View.readCov_eq_canon']
  refine congrArg (View.canon L) (funext fun d => ?_)
  fin_cases d
  · exact Fin.ext (by show 0 + 1 * a.val = o + 1 * i.val; omega)
  · exact Fin.ext (by show 0 + 1 * b.val = q + 1 * j.val; omega)

end Cert.Math
-- ==== Proof.FfnBlock.lean ====
/- What one grid point of the feed-forward kernel writes back. -/
module

public import proofs.«01_k».proof.Proof.FfnPay
public import proofs.«01_k».proof.Proof.ReadRect
public import proofs.«01_k».proof.Proof.Gen.Kernel2Ideal.Frame

@[expose] public section

set_option maxRecDepth 16384

noncomputable section

namespace Cert.Kernel2Ideal.Gen

open Idealize.ShloMosaic Idealize.ShloMosaic.TcCoe
open Idealize.SL Idealize.SL.Sem
open Idealize.ShloMosaic.Rounds
open Cert.Math

variable (c : Dev nD) (i : grid0.Coords) (arg1 : Memref sig .tc .vmem S1024x1024 .f32) (harg1 : arg1.IsWhole)
  (arg2 : Memref sig .tc .vmem S16x1024 .f32) (harg2 : arg2.IsWhole) (arg3 : Memref sig .tc .vmem S16x1024 .f32) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S1x1024 .f32) (harg6 : arg6.IsWhole) (arg7 : Memref sig .tc .vmem S1024x5632 .bf16) (harg7 : arg7.IsWhole)
  (arg8 : Memref sig .tc .vmem S3x5632 .f32) (harg8 : arg8.IsWhole) (arg9 : Memref sig .tc .vmem S2816x1024 .bf16) (harg9 : arg9.IsWhole)
  (arg10 : Memref sig .tc .vmem S1024x1024 .f32) (harg10 : arg10.IsWhole) (arg11 : Memref sig .tc .vmem S1056x1024 .bf16) (harg11 : arg11.IsWhole)
  (x0 : Vec Ideal S1024x1024 .f32) (x1 : Vec Ideal S16x1024 .f32) (x2 : Vec Ideal S16x1024 .f32) (x3 : Vec Ideal S1x1024 .f32)
  (x4 : Vec Ideal S1x1024 .f32) (x5 : Vec Ideal S1x1024 .f32) (x6 : Vec Ideal S1024x5632 .bf16) (x7 : Vec Ideal S3x5632 .f32)
  (x8 : Vec Ideal S2816x1024 .bf16)

/-- The scratch of normalised rows a point fills. -/
abbrev hs : Vec Ideal S1056x1024 .bf16 :=
  kernelRun0_A.sl.v66 c i arg1 harg1 arg2 harg2 arg3 harg3 arg4 harg4 arg5 harg5 arg11 x0 x1 x2 x3 x4

/-- The tile's own rows stand from row 16 on. -/
theorem hs_mid (q : Fin 1056) (r : Fin 1024) (h : q.val = 16 + r.val) (k : Fin 1024) :
    hs c i arg1 harg1 arg2 harg2 arg3 harg3 arg4 harg4 arg5 harg5 arg11 x0 x1 x2 x3 x4 (ix2 q k)
      = nrow (fun d => x0 (ix2 r d)) (fun d => x3 (ix2 0 d)) (fun d => x4 (ix2 0 d)) k := by
  have hr := r.isLt
  unfold hs kernelRun0_A.sl.v66
  refine (readSub _ _ 16 0 1024 1024 _ inb_S1056x1024_S1024x1024_16_0 r k q k (by omega) (by omega)).trans ?_
  unfold kernelRun0_A.sl.HS0_3
  rw [View.canon_cons_of_not_mem _ _ (Rect.not_mem_set_of_axis _ _ 0 1040 16 rfl rfl rfl (Or.inl (by show 16 + 1 * r.val < 1040; omega))),
    View.canon_cons_of_not_mem _ _ (Rect.not_mem_set_of_axis _ _ 0 0 16 rfl rfl rfl (Or.inr (by show 0 + 16 ≤ 16 + 1 * r.val; omega)))]
  refine (View.canon_cons_emb _ _ _ _).trans ?_
  rw [readAll harg1, readAll harg4, readAll harg5, pay3_at]

/-- The 16 rows before the tile stand first. -/
theorem hs_lo (q : Fin 1056) (r : Fin 16) (h : q.val = r.val) (k : Fin 1024) :
    hs c i arg1 harg1 arg2 harg2 arg3 harg3 arg4 harg4 arg5 harg5 arg11 x0 x1 x2 x3 x4 (ix2 q k)
      = Scalar.select (Scalar.cmpi .sgt (BitVec.ofNat 32 (i 0).val) 0#32)
          (nrow (fun d => x1 (ix2 r d)) (fun d => x3 (ix2 0 d)) (fun d => x4 (ix2 0 d)) k) 0 := by
  have hr := r.isLt
  unfold hs kernelRun0_A.sl.v66
  refine (readSub _ _ 0 0 16 1024 _ inb_S1056x1024_S16x1024_0_0 r k q k (by omega) (by omega)).trans ?_
  unfold kernelRun0_A.sl.HS0_3
  rw [View.canon_cons_of_not_mem _ _ (Rect.not_mem_set_of_axis _ _ 0 1040 16 rfl rfl rfl (Or.inl (by show 0 + 1 * r.val < 1040; omega)))]
  refine (View.canon_cons_emb _ _ _ _).trans ?_
  unfold kernelRun0_A.sl.r_2
  rw [readAll harg2, readAll harg4, readAll harg5, pay5_at]

/-- The 16 rows after the tile stand last. -/
theorem hs_hi (q : Fin 1056) (r : Fin 16) (h : q.val = 1040 + r.val) (k : Fin 1024) :
    hs c i arg1 harg1 arg2 harg2 arg3 harg3 arg4 harg4 arg5 harg5 arg11 x0 x1 x2 x3 x4 (ix2 q k)
      = Scalar.select (Scalar.cmpi .slt (BitVec.ofNat 32 (i 0).val) 15#32)
          (nrow (fun d => x2 (ix2 r d)) (fun d => x3 (ix2 0 d)) (fun d => x4 (ix2 0 d)) k) 0 := by
  have hr := r.isLt
  unfold hs kernelRun0_A.sl.v66
  refine (readSub _ _ 1040 0 16 1024 _ inb_S1056x1024_S16x1024_1040_0 r k q k (by omega) (by omega)).trans ?_
  unfold kernelRun0_A.sl.HS0_3
  refine (View.canon_cons_emb _ _ _ _).trans ?_
  unfold kernelRun0_A.sl.r kernelRun0_A.sl.r_1
  rw [readAll harg3, readAll harg4, readAll harg5, pay6_at]

/-- The product of one block of 256 gated columns with its rows of the second weights. -/
def share (X : Fin 16384 → Fin 1024 → EReal) (g s : Fin 1024 → EReal) (n0 : ℕ) (o : ℕ) (ho : o + 256 ≤ 2816) (r d : Fin 1024) : EReal :=
  ∑ f : Fin 256, gated X g s (fun k j => x6 (ix2 k j)) (fun t j => x7 (ix2 t j)) (n0 + r.val)
    ⟨o + f.val, by omega⟩ ⟨2816 + (o + f.val), by omega⟩ * x8 (ix2 ⟨o + f.val, by omega⟩ d)

section Blocks

variable (X : Fin 16384 → Fin 1024 → EReal) (g s : Fin 1024 → EReal) (n0 : ℕ) (H : Vec Ideal S1056x1024 .bf16)
  (hH : ∀ (q : Fin 1056) (k : Fin 1024), H (ix2 q k) = hp X g s (n0 + q.val - 15) k)

include hH in
/-- One block's share of the product. -/
theorem share_at (o o' : ℕ) (ho : o + 256 ≤ 2816) (ho' : o' = 2816 + o) (i1 i2 i3 i4 i5) (r d : Fin 1024) :
    ∑ f : Fin 256, (k0_pay11 (F := Ideal)
        (k0_pay7 (F := Ideal) H (View.readAt (Elt Ideal) arg7.view (Rect.unit (s := S1024x5632) ![0, o] ![1024, 256] i1).toLoadRect (harg7.unread x6)))
        (k0_pay7 (F := Ideal) H (View.readAt (Elt Ideal) arg7.view (Rect.unit (s := S1024x5632) ![0, o'] ![1024, 256] i2).toLoadRect (harg7.unread x6)))
        (View.readAt (Elt Ideal) arg8.view (Rect.unit (s := S3x5632) ![0, o] ![3, 256] i3).toLoadRect (harg8.unread x7))
        (View.readAt (Elt Ideal) arg8.view (Rect.unit (s := S3x5632) ![0, o'] ![3, 256] i4).toLoadRect (harg8.unread x7)) (ix2 r f) : EReal)
      * View.readAt (Elt Ideal) arg9.view (Rect.unit (s := S2816x1024) ![o, 0] ![256, 1024] i5).toLoadRect (harg9.unread x8) (ix2 f d)
      = share x6 x7 x8 X g s n0 o ho r d := by
  subst ho'
  refine Finset.sum_congr rfl fun f _ => congr (congrArg (fun (a b : EReal) => a * b) ?_) ?_
  · refine gate_at X g s n0 H hH (fun k j => x6 (ix2 k j)) (fun t j => x7 (ix2 t j)) _ _ _ _
      (fun j => ⟨o + j.val, by omega⟩) (fun j => ⟨2816 + (o + j.val), by omega⟩) ?_ ?_ ?_ ?_ r f
    · intro k j
      refine (read2 harg7 x6 0 o 1024 256 i1 k j (by omega) (by omega)).trans (congrArg x6 ?_)
      exact funext fun a => Fin.ext (by match a with | ⟨0, _⟩ => exact Nat.zero_add _ | ⟨1, _⟩ => rfl)
    · intro k j
      refine (read2 harg7 x6 0 (2816 + o) 1024 256 i2 k j (by omega) (by omega)).trans (congrArg x6 ?_)
      exact funext fun a => Fin.ext (by match a with | ⟨0, _⟩ => exact Nat.zero_add _ | ⟨1, _⟩ => exact Nat.add_assoc _ _ _)
    · intro t j
      refine (read2 harg8 x7 0 o 3 256 i3 t j (by omega) (by omega)).trans (congrArg x7 ?_)
      exact funext fun a => Fin.ext (by match a with | ⟨0, _⟩ => exact Nat.zero_add _ | ⟨1, _⟩ => rfl)
    · intro t j
      refine (read2 harg8 x7 0 (2816 + o) 3 256 i4 t j (by omega) (by omega)).trans (congrArg x7 ?_)
      exact funext fun a => Fin.ext (by match a with | ⟨0, _⟩ => exact Nat.zero_add _ | ⟨1, _⟩ => exact Nat.add_assoc _ _ _)
  · refine (read2 harg9 x8 o 0 256 1024 i5 f d (by omega) (by omega)).trans (congrArg x8 ?_)
    exact funext fun a => Fin.ext (by match a with | ⟨0, _⟩ => rfl | ⟨1, _⟩ => exact Nat.zero_add _)

end Blocks

/-- Eleven terms added from the left are their sum. -/
theorem eleven (G : Fin 11 → EReal) :
    G 0 + G 1 + G 2 + G 3 + G 4 + G 5 + G 6 + G 7 + G 8 + G 9 + G 10 = ∑ t, G t := by
  simp only [Fin.sum_univ_succ, Fin.sum_univ_zero, add_zero, ← add_assoc]
  rfl

section Sum

variable (X : Fin 16384 → Fin 1024 → EReal) (g s : Fin 1024 → EReal) (n0 : ℕ)
  (hH : ∀ (q : Fin 1056) (k : Fin 1024), hs c i arg1 harg1 arg2 harg2 arg3 harg3 arg4 harg4 arg5 harg5 arg11 x0 x1 x2 x3 x4 (ix2 q k) = hp X g s (n0 + q.val - 15) k)

include hH

theorem acc0 (r d : Fin 1024) :
    kernelRun0_A.sl.v218 c i arg1 harg1 arg2 harg2 arg3 harg3 arg4 harg4 arg5 harg5 arg7 harg7 arg8 harg8 arg9 harg9 arg10 arg11 x0 x1 x2 x3 x4 x6 x7 x8 (ix2 r d)
      = share x6 x7 x8 X g s n0 0 (by omega) r d := by
  unfold kernelRun0_A.sl.v218 kernelRun0_A.sl.H9_1
  refine (congrFun (readTop _ _ _ _ _) _).trans ?_
  refine (pay15_at _ _ r d).trans ?_
  exact share_at arg7 harg7 arg8 harg8 arg9 harg9 x6 x7 x8 X g s n0 _ hH 0 2816 (by omega) rfl _ _ _ _ _ r d

theorem acc1 (r d : Fin 1024) :
    kernelRun0_A.sl.v271 c i arg1 harg1 arg2 harg2 arg3 harg3 arg4 harg4 arg5 harg5 arg7 harg7 arg8 harg8 arg9 harg9 arg10 arg11 x0 x1 x2 x3 x4 x6 x7 x8 (ix2 r d)
      = kernelRun0_A.sl.v218 c i arg1 harg1 arg2 harg2 arg3 harg3 arg4 harg4 arg5 harg5 arg7 harg7 arg8 harg8 arg9 harg9 arg10 arg11 x0 x1 x2 x3 x4 x6 x7 x8 (ix2 r d)
        + share x6 x7 x8 X g s n0 256 (by omega) r d := by
  unfold kernelRun0_A.sl.v271 kernelRun0_A.sl.H9_2
  refine (congrFun (readTop _ _ _ _ _) _).trans ?_
  refine (pay21_at _ _ _ r d).trans ?_
  refine congrArg (fun b : EReal => _ + b) ?_
  exact share_at arg7 harg7 arg8 harg8 arg9 harg9 x6 x7 x8 X g s n0 _ hH 256 3072 (by omega) rfl _ _ _ _ _ r d

theorem acc2 (r d : Fin 1024) :
    kernelRun0_A.sl.v324 c i arg1 harg1 arg2 harg2 arg3 harg3 arg4 harg4 arg5 harg5 arg7 harg7 arg8 harg8 arg9 harg9 arg10 arg11 x0 x1 x2 x3 x4 x6 x7 x8 (ix2 r d)
      = kernelRun0_A.sl.v271 c i arg1 harg1 arg2 harg2 arg3 harg3 arg4 harg4 arg5 harg5 arg7 harg7 arg8 harg8 arg9 harg9 arg10 arg11 x0 x1 x2 x3 x4 x6 x7 x8 (ix2 r d)
        + share x6 x7 x8 X g s n0 512 (by omega) r d := by
  unfold kernelRun0_A.sl.v324 kernelRun0_A.sl.H9_3
  refine (congrFun (readTop _ _ _ _ _) _).trans ?_
  refine (pay21_at _ _ _ r d).trans ?_
  refine congrArg (fun b : EReal => _ + b) ?_
  exact share_at arg7 harg7 arg8 harg8 arg9 harg9 x6 x7 x8 X g s n0 _ hH 512 3328 (by omega) rfl _ _ _ _ _ r d

theorem acc3 (r d : Fin 1024) :
    kernelRun0_A.sl.v377 c i arg1 harg1 arg2 harg2 arg3 harg3 arg4 harg4 arg5 harg5 arg7 harg7 arg8 harg8 arg9 harg9 arg10 arg11 x0 x1 x2 x3 x4 x6 x7 x8 (ix2 r d)
      = kernelRun0_A.sl.v324 c i arg1 harg1 arg2 harg2 arg3 harg3 arg4 harg4 arg5 harg5 arg7 harg7 arg8 harg8 arg9 harg9 arg10 arg11 x0 x1 x2 x3 x4 x6 x7 x8 (ix2 r d)
        + share x6 x7 x8 X g s n0 768 (by omega) r d := by
  unfold kernelRun0_A.sl.v377 kernelRun0_A.sl.H9_4
  refine (congrFun (readTop _ _ _ _ _) _).trans ?_
  refine (pay21_at _ _ _ r d).trans ?_
  refine congrArg (fun b : EReal => _ + b) ?_
  exact share_at arg7 harg7 arg8 harg8 arg9 harg9 x6 x7 x8 X g s n0 _ hH 768 3584 (by omega) rfl _ _ _ _ _ r d

theorem acc4 (r d : Fin 1024) :
    kernelRun0_A.sl.v430 c i arg1 harg1 arg2 harg2 arg3 harg3 arg4 harg4 arg5 harg5 arg7 harg7 arg8 harg8 arg9 harg9 arg10 arg11 x0 x1 x2 x3 x4 x6 x7 x8 (ix2 r d)
      = kernelRun0_A.sl.v377 c i arg1 harg1 arg2 harg2 arg3 harg3 arg4 harg4 arg5 harg5 arg7 harg7 arg8 harg8 arg9 harg9 arg10 arg11 x0 x1 x2 x3 x4 x6 x7 x8 (ix2 r d)
        + share x6 x7 x8 X g s n0 1024 (by omega) r d := by
  unfold kernelRun0_A.sl.v430 kernelRun0_A.sl.H9_5
  refine (congrFun (readTop _ _ _ _ _) _).trans ?_
  refine (pay21_at _ _ _ r d).trans ?_
  refine congrArg (fun b : EReal => _ + b) ?_
  exact share_at arg7 harg7 arg8 harg8 arg9 harg9 x6 x7 x8 X g s n0 _ hH 1024 3840 (by omega) rfl _ _ _ _ _ r d

theorem acc5 (r d : Fin 1024) :
    kernelRun0_A.sl.v483 c i arg1 harg1 arg2 harg2 arg3 harg3 arg4 harg4 arg5 harg5 arg7 harg7 arg8 harg8 arg9 harg9 arg10 arg11 x0 x1 x2 x3 x4 x6 x7 x8 (ix2 r d)
      = kernelRun0_A.sl.v430 c i arg1 harg1 arg2 harg2 arg3 harg3 arg4 harg4 arg5 harg5 arg7 harg7 arg8 harg8 arg9 harg9 arg10 arg11 x0 x1 x2 x3 x4 x6 x7 x8 (ix2 r d)
        + share x6 x7 x8 X g s n0 1280 (by omega) r d := by
  unfold kernelRun0_A.sl.v483 kernelRun0_A.sl.H9_6
  refine (congrFun (readTop _ _ _ _ _) _).trans ?_
  refine (pay21_at _ _ _ r d).trans ?_
  refine congrArg (fun b : EReal => _ + b) ?_
  exact share_at arg7 harg7 arg8 harg8 arg9 harg9 x6 x7 x8 X g s n0 _ hH 1280 4096 (by omega) rfl _ _ _ _ _ r d

theorem acc6 (r d : Fin 1024) :
    kernelRun0_A.sl.v536 c i arg1 harg1 arg2 harg2 arg3 harg3 arg4 harg4 arg5 harg5 arg7 harg7 arg8 harg8 arg9 harg9 arg10 arg11 x0 x1 x2 x3 x4 x6 x7 x8 (ix2 r d)
      = kernelRun0_A.sl.v483 c i arg1 harg1 arg2 harg2 arg3 harg3 arg4 harg4 arg5 harg5 arg7 harg7 arg8 harg8 arg9 harg9 arg10 arg11 x0 x1 x2 x3 x4 x6 x7 x8 (ix2 r d)
        + share x6 x7 x8 X g s n0 1536 (by omega) r d := by
  unfold kernelRun0_A.sl.v536 kernelRun0_A.sl.H9_7
  refine (congrFun (readTop _ _ _ _ _) _).trans ?_
  refine (pay21_at _ _ _ r d).trans ?_
  refine congrArg (fun b : EReal => _ + b) ?_
  exact share_at arg7 harg7 arg8 harg8 arg9 harg9 x6 x7 x8 X g s n0 _ hH 1536 4352 (by omega) rfl _ _ _ _ _ r d

theorem acc7 (r d : Fin 1024) :
    kernelRun0_A.sl.v589 c i arg1 harg1 arg2 harg2 arg3 harg3 arg4 harg4 arg5 harg5 arg7 harg7 arg8 harg8 arg9 harg9 arg10 arg11 x0 x1 x2 x3 x4 x6 x7 x8 (ix2 r d)
      = kernelRun0_A.sl.v536 c i arg1 harg1 arg2 harg2 arg3 harg3 arg4 harg4 arg5 harg5 arg7 harg7 arg8 harg8 arg9 harg9 arg10 arg11 x0 x1 x2 x3 x4 x6 x7 x8 (ix2 r d)
        + share x6 x7 x8 X g s n0 1792 (by omega) r d := by
  unfold kernelRun0_A.sl.v589 kernelRun0_A.sl.H9_8
  refine (congrFun (readTop _ _ _ _ _) _).trans ?_
  refine (pay21_at _ _ _ r d).trans ?_
  refine congrArg (fun b : EReal => _ + b) ?_
  exact share_at arg7 harg7 arg8 harg8 arg9 harg9 x6 x7 x8 X g s n0 _ hH 1792 4608 (by omega) rfl _ _ _ _ _ r d

theorem acc8 (r d : Fin 1024) :
    kernelRun0_A.sl.v636 c i arg1 harg1 arg2 harg2 arg3 harg3 arg4 harg4 arg5 harg5 arg7 harg7 arg8 harg8 arg9 harg9 arg10 arg11 x0 x1 x2 x3 x4 x6 x7 x8 (ix2 r d)
      = kernelRun0_A.sl.v589 c i arg1 harg1 arg2 harg2 arg3 harg3 arg4 harg4 arg5 harg5 arg7 harg7 arg8 harg8 arg9 harg9 arg10 arg11 x0 x1 x2 x3 x4 x6 x7 x8 (ix2 r d)
        + share x6 x7 x8 X g s n0 2048 (by omega) r d := by
  unfold kernelRun0_A.sl.v636 kernelRun0_A.sl.H9_9
  refine (congrFun (readTop _ _ _ _ _) _).trans ?_
  refine (pay21_at _ _ _ r d).trans ?_
  refine congrArg (fun b : EReal => _ + b) ?_
  exact share_at arg7 harg7 arg8 harg8 arg9 harg9 x6 x7 x8 X g s n0 _ hH 2048 4864 (by omega) rfl _ _ _ _ _ r d

theorem acc9 (r d : Fin 1024) :
    kernelRun0_A.sl.v643 c i arg1 harg1 arg2 harg2 arg3 harg3 arg4 harg4 arg5 harg5 arg7 harg7 arg8 harg8 arg9 harg9 arg10 arg11 x0 x1 x2 x3 x4 x6 x7 x8 (ix2 r d)
      = kernelRun0_A.sl.v636 c i arg1 harg1 arg2 harg2 arg3 harg3 arg4 harg4 arg5 harg5 arg7 harg7 arg8 harg8 arg9 harg9 arg10 arg11 x0 x1 x2 x3 x4 x6 x7 x8 (ix2 r d)
        + share x6 x7 x8 X g s n0 2304 (by omega) r d := by
  unfold kernelRun0_A.sl.v643 kernelRun0_A.sl.H9_10
  refine (congrFun (readTop _ _ _ _ _) _).trans ?_
  refine (pay21_at _ _ _ r d).trans ?_
  refine congrArg (fun b : EReal => _ + b) ?_
  exact share_at arg7 harg7 arg8 harg8 arg9 harg9 x6 x7 x8 X g s n0 _ hH 2304 5120 (by omega) rfl _ _ _ _ _ r d

theorem acc10 (r d : Fin 1024) :
    kernelRun0_A.sl.v649 c i arg1 harg1 arg2 harg2 arg3 harg3 arg4 harg4 arg5 harg5 arg7 harg7 arg8 harg8 arg9 harg9 arg10 arg11 x0 x1 x2 x3 x4 x6 x7 x8 (ix2 r d)
      = kernelRun0_A.sl.v643 c i arg1 harg1 arg2 harg2 arg3 harg3 arg4 harg4 arg5 harg5 arg7 harg7 arg8 harg8 arg9 harg9 arg10 arg11 x0 x1 x2 x3 x4 x6 x7 x8 (ix2 r d)
        + share x6 x7 x8 X g s n0 2560 (by omega) r d := by
  unfold kernelRun0_A.sl.v649 kernelRun0_A.sl.H9_11
  refine (congrFun (readTop _ _ _ _ _) _).trans ?_
  refine (pay21_at _ _ _ r d).trans ?_
  refine congrArg (fun b : EReal => _ + b) ?_
  exact share_at arg7 harg7 arg8 harg8 arg9 harg9 x6 x7 x8 X g s n0 _ hH 2560 5376 (by omega) rfl _ _ _ _ _ r d

/-- The eleven blocks' shares make the whole product. -/
theorem acc_all (r d : Fin 1024) :
    kernelRun0_A.sl.v649 c i arg1 harg1 arg2 harg2 arg3 harg3 arg4 harg4 arg5 harg5 arg7 harg7 arg8 harg8 arg9 harg9 arg10 arg11 x0 x1 x2 x3 x4 x6 x7 x8 (ix2 r d)
      = ∑ f : Fin 2816, gated X g s (fun k j => x6 (ix2 k j)) (fun t j => x7 (ix2 t j)) (n0 + r.val)
          ⟨f.val, by omega⟩ ⟨2816 + f.val, by omega⟩ * x8 (ix2 f d) := by
  rw [acc10 (hH := hH), acc9 (hH := hH), acc8 (hH := hH), acc7 (hH := hH), acc6 (hH := hH), acc5 (hH := hH), acc4 (hH := hH), acc3 (hH := hH), acc2 (hH := hH), acc1 (hH := hH), acc0 (hH := hH)]
  refine Eq.trans (b := ∑ t : Fin 11, ∑ f : Fin 256, gated X g s (fun k j => x6 (ix2 k j)) (fun t j => x7 (ix2 t j)) (n0 + r.val)
    ⟨t.val * 256 + f.val, by omega⟩ ⟨2816 + (t.val * 256 + f.val), by omega⟩ * x8 (ix2 ⟨t.val * 256 + f.val, by omega⟩ d)) ?_ ?_
  · exact eleven (fun t => ∑ f : Fin 256, gated X g s (fun k j => x6 (ix2 k j)) (fun t j => x7 (ix2 t j)) (n0 + r.val)
      ⟨t.val * 256 + f.val, by omega⟩ ⟨2816 + (t.val * 256 + f.val), by omega⟩ * x8 (ix2 ⟨t.val * 256 + f.val, by omega⟩ d))
  · exact Fin.sum_mul_add_congr (S := 11) (n := 256) (L := 2816)
      (f := fun f => gated X g s (fun k j => x6 (ix2 k j)) (fun t j => x7 (ix2 t j)) (n0 + r.val)
          ⟨f.val, by omega⟩ ⟨2816 + f.val, by omega⟩ * x8 (ix2 f d)) (fun t f hl => rfl) rfl

/-- The block a point writes back, at an index. -/
theorem out_at (r d : Fin 1024) :
    out0_A_9 c i arg1 harg1 arg2 harg2 arg3 harg3 arg4 harg4 arg5 harg5 arg6 harg6 arg7 harg7 arg8 harg8 arg9 harg9 arg10 harg10 arg11 harg11
        x0 x1 x2 x3 x4 x5 x6 x7 x8 (ix2 r d)
      = x0 (ix2 r d) + x5 (ix2 0 d) * ∑ f : Fin 2816, gated X g s (fun k j => x6 (ix2 k j)) (fun t j => x7 (ix2 t j)) (n0 + r.val)
          ⟨f.val, by omega⟩ ⟨2816 + f.val, by omega⟩ * x8 (ix2 f d) := by
  rw [← acc_all (hH := hH)]
  unfold out0_A_9
  rw [View.read_writes_junk_eq_canon]
  unfold kernelRun0_A
  dsimp only
  refine (congrFun (View.canon_cons_unit_lit _ _ _ (fun a => by fin_cases a <;> rfl)) _).trans ?_
  refine (pay1_at _ _ _ r d).trans ?_
  unfold kernelRun0_A.sl.r_61
  rw [readAll harg1, readAll harg6]

end Sum

end Cert.Kernel2Ideal.Gen
-- ==== Proof.FfnRef.lean ====
/- The reference's feed-forward block at an index. -/
module

public import proofs.«01_k».proof.Proof.NormConv
public import proofs.«01_k».proof.Proof.Gen.Reference2Ideal.Read
public import Idealize.ShloMosaic.Lib.KernelVsHost
public import Idealize.ShloMosaic.Lib.Pipeline.ValueKit

@[expose] public section

set_option maxRecDepth 16384

noncomputable section

namespace Cert.Reference2Ideal.Read

open Idealize.ShloMosaic Idealize.ShloMosaic.TcCoe
open Idealize.SL Idealize.SL.Sem
open Cert.Math

variable (x0 : S16384x1024.Idx → EReal) (x1 x2 x3 x4 : S1x1024.Idx → EReal) (x5 : S1024x5632.Idx → EReal)
  (x6 : S3x5632.Idx → EReal) (x7 : S2816x1024.Idx → EReal)

/-- The array's rows. -/
abbrev rows (i : Fin 16384) (d : Fin 1024) : EReal := x0 (ix2 i d)
/-- The gain, with the scale's factor. -/
abbrev gain (d : Fin 1024) : EReal := x1 (ix2 0 d) * (1 + x3 (ix2 0 d))
/-- The shift. -/
abbrev shift (d : Fin 1024) : EReal := x2 (ix2 0 d)

theorem v17_at (i : Fin 16384) (d : Fin 1024) :
    val_main_v17 (F := Ideal) x0 x1 x2 x3 (ix2 i d) = nrow (rows x0 i) (gain x1 x3) (shift x2) d := by
  unfold nrow rowInv
  rw [← mul_assoc]
  pointwise [val_main_v17, val_main_v0, val_main_cst, val_main_v1, val_main_v2, val_main_cst_0, val_main_v3, val_main_v4,
    val_main_cst_1, val_main_v5, val_main_v6, val_main_v7, val_main_v8, val_main_v9, val_main_v10, val_main_v11,
    val_main_cst_2, val_main_v12, val_main_v13, val_main_v14, val_main_v15, val_main_v16]

theorem v18_at (i : Fin 16384) (j : Fin 5632) :
    val_main_v18 (F := Ideal) x0 x1 x2 x3 x5 (ix2 i j)
      = ∑ k, nrow (rows x0 i) (gain x1 x3) (shift x2) k * x5 (ix2 k j) := by
  pointwise [val_main_v18]
  exact Finset.sum_congr rfl fun k _ => by rw [v17_at]

theorem pad_zero (i : S_.Idx) : val_main_call0_v0 (F := Ideal) i = (0 : EReal) := by
  rw [val_main_call0_v0_apply, val_main_c_apply]
  show ((((0#32 : BitVec 32).toInt : ℝ)) : EReal) = 0
  simp

theorem v19_at (r : Fin 16386) (j : Fin 5632) :
    val_main_v19 (F := Ideal) x0 x1 x2 x3 x5 (ix2 r j)
      = lin (rows x0) (gain x1 x3) (shift x2) (fun k => x5 (ix2 k j)) r.val := by
  unfold val_main_v19
  have hr := r.isLt
  by_cases h : 1 ≤ r.val ∧ r.val ≤ 16384
  · rw [lin_row _ _ _ _ r.val ⟨r.val - 1, by omega⟩ (by show r.val = r.val - 1 + 1; omega), ← v18_at]
    refine pad_apply_of_inside _ _ _ _ _ _ _ _ _ fun a => ?_
    match a with
    | ⟨0, _⟩ => show r.val = 1 + (r.val - 1) * 1; omega
    | ⟨1, _⟩ => show j.val = 0 + j.val * 1; omega
  · rw [lin_out _ _ _ _ _ h]
    refine (pad_apply_of_not_inside _ _ _ _ _ _ _ _ (0 : Fin 2) fun hin => ?_).trans (pad_zero _)
    have h1 : 1 ≤ r.val := hin.1
    have h2 : (r.val - 1) / (0 + 1) < 16384 := hin.2.2
    omega

theorem v39_at (i : Fin 16384) (j : Fin 5632) :
    val_main_v39 (F := Ideal) x0 x1 x2 x3 x5 x6 (ix2 i j)
      = cv (rows x0) (gain x1 x3) (shift x2) (fun k => x5 (ix2 k j)) (fun t => x6 (ix2 t j)) i.val := by
  pointwise [val_main_v39, val_main_v38, val_main_v37, val_main_v36, val_main_v35, val_main_v34, val_main_v33, val_main_v32,
    val_main_v31, val_main_v30, val_main_v29, val_main_v28, val_main_v27, val_main_v26, val_main_v25, val_main_v24,
    val_main_v23, val_main_v22, val_main_v21, val_main_v20]
  simp only [v19_at]
  unfold cv
  rw [add_comm 1 i.val, add_comm 2 i.val]

/-- The whole block at an index. -/
theorem v47_at (i : Fin 16384) (d : Fin 1024) :
    val_main_v47 (F := Ideal) x0 x1 x2 x3 x4 x5 x6 x7 (ix2 i d)
      = ffn (rows x0) (gain x1 x3) (shift x2) (fun d => x4 (ix2 0 d)) (fun k j => x5 (ix2 k j)) (fun t j => x6 (ix2 t j))
          (fun f d => x7 (ix2 f d)) i d := by
  pointwise [val_main_v47, val_main_v46, val_main_v45, val_main_v44, val_main_v43, val_main_v42, val_main_v41, val_main_v40,
    val_main_call1_v0, val_main_call1_v1, val_main_call1_v2, val_main_call1_v3, val_main_call1_v4, val_main_call1_v5,
    val_main_call1_cst, val_main_call1_cst_0]
  simp only [v39_at]
  rfl

end Cert.Reference2Ideal.Read
-- ==== Proof.FfnFold.lean ====
/- The feed-forward kernel's array after its run: each row, gated through the whole product. -/
module

public import proofs.«01_k».proof.Proof.FfnBlock
public import proofs.«01_k».proof.Proof.FfnRef
public import proofs.«01_k».proof.Proof.Gen.Kernel2Ideal.Value

@[expose] public section

set_option maxRecDepth 16384

noncomputable section

namespace Cert.Kernel2Ideal.Gen

open Idealize.ShloMosaic Idealize.ShloMosaic.TcCoe
open Idealize.SL Idealize.SL.Sem
open Idealize.ShloMosaic.Rounds
open Cert.Math Cert.Reference2Ideal.Read

variable (m : (ℓ : Loc nD τ sig) → Buf (Elt Ideal) ℓ)

/-- The rows. -/
abbrev A0 (c : Dev nD) : S16384x1024.Idx → EReal := m ((c : Thread nD τ).loc main_arg0)
/-- The gain. -/
abbrev A1 (c : Dev nD) : S1x1024.Idx → EReal := m ((c : Thread nD τ).loc main_arg1)
/-- The shift. -/
abbrev A2 (c : Dev nD) : S1x1024.Idx → EReal := m ((c : Thread nD τ).loc main_arg2)
/-- The scale. -/
abbrev A3 (c : Dev nD) : S1x1024.Idx → EReal := m ((c : Thread nD τ).loc main_arg3)
/-- The output's gate. -/
abbrev A4 (c : Dev nD) : S1x1024.Idx → EReal := m ((c : Thread nD τ).loc main_arg4)
/-- The up weights. -/
abbrev A5 (c : Dev nD) : S1024x5632.Idx → EReal := m ((c : Thread nD τ).loc main_arg5)
/-- The three taps. -/
abbrev A6 (c : Dev nD) : S3x5632.Idx → EReal := m ((c : Thread nD τ).loc main_arg6)
/-- The down weights. -/
abbrev A7 (c : Dev nD) : S2816x1024.Idx → EReal := m ((c : Thread nD τ).loc main_arg7)

theorem idx : ∀ t : Fin cfg0.N, win0_0.index t = ![t.val, 0] ∧ win0_1.index t = ![64 * t.val - 1, 0]
    ∧ win0_2.index t = ![min (64 * (t.val + 1)) 1023, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![t.val, 0] :=
  (by decide +kernel : ∀ t : Fin grid0.N, _)

theorem blk0 (c : Dev nD) (t : Fin cfg0.N) (r d : Fin 1024) (h : t.val * 1024 + r.val < 16384) :
    iblk m c 0 t (ix2 r d) = A0 m c (ix2 ⟨t.val * 1024 + r.val, h⟩ d) := by
  blk_ext [iblk, V, idx t]

theorem blk1 (c : Dev nD) (t : Fin cfg0.N) (r : Fin 16) (d : Fin 1024) (h : (64 * t.val - 1) * 16 + r.val < 16384) :
    iblk m c 1 t (ix2 r d) = A0 m c (ix2 ⟨(64 * t.val - 1) * 16 + r.val, h⟩ d) := by
  blk_ext [iblk, V, idx t]

theorem blk2 (c : Dev nD) (t : Fin cfg0.N) (r : Fin 16) (d : Fin 1024) (h : min (64 * (t.val + 1)) 1023 * 16 + r.val < 16384) :
    iblk m c 2 t (ix2 r d) = A0 m c (ix2 ⟨min (64 * (t.val + 1)) 1023 * 16 + r.val, h⟩ d) := by
  blk_ext [iblk, V, idx t]

theorem V2 (c : Dev nD) (d : Fin 1024) : V m c main_v2 (ix2 0 d) = gain (A1 m c) (A3 m c) d := by
  unfold_abbrev_sides
  after_results
  pointwise []
  rfl

theorem V3 (c : Dev nD) : V m c main_v3 = A5 m c := by
  unfold_abbrev_sides
  after_results
  rfl

theorem V4 (c : Dev nD) : V m c main_v4 = A7 m c := by
  unfold_abbrev_sides
  after_results
  rfl

theorem blk3 (c : Dev nD) (t : Fin cfg0.N) (d : Fin 1024) : iblk m c 3 t (ix2 0 d) = gain (A1 m c) (A3 m c) d := by
  refine Eq.trans ?_ (V2 m c d)
  blk_ext [iblk, idx t]

theorem blk4 (c : Dev nD) (t : Fin cfg0.N) (d : Fin 1024) : iblk m c 4 t (ix2 0 d) = shift (A2 m c) d := by
  blk_ext [iblk, V, idx t]

theorem blk5 (c : Dev nD) (t : Fin cfg0.N) (d : Fin 1024) : iblk m c 5 t (ix2 0 d) = A4 m c (ix2 0 d) := by
  blk_ext [iblk, V, idx t]

theorem blk6 (c : Dev nD) (t : Fin cfg0.N) (k : Fin 1024) (j : Fin 5632) : iblk m c 6 t (ix2 k j) = A5 m c (ix2 k j) := by
  rw [← V3]
  blk_ext [iblk, idx t]

theorem blk7 (c : Dev nD) (t : Fin cfg0.N) (k : Fin 3) (j : Fin 5632) : iblk m c 7 t (ix2 k j) = A6 m c (ix2 k j) := by
  blk_ext [iblk, V, idx t]

theorem blk8 (c : Dev nD) (t : Fin cfg0.N) (k : Fin 2816) (j : Fin 1024) : iblk m c 8 t (ix2 k j) = A7 m c (ix2 k j) := by
  rw [← V4]
  blk_ext [iblk, idx t]

/-- The rows before a tile are taken except for the first tile. -/
theorem before_some : ∀ t : Fin cfg0.N, 0 < t.val → Scalar.cmpi .sgt (BitVec.ofNat 32 (grid0.coords t 0).val) 0#32 = 1#1 :=
  (by decide +kernel : ∀ t : Fin grid0.N, _)
theorem before_none : ∀ t : Fin cfg0.N, t.val = 0 → Scalar.cmpi .sgt (BitVec.ofNat 32 (grid0.coords t 0).val) 0#32 = 0#1 :=
  (by decide +kernel : ∀ t : Fin grid0.N, _)
/-- The rows after a tile are taken except for the last tile. -/
theorem after_some : ∀ t : Fin cfg0.N, t.val < 15 → Scalar.cmpi .slt (BitVec.ofNat 32 (grid0.coords t 0).val) 15#32 = 1#1 :=
  (by decide +kernel : ∀ t : Fin grid0.N, _)
theorem after_none : ∀ t : Fin cfg0.N, t.val = 15 → Scalar.cmpi .slt (BitVec.ofNat 32 (grid0.coords t 0).val) 15#32 = 0#1 :=
  (by decide +kernel : ∀ t : Fin grid0.N, _)

/-- The normalised rows a point holds are the padded array's. -/
theorem held (c : Dev nD) (t : Fin cfg0.N) (q : Fin 1056) (k : Fin 1024) :
    hs c (grid0.coords t) (ms0_0 t) (hs0_0 t) (ms0_1 t) (hs0_1 t) (ms0_2 t) (hs0_2 t) (ms0_3 t) (hs0_3 t) (ms0_4 t) (hs0_4 t)
      (scM0_0) (iblk m c 0 t) (iblk m c 1 t) (iblk m c 2 t) (iblk m c 3 t) (iblk m c 4 t) (ix2 q k)
      = hp (rows (A0 m c)) (gain (A1 m c) (A3 m c)) (shift (A2 m c)) (1024 * t.val + q.val - 15) k := by
  have ht : t.val < 16 := t.isLt
  have hq := q.isLt
  by_cases h1 : q.val < 16
  · refine (hs_lo (i := grid0.coords t) (q := q) (r := ⟨q.val, h1⟩) (h := rfl) (k := k) ..).trans ?_
    by_cases h0 : t.val = 0
    · rw [before_none t h0, ValueIdx.select_zero, hp_out]
      omega
    · rw [before_some t (by omega), ValueIdx.select_one, hp_row _ _ _ _ ⟨(64 * t.val - 1) * 16 + q.val, by omega⟩ (by dsimp only; omega)]
      exact nrow_congr (fun d => blk1 m c t _ d _) (fun d => blk3 m c t d) (fun d => blk4 m c t d) k
  · by_cases h2 : q.val < 1040
    · refine (hs_mid (i := grid0.coords t) (q := q) (r := ⟨q.val - 16, by omega⟩) (h := by dsimp only; omega) (k := k) ..).trans ?_
      rw [hp_row _ _ _ _ ⟨t.val * 1024 + (q.val - 16), by omega⟩ (by dsimp only; omega)]
      exact nrow_congr (fun d => blk0 m c t _ d _) (fun d => blk3 m c t d) (fun d => blk4 m c t d) k
    · refine (hs_hi (i := grid0.coords t) (q := q) (r := ⟨q.val - 1040, by omega⟩) (h := by dsimp only; omega) (k := k) ..).trans ?_
      by_cases h0 : t.val = 15
      · rw [after_none t h0, ValueIdx.select_zero, hp_out]
        omega
      · rw [after_some t (by omega), ValueIdx.select_one, hp_row _ _ _ _ ⟨min (64 * (t.val + 1)) 1023 * 16 + (q.val - 1040), by omega⟩ (by dsimp only; omega)]
        exact nrow_congr (fun d => blk2 m c t _ d _) (fun d => blk3 m c t d) (fun d => blk4 m c t d) k

/-- The output array. -/
def ffnA (c : Dev nD) : S16384x1024.Idx → EReal := fun y =>
  ffn (rows (A0 m c)) (gain (A1 m c) (A3 m c)) (shift (A2 m c)) (fun d => A4 m c (ix2 0 d)) (fun k j => A5 m c (ix2 k j))
    (fun t j => A6 m c (ix2 t j)) (fun f d => A7 m c (ix2 f d)) (y 0) (y 1)

/-- A point's block, at an index. -/
theorem block_at (c : Dev nD) (t : Fin cfg0.N) (r d : Fin 1024) (h : t.val * 1024 + r.val < 16384) :
    outsAt0 m c t (ix2 r d) = ffnA m c (ix2 ⟨t.val * 1024 + r.val, h⟩ d) := by
  have e6 : (fun (k : Fin 1024) (j : Fin 5632) => iblk m c 6 t (ix2 k j)) = fun k j => A5 m c (ix2 k j) := funext fun k => funext fun j => blk6 m c t k j
  have e7 : (fun (k : Fin 3) (j : Fin 5632) => iblk m c 7 t (ix2 k j)) = fun k j => A6 m c (ix2 k j) := funext fun k => funext fun j => blk7 m c t k j
  unfold outsAt0
  refine (out_at (hH := held m c t) (n0 := 1024 * t.val) (r := r) (d := d) ..).trans ?_
  unfold ffnA ffn
  refine congr (congrArg (fun (a b : EReal) => a + b) (blk0 m c t r d h)) (congr (congrArg (fun (a b : EReal) => a * b) (blk5 m c t d))
    (Finset.sum_congr rfl fun f _ => congr (congrArg (fun (a b : EReal) => a * b) ?_) (blk8 m c t f d)))
  rw [e6, e7, Nat.mul_comm 1024]
  rfl

theorem final (c : Dev nD) : (dats m 0 c).arrAt 9 cfg0.N = ffnA m c := by
  refine (dats m 0 c).arrAt_eq_of_covers 9 _ (by decide +kernel) fun t hf y => ?_
  rw [after0_9]
  have ht : t.val < 16 := t.isLt
  have hi : (y 0).val < 1024 := (y 0).isLt
  have hd : (y 1).val < 1024 := (y 1).isLt
  have key := block_at m c t
  generalize outsAt0 m c t = S at key ⊢
  refine (congrArg S (ix2_eta y).symm).trans ((key ⟨(y 0).val, hi⟩ ⟨(y 1).val, hd⟩ (by dsimp only; omega)).trans ?_)
  refine congrArg (ffnA m c) ?_
  funext a
  fin_cases a
  · exact Fin.ext (by blk_simp [idx t]; rfl)
  · exact Fin.ext (by blk_simp [idx t]; rfl)

end Cert.Kernel2Ideal.Gen
-- ==== Proof.ProjSpec.lean ====
/- The input projection as a function: the gates, and the mixing inputs with the first branch's columns convolved. -/
module

public import proofs.«01_k».proof.Proof.NormConv

@[expose] public section

noncomputable section

namespace Cert.Math

open Idealize.ShloMosaic

/-- The logistic function. -/
def sigm (z : EReal) : EReal := Ideal.div 1 (1 + Ideal.exp (-z))

variable (X : Fin 16384 → Fin 1024 → EReal) (g s : Fin 1024 → EReal) (W : Fin 1024 → Fin 5536 → EReal) (C : Fin 3 → Fin 1536 → EReal)

/-- A gate. -/
def gateEntry (i : Fin 16384) (j : Fin 3072) : EReal := sigm (lin X g s (fun k => W k ⟨2464 + j.val, by omega⟩) (i.val + 1))

/-- A mixing input: 1536 convolved columns, 672 plain ones, 96 zeros, 256 plain ones. -/
def mixEntry (i : Fin 16384) (j : Fin 2560) : EReal :=
  if h : j.val < 1536 then cv X g s (fun k => W k ⟨j.val, by omega⟩) (fun t => C t ⟨j.val, h⟩) i.val
  else if h2 : j.val - 1536 < 672 then lin X g s (fun k => W k ⟨1536 + (j.val - 1536), by omega⟩) (i.val + 1)
  else if h3 : j.val - 1536 - 672 < 96 then 0
  else lin X g s (fun k => W k ⟨2208 + (j.val - 1536 - 672 - 96), by omega⟩) (i.val + 1)

/-- The weights with the gates' columns first and 96 zero columns before the last 256. -/
def permW (k : Fin 1024) (j : Fin 5632) : EReal :=
  if h : j.val < 3072 then W k ⟨2464 + j.val, by omega⟩
  else if h1 : j.val - 3072 < 1536 then W k ⟨j.val - 3072, by omega⟩
  else if h2 : j.val - 3072 - 1536 < 672 then W k ⟨1536 + (j.val - 3072 - 1536), by omega⟩
  else if h3 : j.val - 3072 - 1536 - 672 < 96 then 0
  else W k ⟨2208 + (j.val - 3072 - 1536 - 672 - 96), by omega⟩

/-- The gates from the permuted weights. -/
theorem gate_perm (i : Fin 16384) (j : Fin 3072) :
    sigm (lin X g s (fun k => permW W k ⟨j.val, by omega⟩) (i.val + 1)) = gateEntry X g s W i j := by
  unfold gateEntry permW
  simp only [dif_pos j.isLt]

/-- The mixing inputs from the permuted weights. -/
theorem mix_perm (i : Fin 16384) (j : Fin 2560) :
    (if h : j.val < 1536 then cv X g s (fun k => permW W k ⟨3072 + j.val, by omega⟩) (fun t => C t ⟨j.val, h⟩) i.val
      else lin X g s (fun k => permW W k ⟨3072 + j.val, by omega⟩) (i.val + 1)) = mixEntry X g s W C i j := by
  unfold mixEntry permW
  have hj := j.isLt
  have h0 : ¬ 3072 + j.val < 3072 := by omega
  have e : 3072 + j.val - 3072 = j.val := by omega
  simp only [dif_neg h0, e]
  by_cases h1 : j.val < 1536
  · simp only [dif_pos h1]
  · by_cases h2 : j.val - 1536 < 672
    · simp only [dif_neg h1, dif_pos h2]
    · by_cases h3 : j.val - 1536 - 672 < 96
      · simp only [dif_neg h1, dif_neg h2, dif_pos h3]
        exact Finset.sum_eq_zero fun k _ => mul_zero _
      · simp only [dif_neg h1, dif_neg h2, dif_neg h3]

end Cert.Math
-- ==== Proof.ProjPay.lean ====
/- The input projection kernel's payloads at an index. -/
module

public import proofs.«01_k».proof.Proof.ProjSpec
public import proofs.«01_k».proof.Proof.Gen.Kernel3Ideal.Skeleton
public import Idealize.ShloMosaic.Lib.Pipeline.ValueKit
public import Idealize.ShloMosaic.Lib.KernelVsHost

@[expose] public section

set_option maxRecDepth 16384

noncomputable section

namespace Cert.Kernel3Ideal.Gen

open Idealize.ShloMosaic Idealize.ShloMosaic.TcCoe
open Idealize.SL Idealize.SL.Sem
open Idealize.ShloMosaic.Rounds
open Cert.Math

/-- The tile's rows, normalised. -/
theorem pay2_at (g s : Vec Ideal S1x1024 .f32) (x : Vec Ideal S512x1024 .f32) (i : Fin 512) (k : Fin 1024) :
    k0_pay2 (F := Ideal) g s x (ix2 i k)
      = nrow (fun d => x (ix2 i d)) (fun d => g (ix2 0 d)) (fun d => s (ix2 0 d)) k := by
  unfold nrow rowInv
  pointwise [k0_pay2, k0_pay1]

/-- The rows before the tile, normalised, or zero at the first tile. -/
theorem pay4_at (n : grid0.Coords) (g s : Vec Ideal S1x1024 .f32) (x : Vec Ideal S16x1024 .f32) (i : Fin 16) (k : Fin 1024) :
    k0_pay4 (F := Ideal) (k0_pay3 n g s x) (ix2 i k)
      = Scalar.select (Scalar.cmpi .sgt (BitVec.ofNat 32 (n 0).val) 0#32)
          (nrow (fun d => x (ix2 i d)) (fun d => g (ix2 0 d)) (fun d => s (ix2 0 d)) k) 0 := by
  unfold nrow rowInv
  pointwise [k0_pay4, k0_pay3, k0_pay1]

/-- The rows after the tile, normalised, or zero at the last tile. -/
theorem pay5_at (n : BitVec 32) (g s : Vec Ideal S1x1024 .f32) (x : Vec Ideal S16x1024 .f32) (i : Fin 16) (k : Fin 1024) :
    k0_pay5 (F := Ideal) n (k0_pay1 g) s x (ix2 i k)
      = Scalar.select (Scalar.cmpi .slt n 31#32)
          (nrow (fun d => x (ix2 i d)) (fun d => g (ix2 0 d)) (fun d => s (ix2 0 d)) k) 0 := by
  unfold nrow rowInv
  pointwise [k0_pay5, k0_pay1]

section Blocks

variable (X : Fin 16384 → Fin 1024 → EReal) (g s : Fin 1024 → EReal) (n0 : ℕ)
  (P : Fin 1024 → Fin 5632 → EReal) (A : S1024x512.Idx → EReal) (u : Fin 512 → Fin 5632) (hA : ∀ k j, A (ix2 k j) = P k (u j))

include hA

/-- A block of plain columns. -/
theorem plain_at (M : S512x1024.Idx → EReal) (hM : ∀ (r : Fin 512) (k : Fin 1024), M (ix2 r k) = hp X g s (n0 + r.val + 1) k)
    (i j : Fin 512) : k0_pay25 (F := Ideal) M A (ix2 i j) = lin X g s (fun k => P k (u j)) (n0 + i.val + 1) := by
  unfold lin
  pointwise [k0_pay25]
  simp only [hM, hA]

/-- A block of gates. -/
theorem gates_at (M : S512x1024.Idx → EReal) (hM : ∀ (r : Fin 512) (k : Fin 1024), M (ix2 r k) = hp X g s (n0 + r.val + 1) k)
    (i j : Fin 512) : k0_pay11 (F := Ideal) M A (ix2 i j) = sigm (lin X g s (fun k => P k (u j)) (n0 + i.val + 1)) := by
  unfold sigm lin
  rw [← tanh_logistic, ← half_const]
  pointwise [k0_pay11]
  simp only [hM, hA]

/-- A block of convolved columns. -/
theorem conv_at (H : S544x1024.Idx → EReal) (hH : ∀ (q : Fin 544) (k : Fin 1024), H (ix2 q k) = hp X g s (n0 + q.val - 15) k)
    (C : Fin 3 → Fin 1536 → EReal) (a : S3x512.Idx → EReal) (v : Fin 512 → Fin 1536) (ha : ∀ t j, a (ix2 t j) = C t (v j))
    (i j : Fin 512) : k0_pay18 (F := Ideal) (k0_pay14 (F := Ideal) H A) a (ix2 i j)
      = cv X g s (fun k => P k (u j)) (fun t => C t (v j)) (n0 + i.val) := by
  have hi := i.isLt
  unfold cv lin
  pointwise [k0_pay18, k0_pay14]
  have e1 : n0 + (16 + i.val + 544 - 1) % 544 - 15 = n0 + i.val := by omega
  have e2 : n0 + (16 + i.val) - 15 = n0 + i.val + 1 := by omega
  have e3 : n0 + (16 + i.val + 544 - 543) % 544 - 15 = n0 + i.val + 2 := by omega
  simp only [hH, hA, ha, e1, e2, e3]

end Blocks

end Cert.Kernel3Ideal.Gen
-- ==== Proof.ProjBlock.lean ====
/- What one grid point of the input projection's kernel writes back. -/
module

public import proofs.«01_k».proof.Proof.ProjPay
public import proofs.«01_k».proof.Proof.ReadRect
public import proofs.«01_k».proof.Proof.Gen.Kernel3Ideal.Frame

@[expose] public section

set_option maxRecDepth 16384

noncomputable section

namespace Cert.Kernel3Ideal.Gen

open Idealize.ShloMosaic Idealize.ShloMosaic.TcCoe
open Idealize.SL Idealize.SL.Sem
open Idealize.ShloMosaic.Rounds
open Cert.Math

/-- Columns stored last, at an index inside them. -/
theorem colHit {n p p' : ℕ} {e : EltTy} (q : ℕ) (inb) (w : Vec Ideal ⟨2, ![n, p']⟩ e) (L : List (View.Piece (Elt Ideal) ⟨2, ![n, p]⟩ e))
    (r : Fin n) (j : Fin p) (j' : Fin p') (h : j.val = q + j'.val) :
    View.canon (⟨Rect.unit (s := ⟨2, ![n, p]⟩) ![0, q] ![n, p'] inb, w⟩ :: L) (ix2 r j) = w (ix2 r j') := by
  refine Eq.trans (congrArg _ (funext fun d => ?_)) (View.canon_cons_emb (Rect.unit (s := ⟨2, ![n, p]⟩) ![0, q] ![n, p'] inb) w L (ix2 r j'))
  fin_cases d
  · exact Fin.ext (by show r.val = 0 + 1 * r.val; omega)
  · exact Fin.ext (by show j.val = q + 1 * j'.val; omega)

/-- Columns stored last, at an index outside them. -/
theorem colMiss {n p p' : ℕ} {e : EltTy} (q : ℕ) (inb) (w : Vec Ideal ⟨2, ![n, p']⟩ e) (L : List (View.Piece (Elt Ideal) ⟨2, ![n, p]⟩ e))
    (r : Fin n) (j : Fin p) (h : j.val < q ∨ q + p' ≤ j.val) :
    View.canon (⟨Rect.unit (s := ⟨2, ![n, p]⟩) ![0, q] ![n, p'] inb, w⟩ :: L) (ix2 r j) = View.canon L (ix2 r j) :=
  View.canon_cons_of_not_mem _ _ (Rect.not_mem_set_of_axis _ _ 1 q p' rfl rfl rfl h)

variable (c : Dev nD) (i : grid0.Coords) (arg1 : Memref sig .tc .vmem S512x1024 .f32) (harg1 : arg1.IsWhole)
  (arg2 : Memref sig .tc .vmem S16x1024 .f32) (harg2 : arg2.IsWhole) (arg3 : Memref sig .tc .vmem S16x1024 .f32) (harg3 : arg3.IsWhole)
  (arg4 : Memref sig .tc .vmem S1x1024 .f32) (harg4 : arg4.IsWhole) (arg5 : Memref sig .tc .vmem S1x1024 .f32) (harg5 : arg5.IsWhole)
  (arg6 : Memref sig .tc .vmem S1024x5632 .bf16) (harg6 : arg6.IsWhole) (arg7 : Memref sig .tc .vmem S3x1536 .f32) (harg7 : arg7.IsWhole)
  (arg8 : Memref sig .tc .vmem S512x3072 .bf16) (harg8 : arg8.IsWhole) (arg9 : Memref sig .tc .vmem S512x2560 .f32) (harg9 : arg9.IsWhole)
  (arg10 : Memref sig .tc .vmem S544x1024 .bf16) (harg10 : arg10.IsWhole)
  (x0 : Vec Ideal S512x1024 .f32) (x1 : Vec Ideal S16x1024 .f32) (x2 : Vec Ideal S16x1024 .f32) (x3 : Vec Ideal S1x1024 .f32)
  (x4 : Vec Ideal S1x1024 .f32) (x5 : Vec Ideal S1024x5632 .bf16) (x6 : Vec Ideal S3x1536 .f32)

/-- The scratch of normalised rows a point fills. -/
abbrev hs : Vec Ideal S544x1024 .bf16 :=
  kernelRun0_A.sl.v135 c i arg1 harg1 arg2 harg2 arg3 harg3 arg4 harg4 arg5 harg5 arg10 x0 x1 x2 x3 x4

/-- The tile's own rows, read back from it. -/
abbrev ms : Vec Ideal S512x1024 .bf16 :=
  kernelRun0_A.sl.v66 c i arg1 harg1 arg2 harg2 arg3 harg3 arg4 harg4 arg5 harg5 arg10 x0 x1 x2 x3 x4

/-- The tile's own rows stand from row 16 on. -/
theorem hs_mid (q : Fin 544) (r : Fin 512) (h : q.val = 16 + r.val) (k : Fin 1024) :
    hs c i arg1 harg1 arg2 harg2 arg3 harg3 arg4 harg4 arg5 harg5 arg10 x0 x1 x2 x3 x4 (ix2 q k)
      = nrow (fun d => x0 (ix2 r d)) (fun d => x3 (ix2 0 d)) (fun d => x4 (ix2 0 d)) k := by
  have hr := r.isLt
  unfold hs kernelRun0_A.sl.v135
  refine (readSub _ _ 16 0 512 1024 _ inb_S544x1024_S512x1024_16_0 r k q k (by omega) (by omega)).trans ?_
  unfold kernelRun0_A.sl.HS0_3
  rw [View.canon_cons_of_not_mem _ _ (Rect.not_mem_set_of_axis _ _ 0 528 16 rfl rfl rfl (Or.inl (by show 16 + 1 * r.val < 528; omega))),
    View.canon_cons_of_not_mem _ _ (Rect.not_mem_set_of_axis _ _ 0 0 16 rfl rfl rfl (Or.inr (by show 0 + 16 ≤ 16 + 1 * r.val; omega)))]
  refine (View.canon_cons_emb _ _ _ _).trans ?_
  rw [readAll harg1, readAll harg4, readAll harg5, pay2_at]

/-- Reading the tile's own rows back is reading the scratch from row 16 on. -/
theorem ms_eq (r : Fin 512) (k : Fin 1024) :
    ms c i arg1 harg1 arg2 harg2 arg3 harg3 arg4 harg4 arg5 harg5 arg10 x0 x1 x2 x3 x4 (ix2 r k)
      = hs c i arg1 harg1 arg2 harg2 arg3 harg3 arg4 harg4 arg5 harg5 arg10 x0 x1 x2 x3 x4 (ix2 ⟨16 + r.val, by omega⟩ k) := by
  unfold hs kernelRun0_A.sl.v135
  refine Eq.trans ?_ (readSub _ _ 16 0 512 1024 _ inb_S544x1024_S512x1024_16_0 r k ⟨16 + r.val, by omega⟩ k rfl (by omega)).symm
  unfold ms kernelRun0_A.sl.v66
  rw [View.readCov_eq_canon']
  rfl

/-- The 16 rows before the tile stand first. -/
theorem hs_lo (q : Fin 544) (r : Fin 16) (h : q.val = r.val) (k : Fin 1024) :
    hs c i arg1 harg1 arg2 harg2 arg3 harg3 arg4 harg4 arg5 harg5 arg10 x0 x1 x2 x3 x4 (ix2 q k)
      = Scalar.select (Scalar.cmpi .sgt (BitVec.ofNat 32 (i 0).val) 0#32)
          (nrow (fun d => x1 (ix2 r d)) (fun d => x3 (ix2 0 d)) (fun d => x4 (ix2 0 d)) k) 0 := by
  have hr := r.isLt
  unfold hs kernelRun0_A.sl.v135
  refine (readSub _ _ 0 0 16 1024 _ inb_S544x1024_S16x1024_0_0 r k q k (by omega) (by omega)).trans ?_
  unfold kernelRun0_A.sl.HS0_3
  rw [View.canon_cons_of_not_mem _ _ (Rect.not_mem_set_of_axis _ _ 0 528 16 rfl rfl rfl (Or.inl (by show 0 + 1 * r.val < 528; omega)))]
  refine (View.canon_cons_emb _ _ _ _).trans ?_
  unfold kernelRun0_A.sl.r_2
  rw [readAll harg2, readAll harg4, readAll harg5, pay4_at]

/-- The 16 rows after the tile stand last. -/
theorem hs_hi (q : Fin 544) (r : Fin 16) (h : q.val = 528 + r.val) (k : Fin 1024) :
    hs c i arg1 harg1 arg2 harg2 arg3 harg3 arg4 harg4 arg5 harg5 arg10 x0 x1 x2 x3 x4 (ix2 q k)
      = Scalar.select (Scalar.cmpi .slt (BitVec.ofNat 32 (i 0).val) 31#32)
          (nrow (fun d => x2 (ix2 r d)) (fun d => x3 (ix2 0 d)) (fun d => x4 (ix2 0 d)) k) 0 := by
  have hr := r.isLt
  unfold hs kernelRun0_A.sl.v135
  refine (readSub _ _ 528 0 16 1024 _ inb_S544x1024_S16x1024_528_0 r k q k (by omega) (by omega)).trans ?_
  unfold kernelRun0_A.sl.HS0_3
  refine (View.canon_cons_emb _ _ _ _).trans ?_
  unfold kernelRun0_A.sl.r kernelRun0_A.sl.r_1
  rw [readAll harg3, readAll harg4, readAll harg5, pay5_at]

section Blocks

variable (X : Fin 16384 → Fin 1024 → EReal) (g s : Fin 1024 → EReal) (n0 : ℕ) (H : Vec Ideal S544x1024 .bf16) (M : Vec Ideal S512x1024 .bf16)
  (hH : ∀ (q : Fin 544) (k : Fin 1024), H (ix2 q k) = hp X g s (n0 + q.val - 15) k)
  (hM : ∀ (r : Fin 512) (k : Fin 1024), M (ix2 r k) = hp X g s (n0 + r.val + 1) k)

/-- A block of the weights' columns, loaded. -/
theorem cols (o : ℕ) (ho : o + 512 ≤ 5632) (inb) (k : Fin 1024) (j : Fin 512) :
    View.readAt (Elt Ideal) arg6.view (Rect.unit (s := S1024x5632) ![0, o] ![1024, 512] inb).toLoadRect (harg6.unread x5) (ix2 k j)
      = x5 (ix2 k ⟨o + j.val, by omega⟩) := by
  refine (read2 harg6 x5 0 o 1024 512 inb k j (by omega) (by omega)).trans (congrArg x5 ?_)
  exact funext fun a => Fin.ext (by match a with | ⟨0, _⟩ => exact Nat.zero_add _ | ⟨1, _⟩ => rfl)

include hM in
/-- A stored block of gates. -/
theorem gates_block (o : ℕ) (ho : o + 512 ≤ 5632) (inb) (r j : Fin 512) (y : Fin 5632) (hy : y.val = o + j.val) :
    k0_pay11 (F := Ideal) M (View.readAt (Elt Ideal) arg6.view (Rect.unit (s := S1024x5632) ![0, o] ![1024, 512] inb).toLoadRect (harg6.unread x5)) (ix2 r j)
      = sigm (lin X g s (fun k => x5 (ix2 k y)) (n0 + r.val + 1)) := by
  have ey : o + j.val < 5632 := by omega
  obtain rfl : y = ⟨o + j.val, ey⟩ := Fin.ext hy
  exact gates_at X g s n0 (fun k j => x5 (ix2 k j)) _ (fun j => ⟨o + j.val, by omega⟩) (cols arg6 harg6 x5 o ho inb) M hM r j

include hM in
/-- A stored block of plain columns. -/
theorem plain_block (o : ℕ) (ho : o + 512 ≤ 5632) (inb) (r j : Fin 512) (y : Fin 5632) (hy : y.val = o + j.val) :
    k0_pay25 (F := Ideal) M (View.readAt (Elt Ideal) arg6.view (Rect.unit (s := S1024x5632) ![0, o] ![1024, 512] inb).toLoadRect (harg6.unread x5)) (ix2 r j)
      = lin X g s (fun k => x5 (ix2 k y)) (n0 + r.val + 1) := by
  have ey : o + j.val < 5632 := by omega
  obtain rfl : y = ⟨o + j.val, ey⟩ := Fin.ext hy
  exact plain_at X g s n0 (fun k j => x5 (ix2 k j)) _ (fun j => ⟨o + j.val, by omega⟩) (cols arg6 harg6 x5 o ho inb) M hM r j

include hH in
/-- A stored block of convolved columns. -/
theorem conv_block (o o' : ℕ) (ho : o + 512 ≤ 5632) (ho' : o' + 512 ≤ 1536) (inb inb') (r j : Fin 512) (y : Fin 5632) (hy : y.val = o + j.val)
    (z : Fin 1536) (hz : z.val = o' + j.val) :
    k0_pay18 (F := Ideal) (k0_pay14 (F := Ideal) H
        (View.readAt (Elt Ideal) arg6.view (Rect.unit (s := S1024x5632) ![0, o] ![1024, 512] inb).toLoadRect (harg6.unread x5)))
        (View.readAt (Elt Ideal) arg7.view (Rect.unit (s := S3x1536) ![0, o'] ![3, 512] inb').toLoadRect (harg7.unread x6)) (ix2 r j)
      = cv X g s (fun k => x5 (ix2 k y)) (fun t => x6 (ix2 t z)) (n0 + r.val) := by
  have ey : o + j.val < 5632 := by omega
  obtain rfl : y = ⟨o + j.val, ey⟩ := Fin.ext hy
  have ez : o' + j.val < 1536 := by omega
  obtain rfl : z = ⟨o' + j.val, ez⟩ := Fin.ext hz
  refine conv_at X g s n0 (fun k j => x5 (ix2 k j)) _ (fun j => ⟨o + j.val, by omega⟩) (cols arg6 harg6 x5 o ho inb) H hH
    (fun t j => x6 (ix2 t j)) _ (fun j => ⟨o' + j.val, by omega⟩) (fun t j => ?_) r j
  refine (read2 harg7 x6 0 o' 3 512 inb' t j (by omega) (by omega)).trans (congrArg x6 ?_)
  exact funext fun a => Fin.ext (by match a with | ⟨0, _⟩ => exact Nat.zero_add _ | ⟨1, _⟩ => rfl)

end Blocks

section Out

variable (X : Fin 16384 → Fin 1024 → EReal) (g s : Fin 1024 → EReal) (n0 : ℕ)
  (hH : ∀ (q : Fin 544) (k : Fin 1024), hs c i arg1 harg1 arg2 harg2 arg3 harg3 arg4 harg4 arg5 harg5 arg10 x0 x1 x2 x3 x4 (ix2 q k) = hp X g s (n0 + q.val - 15) k)

include hH

theorem ms_at (r : Fin 512) (k : Fin 1024) :
    ms c i arg1 harg1 arg2 harg2 arg3 harg3 arg4 harg4 arg5 harg5 arg10 x0 x1 x2 x3 x4 (ix2 r k) = hp X g s (n0 + r.val + 1) k := by
  rw [ms_eq, hH]
  exact congrArg (fun q => hp X g s q k) (by dsimp only; omega)

/-- The gates a point writes back, at an index. -/
theorem gates_out (r : Fin 512) (j : Fin 3072) :
    out0_A_7 c i arg1 harg1 arg2 harg2 arg3 harg3 arg4 harg4 arg5 harg5 arg6 harg6 arg7 harg7 arg8 harg8 arg9 harg9 arg10 harg10 x0 x1 x2 x3 x4 x5 x6 (ix2 r j)
      = sigm (lin X g s (fun k => x5 (ix2 k ⟨j.val, by omega⟩)) (n0 + r.val + 1)) := by
  have hj := j.isLt
  have key := gates_block arg6 harg6 x5 X g s n0 _ (ms_at c i arg1 harg1 arg2 harg2 arg3 harg3 arg4 harg4 arg5 harg5 arg10 x0 x1 x2 x3 x4 X g s n0 hH)
  unfold out0_A_7
  rw [View.read_writes_junk_eq_canon]
  unfold kernelRun0_A
  dsimp only
  by_cases h5 : 2560 ≤ j.val
  · refine (colHit 2560 _ _ _ r j ⟨j.val - 2560, by omega⟩ (by dsimp only; omega)).trans ?_
    exact key 2560 (by omega) _ r ⟨j.val - 2560, by omega⟩ ⟨j.val, by omega⟩ (by dsimp only; omega)
  refine (colMiss 2560 _ _ _ r j (Or.inl (by omega))).trans ?_
  by_cases h4 : 2048 ≤ j.val
  · refine (colHit 2048 _ _ _ r j ⟨j.val - 2048, by omega⟩ (by dsimp only; omega)).trans ?_
    exact key 2048 (by omega) _ r ⟨j.val - 2048, by omega⟩ ⟨j.val, by omega⟩ (by dsimp only; omega)
  refine (colMiss 2048 _ _ _ r j (Or.inl (by omega))).trans ?_
  by_cases h3 : 1536 ≤ j.val
  · refine (colHit 1536 _ _ _ r j ⟨j.val - 1536, by omega⟩ (by dsimp only; omega)).trans ?_
    exact key 1536 (by omega) _ r ⟨j.val - 1536, by omega⟩ ⟨j.val, by omega⟩ (by dsimp only; omega)
  refine (colMiss 1536 _ _ _ r j (Or.inl (by omega))).trans ?_
  by_cases h2 : 1024 ≤ j.val
  · refine (colHit 1024 _ _ _ r j ⟨j.val - 1024, by omega⟩ (by dsimp only; omega)).trans ?_
    exact key 1024 (by omega) _ r ⟨j.val - 1024, by omega⟩ ⟨j.val, by omega⟩ (by dsimp only; omega)
  refine (colMiss 1024 _ _ _ r j (Or.inl (by omega))).trans ?_
  by_cases h1 : 512 ≤ j.val
  · refine (colHit 512 _ _ _ r j ⟨j.val - 512, by omega⟩ (by dsimp only; omega)).trans ?_
    exact key 512 (by omega) _ r ⟨j.val - 512, by omega⟩ ⟨j.val, by omega⟩ (by dsimp only; omega)
  refine (colMiss 512 _ _ _ r j (Or.inl (by omega))).trans ?_
  refine (colHit 0 _ _ _ r j ⟨j.val, by omega⟩ (by dsimp only; omega)).trans ?_
  exact key 0 (by omega) _ r ⟨j.val, by omega⟩ ⟨j.val, by omega⟩ (by dsimp only; omega)

/-- The mixing inputs a point writes back, at an index. -/
theorem mix_out (r : Fin 512) (j : Fin 2560) :
    out0_A_8 c i arg1 harg1 arg2 harg2 arg3 harg3 arg4 harg4 arg5 harg5 arg6 harg6 arg7 harg7 arg8 harg8 arg9 harg9 arg10 harg10 x0 x1 x2 x3 x4 x5 x6 (ix2 r j)
      = if h : j.val < 1536 then cv X g s (fun k => x5 (ix2 k ⟨3072 + j.val, by omega⟩)) (fun t => x6 (ix2 t ⟨j.val, h⟩)) (n0 + r.val)
        else lin X g s (fun k => x5 (ix2 k ⟨3072 + j.val, by omega⟩)) (n0 + r.val + 1) := by
  have hj := j.isLt
  have key := plain_block arg6 harg6 x5 X g s n0 _ (ms_at c i arg1 harg1 arg2 harg2 arg3 harg3 arg4 harg4 arg5 harg5 arg10 x0 x1 x2 x3 x4 X g s n0 hH)
  have key' := conv_block arg6 harg6 arg7 harg7 x5 x6 X g s n0 _ hH
  unfold out0_A_8
  rw [View.read_writes_junk_eq_canon]
  unfold kernelRun0_A
  dsimp only
  by_cases h4 : 2048 ≤ j.val
  · refine (colHit 2048 _ _ _ r j ⟨j.val - 2048, by omega⟩ (by dsimp only; omega)).trans ?_
    rw [dif_neg (by omega)]
    exact key 5120 (by omega) _ r ⟨j.val - 2048, by omega⟩ ⟨3072 + j.val, by omega⟩ (by dsimp only; omega)
  refine (colMiss 2048 _ _ _ r j (Or.inl (by omega))).trans ?_
  by_cases h3 : 1536 ≤ j.val
  · refine (colHit 1536 _ _ _ r j ⟨j.val - 1536, by omega⟩ (by dsimp only; omega)).trans ?_
    rw [dif_neg (by omega)]
    exact key 4608 (by omega) _ r ⟨j.val - 1536, by omega⟩ ⟨3072 + j.val, by omega⟩ (by dsimp only; omega)
  refine (colMiss 1536 _ _ _ r j (Or.inl (by omega))).trans ?_
  by_cases h2 : 1024 ≤ j.val
  · refine (colHit 1024 _ _ _ r j ⟨j.val - 1024, by omega⟩ (by dsimp only; omega)).trans ?_
    rw [dif_pos (by omega)]
    exact key' 4096 1024 (by omega) (by omega) _ _ r ⟨j.val - 1024, by omega⟩ ⟨3072 + j.val, by omega⟩ (by dsimp only; omega) ⟨j.val, by omega⟩ (by dsimp only; omega)
  refine (colMiss 1024 _ _ _ r j (Or.inl (by omega))).trans ?_
  by_cases h1 : 512 ≤ j.val
  · refine (colHit 512 _ _ _ r j ⟨j.val - 512, by omega⟩ (by dsimp only; omega)).trans ?_
    rw [dif_pos (by omega)]
    exact key' 3584 512 (by omega) (by omega) _ _ r ⟨j.val - 512, by omega⟩ ⟨3072 + j.val, by omega⟩ (by dsimp only; omega) ⟨j.val, by omega⟩ (by dsimp only; omega)
  refine (colMiss 512 _ _ _ r j (Or.inl (by omega))).trans ?_
  refine (colHit 0 _ _ _ r j ⟨j.val - 0, by omega⟩ (by dsimp only; omega)).trans ?_
  rw [dif_pos (by omega)]
  exact key' 3072 0 (by omega) (by omega) _ _ r ⟨j.val - 0, by omega⟩ ⟨3072 + j.val, by omega⟩ (by dsimp only; omega) ⟨j.val, by omega⟩ (by dsimp only; omega)

end Out

end Cert.Kernel3Ideal.Gen
-- ==== Proof.ProjRef.lean ====
/- The reference's input projection at an index. -/
module

public import proofs.«01_k».proof.Proof.ProjSpec
public import proofs.«01_k».proof.Proof.Gen.Reference3Ideal.Read
public import Idealize.ShloMosaic.Lib.KernelVsHost
public import Idealize.ShloMosaic.Lib.Pipeline.ValueKit

@[expose] public section

set_option maxRecDepth 16384

noncomputable section

namespace Cert.Reference3Ideal.Read

open Idealize.ShloMosaic Idealize.ShloMosaic.TcCoe
open Idealize.SL Idealize.SL.Sem
open Cert.Math

variable (x0 : S16384x1024.Idx → EReal) (x1 x2 x3 : S1x1024.Idx → EReal) (x4 : S1024x5536.Idx → EReal)
  (x5 : S3x1536.Idx → EReal)

/-- The array's rows. -/
abbrev rows (i : Fin 16384) (d : Fin 1024) : EReal := x0 (ix2 i d)
/-- The gain, with the scale's factor. -/
abbrev gain (d : Fin 1024) : EReal := x1 (ix2 0 d) * (1 + x3 (ix2 0 d))
/-- The shift. -/
abbrev shift (d : Fin 1024) : EReal := x2 (ix2 0 d)

theorem v17_at (i : Fin 16384) (d : Fin 1024) :
    val_main_v17 (F := Ideal) x0 x1 x2 x3 (ix2 i d) = nrow (rows x0 i) (gain x1 x3) (shift x2) d := by
  unfold nrow rowInv
  rw [← mul_assoc]
  pointwise [val_main_v17, val_main_v0, val_main_cst, val_main_v1, val_main_v2, val_main_cst_0, val_main_v3, val_main_v4,
    val_main_cst_1, val_main_v5, val_main_v6, val_main_v7, val_main_v8, val_main_v9, val_main_v10, val_main_v11,
    val_main_cst_2, val_main_v12, val_main_v13, val_main_v14, val_main_v15, val_main_v16]

theorem v18_at (i : Fin 16384) (j : Fin 5536) :
    val_main_v18 (F := Ideal) x0 x1 x2 x3 x4 (ix2 i j)
      = lin (rows x0) (gain x1 x3) (shift x2) (fun k => x4 (ix2 k j)) (i.val + 1) := by
  rw [lin_row _ _ _ _ _ i rfl]
  pointwise [val_main_v18]
  exact Finset.sum_congr rfl fun k _ => by rw [v17_at]

theorem v19_at (i : Fin 16384) (j : Fin 1536) :
    val_main_v19 (F := Ideal) x0 x1 x2 x3 x4 (ix2 i j)
      = lin (rows x0) (gain x1 x3) (shift x2) (fun k => x4 (ix2 k ⟨j.val, by omega⟩)) (i.val + 1) := by
  rw [← v18_at]
  pointwise [val_main_v19]

theorem pad_zero (i : S_.Idx) : val_main_call0_v0 (F := Ideal) i = (0 : EReal) := by
  rw [val_main_call0_v0_apply, val_main_c_apply]
  show ((((0#32 : BitVec 32).toInt : ℝ)) : EReal) = 0
  simp

theorem v23_at (r : Fin 16386) (j : Fin 1536) :
    val_main_v23 (F := Ideal) x0 x1 x2 x3 x4 (ix2 r j)
      = lin (rows x0) (gain x1 x3) (shift x2) (fun k => x4 (ix2 k ⟨j.val, by omega⟩)) r.val := by
  unfold val_main_v23
  have hr := r.isLt
  by_cases h : 1 ≤ r.val ∧ r.val ≤ 16384
  · have e : r.val = (⟨r.val - 1, by omega⟩ : Fin 16384).val + 1 := by show r.val = r.val - 1 + 1; omega
    rw [e, ← v19_at]
    refine pad_apply_of_inside _ _ _ _ _ _ _ _ _ fun a => ?_
    match a with
    | ⟨0, _⟩ => show r.val = 1 + (r.val - 1) * 1; omega
    | ⟨1, _⟩ => show j.val = 0 + j.val * 1; omega
  · rw [lin_out _ _ _ _ _ h]
    refine (pad_apply_of_not_inside _ _ _ _ _ _ _ _ (0 : Fin 2) fun hin => ?_).trans (pad_zero _)
    have h1 : 1 ≤ r.val := hin.1
    have h2 : (r.val - 1) / (0 + 1) < 16384 := hin.2.2
    omega

theorem v43_at (i : Fin 16384) (j : Fin 1536) :
    val_main_v43 (F := Ideal) x0 x1 x2 x3 x4 x5 (ix2 i j)
      = cv (rows x0) (gain x1 x3) (shift x2) (fun k => x4 (ix2 k ⟨j.val, by omega⟩)) (fun t => x5 (ix2 t j)) i.val := by
  pointwise [val_main_v43, val_main_v42, val_main_v41, val_main_v40, val_main_v39, val_main_v38, val_main_v37, val_main_v36,
    val_main_v35, val_main_v34, val_main_v33, val_main_v32, val_main_v31, val_main_v30, val_main_v29, val_main_v28,
    val_main_v27, val_main_v26, val_main_v25, val_main_v24]
  simp only [v23_at]
  unfold cv
  rw [add_comm 1 i.val, add_comm 2 i.val]

/-- The gates at an index. -/
theorem v52_at (i : Fin 16384) (j : Fin 3072) :
    val_main_v52 (F := Ideal) x0 x1 x2 x3 x4 (ix2 i j)
      = gateEntry (rows x0) (gain x1 x3) (shift x2) (fun k j => x4 (ix2 k j)) i j := by
  unfold gateEntry sigm
  rw [← v18_at]
  pointwise [val_main_v52, val_main_v51, val_main_v50, val_main_cst_5, val_main_v49, val_main_v48, val_main_cst_4, val_main_v47,
    val_main_v46, val_main_v22]

/-- The mixing inputs at an index. -/
theorem v45_at (i : Fin 16384) (j : Fin 2560) :
    val_main_v45 (F := Ideal) x0 x1 x2 x3 x4 x5 (ix2 i j)
      = mixEntry (rows x0) (gain x1 x3) (shift x2) (fun k j => x4 (ix2 k j)) (fun t j => x5 (ix2 t j)) i j := by
  pointwise [val_main_v45, val_main_v20, val_main_v21, val_main_v44, val_main_cst_3]
  simp only [v18_at, v43_at]
  rfl

end Cert.Reference3Ideal.Read
-- ==== Proof.ProjFold.lean ====
/- The input projection's two arrays after its run: the gates and the mixing inputs. -/
module

public import proofs.«01_k».proof.Proof.ProjBlock
public import proofs.«01_k».proof.Proof.ProjRef
public import proofs.«01_k».proof.Proof.Gen.Kernel3Ideal.Value

@[expose] public section

set_option maxRecDepth 16384

noncomputable section

namespace Cert.Kernel3Ideal.Gen

open Idealize.ShloMosaic Idealize.ShloMosaic.TcCoe
open Idealize.SL Idealize.SL.Sem
open Idealize.ShloMosaic.Rounds
open Cert.Math Cert.Reference3Ideal.Read

variable (m : (ℓ : Loc nD τ sig) → Buf (Elt Ideal) ℓ)

/-- The rows. -/
abbrev A0 (c : Dev nD) : S16384x1024.Idx → EReal := m ((c : Thread nD τ).loc main_arg0)
/-- The gain. -/
abbrev A1 (c : Dev nD) : S1x1024.Idx → EReal := m ((c : Thread nD τ).loc main_arg1)
/-- The shift. -/
abbrev A2 (c : Dev nD) : S1x1024.Idx → EReal := m ((c : Thread nD τ).loc main_arg2)
/-- The scale. -/
abbrev A3 (c : Dev nD) : S1x1024.Idx → EReal := m ((c : Thread nD τ).loc main_arg3)
/-- The weights. -/
abbrev A4 (c : Dev nD) : S1024x5536.Idx → EReal := m ((c : Thread nD τ).loc main_arg4)
/-- The three taps. -/
abbrev A5 (c : Dev nD) : S3x1536.Idx → EReal := m ((c : Thread nD τ).loc main_arg5)

theorem idx : ∀ t : Fin cfg0.N, win0_0.index t = ![t.val, 0] ∧ win0_1.index t = ![32 * t.val - 1, 0]
    ∧ win0_2.index t = ![min (32 * (t.val + 1)) 1023, 0] ∧ win0_3.index t = ![0, 0] ∧ win0_4.index t = ![0, 0]
    ∧ win0_5.index t = ![0, 0] ∧ win0_6.index t = ![0, 0] ∧ win0_7.index t = ![t.val, 0] ∧ win0_8.index t = ![t.val, 0] :=
  (by decide +kernel : ∀ t : Fin grid0.N, _)

theorem blk0 (c : Dev nD) (t : Fin cfg0.N) (r : Fin 512) (d : Fin 1024) (h : t.val * 512 + r.val < 16384) :
    iblk m c 0 t (ix2 r d) = A0 m c (ix2 ⟨t.val * 512 + r.val, h⟩ d) := by
  blk_ext [iblk, V, idx t]

theorem blk1 (c : Dev nD) (t : Fin cfg0.N) (r : Fin 16) (d : Fin 1024) (h : (32 * t.val - 1) * 16 + r.val < 16384) :
    iblk m c 1 t (ix2 r d) = A0 m c (ix2 ⟨(32 * t.val - 1) * 16 + r.val, h⟩ d) := by
  blk_ext [iblk, V, idx t]

theorem blk2 (c : Dev nD) (t : Fin cfg0.N) (r : Fin 16) (d : Fin 1024) (h : min (32 * (t.val + 1)) 1023 * 16 + r.val < 16384) :
    iblk m c 2 t (ix2 r d) = A0 m c (ix2 ⟨min (32 * (t.val + 1)) 1023 * 16 + r.val, h⟩ d) := by
  blk_ext [iblk, V, idx t]

theorem V9 (c : Dev nD) (d : Fin 1024) : V m c main_v9 (ix2 0 d) = gain (A1 m c) (A3 m c) d := by
  unfold_abbrev_sides
  after_results
  pointwise []
  rfl

/-- The weights the host lays out. -/
theorem V6 (c : Dev nD) (k : Fin 1024) (j : Fin 5632) : V m c main_v6 (ix2 k j) = permW (fun k j => A4 m c (ix2 k j)) k j := by
  unfold permW
  unfold_abbrev_sides
  after_results
  pointwise []
  after_results_simp
  pointwise []

theorem blk3 (c : Dev nD) (t : Fin cfg0.N) (d : Fin 1024) : iblk m c 3 t (ix2 0 d) = gain (A1 m c) (A3 m c) d := by
  refine Eq.trans ?_ (V9 m c d)
  blk_ext [iblk, idx t]

theorem blk4 (c : Dev nD) (t : Fin cfg0.N) (d : Fin 1024) : iblk m c 4 t (ix2 0 d) = shift (A2 m c) d := by
  blk_ext [iblk, V, idx t]

theorem blk5 (c : Dev nD) (t : Fin cfg0.N) (k : Fin 1024) (j : Fin 5632) : iblk m c 5 t (ix2 k j) = permW (fun k j => A4 m c (ix2 k j)) k j := by
  refine Eq.trans ?_ (V6 m c k j)
  blk_ext [iblk, idx t]

theorem blk6 (c : Dev nD) (t : Fin cfg0.N) (k : Fin 3) (j : Fin 1536) : iblk m c 6 t (ix2 k j) = A5 m c (ix2 k j) := by
  blk_ext [iblk, V, idx t]

/-- The rows before a tile are taken except for the first tile. -/
theorem before_some : ∀ t : Fin cfg0.N, 0 < t.val → Scalar.cmpi .sgt (BitVec.ofNat 32 (grid0.coords t 0).val) 0#32 = 1#1 :=
  (by decide +kernel : ∀ t : Fin grid0.N, _)
theorem before_none : ∀ t : Fin cfg0.N, t.val = 0 → Scalar.cmpi .sgt (BitVec.ofNat 32 (grid0.coords t 0).val) 0#32 = 0#1 :=
  (by decide +kernel : ∀ t : Fin grid0.N, _)
/-- The rows after a tile are taken except for the last tile. -/
theorem after_some : ∀ t : Fin cfg0.N, t.val < 31 → Scalar.cmpi .slt (BitVec.ofNat 32 (grid0.coords t 0).val) 31#32 = 1#1 :=
  (by decide +kernel : ∀ t : Fin grid0.N, _)
theorem after_none : ∀ t : Fin cfg0.N, t.val = 31 → Scalar.cmpi .slt (BitVec.ofNat 32 (grid0.coords t 0).val) 31#32 = 0#1 :=
  (by decide +kernel : ∀ t : Fin grid0.N, _)

/-- The normalised rows a point holds are the padded array's. -/
theorem held (c : Dev nD) (t : Fin cfg0.N) (q : Fin 544) (k : Fin 1024) :
    hs c (grid0.coords t) (ms0_0 t) (hs0_0 t) (ms0_1 t) (hs0_1 t) (ms0_2 t) (hs0_2 t) (ms0_3 t) (hs0_3 t) (ms0_4 t) (hs0_4 t)
      (scM0_0) (iblk m c 0 t) (iblk m c 1 t) (iblk m c 2 t) (iblk m c 3 t) (iblk m c 4 t) (ix2 q k)
      = hp (rows (A0 m c)) (gain (A1 m c) (A3 m c)) (shift (A2 m c)) (512 * t.val + q.val - 15) k := by
  have ht : t.val < 32 := t.isLt
  have hq := q.isLt
  by_cases h1 : q.val < 16
  · refine (hs_lo (i := grid0.coords t) (q := q) (r := ⟨q.val, h1⟩) (h := rfl) (k := k) ..).trans ?_
    by_cases h0 : t.val = 0
    · rw [before_none t h0, ValueIdx.select_zero, hp_out]
      omega
    · rw [before_some t (by omega), ValueIdx.select_one, hp_row _ _ _ _ ⟨(32 * t.val - 1) * 16 + q.val, by omega⟩ (by dsimp only; omega)]
      exact nrow_congr (fun d => blk1 m c t _ d _) (fun d => blk3 m c t d) (fun d => blk4 m c t d) k
  · by_cases h2 : q.val < 528
    · refine (hs_mid (i := grid0.coords t) (q := q) (r := ⟨q.val - 16, by omega⟩) (h := by dsimp only; omega) (k := k) ..).trans ?_
      rw [hp_row _ _ _ _ ⟨t.val * 512 + (q.val - 16), by omega⟩ (by dsimp only; omega)]
      exact nrow_congr (fun d => blk0 m c t _ d _) (fun d => blk3 m c t d) (fun d => blk4 m c t d) k
    · refine (hs_hi (i := grid0.coords t) (q := q) (r := ⟨q.val - 528, by omega⟩) (h := by dsimp only; omega) (k := k) ..).trans ?_
      by_cases h0 : t.val = 31
      · rw [after_none t h0, ValueIdx.select_zero, hp_out]
        omega
      · rw [after_some t (by omega), ValueIdx.select_one, hp_row _ _ _ _ ⟨min (32 * (t.val + 1)) 1023 * 16 + (q.val - 528), by omega⟩ (by dsimp only; omega)]
        exact nrow_congr (fun d => blk2 m c t _ d _) (fun d => blk3 m c t d) (fun d => blk4 m c t d) k

/-- The gates. -/
def gatesA (c : Dev nD) : S16384x3072.Idx → EReal := fun y =>
  gateEntry (rows (A0 m c)) (gain (A1 m c) (A3 m c)) (shift (A2 m c)) (fun k j => A4 m c (ix2 k j)) (y 0) (y 1)

/-- The mixing inputs. -/
def mixA (c : Dev nD) : S16384x2560.Idx → EReal := fun y =>
  mixEntry (rows (A0 m c)) (gain (A1 m c) (A3 m c)) (shift (A2 m c)) (fun k j => A4 m c (ix2 k j)) (fun t j => A5 m c (ix2 t j)) (y 0) (y 1)

/-- A point's block of gates, at an index. -/
theorem gates_block_at (c : Dev nD) (t : Fin cfg0.N) (r : Fin 512) (d : Fin 3072) (h : t.val * 512 + r.val < 16384) :
    (outsAt0 m c t).1 (ix2 r d) = gatesA m c (ix2 ⟨t.val * 512 + r.val, h⟩ d) := by
  unfold outsAt0
  dsimp only
  refine (gates_out (hH := held m c t) (n0 := 512 * t.val) (r := r) (j := d) ..).trans ?_
  unfold gatesA
  refine Eq.trans ?_ (gate_perm _ _ _ _ _ _)
  have e : (fun k => iblk m c 5 t (ix2 k ⟨d.val, by omega⟩)) = fun k => permW (fun k j => A4 m c (ix2 k j)) k ⟨d.val, by omega⟩ :=
    funext fun k => blk5 m c t k _
  rw [e, Nat.mul_comm 512]
  rfl

/-- A point's block of mixing inputs, at an index. -/
theorem mix_block_at (c : Dev nD) (t : Fin cfg0.N) (r : Fin 512) (d : Fin 2560) (h : t.val * 512 + r.val < 16384) :
    (outsAt0 m c t).2 (ix2 r d) = mixA m c (ix2 ⟨t.val * 512 + r.val, h⟩ d) := by
  unfold outsAt0
  dsimp only
  refine (mix_out (hH := held m c t) (n0 := 512 * t.val) (r := r) (j := d) ..).trans ?_
  show _ = mixEntry (rows (A0 m c)) (gain (A1 m c) (A3 m c)) (shift (A2 m c)) (fun k j => A4 m c (ix2 k j)) (fun t j => A5 m c (ix2 t j))
    ⟨t.val * 512 + r.val, h⟩ d
  refine Eq.trans ?_ (mix_perm _ _ _ _ _ _ _)
  have e : (fun k => iblk m c 5 t (ix2 k ⟨3072 + d.val, by omega⟩)) = fun k => permW (fun k j => A4 m c (ix2 k j)) k ⟨3072 + d.val, by omega⟩ :=
    funext fun k => blk5 m c t k _
  have e' : ∀ h : d.val < 1536, (fun k => iblk m c 6 t (ix2 k ⟨d.val, h⟩)) = fun k => A5 m c (ix2 k ⟨d.val, h⟩) :=
    fun h => funext fun k => blk6 m c t k _
  rw [Nat.mul_comm 512]
  by_cases hd : d.val < 1536
  · rw [dif_pos hd, dif_pos hd, e, e' hd]
  · rw [dif_neg hd, dif_neg hd, e]

/-- The gates after the run. -/
theorem final_gates (c : Dev nD) : (dats m 0 c).arrAt 7 cfg0.N = gatesA m c := by
  refine (dats m 0 c).arrAt_eq_of_covers 7 _ (by decide +kernel) fun t hf y => ?_
  rw [after0_7]
  have ht : t.val < 32 := t.isLt
  have hi : (y 0).val < 512 := (y 0).isLt
  have hd : (y 1).val < 3072 := (y 1).isLt
  have key := gates_block_at m c t
  generalize (outsAt0 m c t).1 = S at key ⊢
  refine (congrArg S (ix2_eta y).symm).trans ((key ⟨(y 0).val, hi⟩ ⟨(y 1).val, hd⟩ (by dsimp only; omega)).trans ?_)
  refine congrArg (gatesA m c) ?_
  funext a
  fin_cases a
  · exact Fin.ext (by blk_simp [idx t]; rfl)
  · exact Fin.ext (by blk_simp [idx t]; rfl)

/-- The mixing inputs after the run. -/
theorem final_mix (c : Dev nD) : (dats m 0 c).arrAt 8 cfg0.N = mixA m c := by
  refine (dats m 0 c).arrAt_eq_of_covers 8 _ (by decide +kernel) fun t hf y => ?_
  rw [after0_8]
  have ht : t.val < 32 := t.isLt
  have hi : (y 0).val < 512 := (y 0).isLt
  have hd : (y 1).val < 2560 := (y 1).isLt
  have key := mix_block_at m c t
  generalize (outsAt0 m c t).2 = S at key ⊢
  refine (congrArg S (ix2_eta y).symm).trans ((key ⟨(y 0).val, hi⟩ ⟨(y 1).val, hd⟩ (by dsimp only; omega)).trans ?_)
  refine congrArg (mixA m c) ?_
  funext a
  fin_cases a
  · exact Fin.ext (by blk_simp [idx t]; rfl)
  · exact Fin.ext (by blk_simp [idx t]; rfl)

end Cert.Kernel3Ideal.Gen
-- ==== Proof.MergeSpec.lean ====
/-
  The merge of the three branches, in plain sums: a row normalised within each of its heads, gained, shifted and gated;
  the three branch products weighted by their gates; the last product, gated, added to the row. And that the kernel's
  product with the averaging matrix is the mean over a head when the row is real, and that its product over the heads
  widened by zero weights is the product over the heads themselves.
-/
module

public import proofs.«01_k».proof.Proof.ERealSum

@[expose] public section

noncomputable section

namespace Cert.Math

open Idealize.ShloMosaic

/-- A column of head `h`. -/
abbrev col (h : Fin 6) (e : Fin 64) : Fin 384 := ⟨h.val * 64 + e.val, by have := h.isLt; have := e.isLt; omega⟩
/-- A column's head. -/
abbrev hd (a : Fin 384) : Fin 6 := ⟨a.val / 64, by have := a.isLt; omega⟩

/-- The mean over a head. -/
def hmean (y : Fin 384 → EReal) (h : Fin 6) : EReal := Ideal.div (∑ e, y (col h e)) 64

/-- The constant under the root. -/
abbrev headEps : EReal := Ideal.ofBits .f32 0x3A27C5AC#32

/-- A row normalised within its heads. -/
def gnorm (y : Fin 384 → EReal) (a : Fin 384) : EReal :=
  (y a - hmean y (hd a)) * Ideal.rsqrt (hmean (fun b => (y b - hmean y (hd b)) * (y b - hmean y (hd b))) (hd a) + headEps)

/-- The first branch's row. -/
def branch (y g bonus w b : Fin 384 → EReal) (a : Fin 384) : EReal := (gnorm y a * w a + b a + bonus a) * g a

/-- The three gated products, summed. -/
def mixed (ya att : Fin 384 → EReal) (yc : Fin 256 → EReal) (ga gb gc : Fin 1024 → EReal) (wa wb : Fin 384 → Fin 1024 → EReal)
    (wc : Fin 256 → Fin 1024 → EReal) (k : Fin 1024) : EReal :=
  ga k * (∑ a, ya a * wa a k) + gb k * (∑ a, att a * wb a k) + gc k * (∑ a, yc a * wc a k)

/-- A sum over the columns, head by head. -/
theorem sum_heads {M : Type*} [AddCommMonoid M] (f : Fin 384 → M) : ∑ b, f b = ∑ h, ∑ e, f (col h e) := by
  rw [← Fintype.sum_prod_type', ← (finProdFinEquiv (m := 6) (n := 64)).sum_comp]
  refine Finset.sum_congr rfl fun p _ => congrArg f (Fin.ext ?_)
  show p.2.val + 64 * p.1.val = p.1.val * 64 + p.2.val
  omega

/-- The mean over a head of a real row. -/
theorem hmean_real (r : Fin 384 → ℝ) (h : Fin 6) :
    hmean (fun b => (r b : EReal)) h = ((∑ e, r (col h e) * (1 / 64) : ℝ) : EReal) := by
  have h64 : ((64 : ℝ) : EReal) = 64 := by norm_cast
  unfold hmean
  rw [sum_coe, ← h64]
  unfold Ideal.div
  rw [if_neg (by simp), ← EReal.coe_inv, ← EReal.coe_mul, ← Finset.sum_mul, one_div]

/-- The product with the averaging matrix, a real row's remainder included, is the mean over the column's head. -/
theorem avg_real (r : Fin 384 → ℝ) (M : Fin 384 → Fin 384 → EReal)
    (hM : ∀ b a, M b a = ((if b.val / 64 = a.val / 64 then 1 / 64 else 0 : ℝ) : EReal)) (a : Fin 384) :
    (∑ b, ((r b : EReal) - r b) * M b a) + ∑ b, (r b : EReal) * M b a = hmean (fun b => (r b : EReal)) (hd a) := by
  have e1 : ∀ b, ((r b : EReal) - r b) * M b a = 0 := fun b => by
    rw [← EReal.coe_sub, sub_self, EReal.coe_zero, zero_mul]
  rw [Finset.sum_eq_zero fun b _ => e1 b, zero_add, hmean_real]
  simp only [hM]
  rw [sum_coe_mul, sum_heads]
  refine congrArg _ ?_
  rw [Finset.sum_eq_single (hd a)]
  · refine Finset.sum_congr rfl fun e _ => ?_
    rw [if_pos (by have := e.isLt; dsimp only; omega)]
  · intro h _ hne
    refine Finset.sum_eq_zero fun e _ => ?_
    rw [if_neg, mul_zero]
    intro hh
    refine hne (Fin.ext ?_)
    have := e.isLt
    dsimp only at hh ⊢
    omega
  · intro h
    exact absurd (Finset.mem_univ _) h

/-- The kernel's normalisation by two products with the averaging matrix. -/
def gnormM (M : Fin 384 → Fin 384 → EReal) (y : Fin 384 → EReal) (a : Fin 384) : EReal :=
  (y a - ((∑ b, (y b - y b) * M b a) + ∑ b, y b * M b a))
    * Ideal.rsqrt
        (((∑ b, ((y b - ((∑ c, (y c - y c) * M c b) + ∑ c, y c * M c b)) * (y b - ((∑ c, (y c - y c) * M c b) + ∑ c, y c * M c b))
            - (y b - ((∑ c, (y c - y c) * M c b) + ∑ c, y c * M c b)) * (y b - ((∑ c, (y c - y c) * M c b) + ∑ c, y c * M c b))) * M b a)
          + ∑ b, ((y b - ((∑ c, (y c - y c) * M c b) + ∑ c, y c * M c b)) * (y b - ((∑ c, (y c - y c) * M c b) + ∑ c, y c * M c b))) * M b a)
          + headEps)

theorem gnormM_eq (M : Fin 384 → Fin 384 → EReal)
    (hM : ∀ b a, M b a = ((if b.val / 64 = a.val / 64 then 1 / 64 else 0 : ℝ) : EReal))
    (y : Fin 384 → EReal) (hy : ∀ b, ∃ r : ℝ, y b = (r : EReal)) (a : Fin 384) : gnormM M y a = gnorm y a := by
  choose r hr using hy
  obtain rfl : y = fun b => (r b : EReal) := funext hr
  unfold gnormM gnorm
  simp only [avg_real r M hM, hmean_real r]
  have e : ∀ b, (((r b : ℝ) : EReal) - ((∑ e, r (col (hd b) e) * (1 / 64) : ℝ) : EReal)) * (((r b : ℝ) : EReal) - ((∑ e, r (col (hd b) e) * (1 / 64) : ℝ) : EReal))
      = (((r b - ∑ e, r (col (hd b) e) * (1 / 64)) * (r b - ∑ e, r (col (hd b) e) * (1 / 64)) : ℝ) : EReal) := fun b => by
    rw [EReal.coe_mul, EReal.coe_sub]
  simp only [e]
  rw [avg_real (fun b => (r b - ∑ e, r (col (hd b) e) * (1 / 64)) * (r b - ∑ e, r (col (hd b) e) * (1 / 64))) M hM]

/-- A product over heads widened to 128 columns with zero weights is the product over the heads. -/
theorem sum_wide (A W : Fin 768 → EReal) (W' : Fin 384 → EReal)
    (h1 : ∀ (h : Fin 6) (e : Fin 64) (b : Fin 768), b.val = h.val * 128 + e.val → W b = W' (col h e))
    (h0 : ∀ (h : Fin 6) (e : Fin 64) (b : Fin 768), b.val = h.val * 128 + 64 + e.val → W b = 0) :
    ∑ b, A b * W b = ∑ a : Fin 384, A ⟨a.val / 64 * 128 + a.val % 64, by have := a.isLt; omega⟩ * W' a := by
  rw [sum_heads, ← (finProdFinEquiv (m := 6) (n := 128)).sum_comp, Fintype.sum_prod_type]
  refine Finset.sum_congr rfl fun h _ => ?_
  rw [Fin.sum_univ_add (a := 64) (b := 64) (f := fun e : Fin (64 + 64) => A (finProdFinEquiv (h, e)) * W (finProdFinEquiv (h, e)))]
  have z : ∀ e : Fin 64, A (finProdFinEquiv (h, Fin.natAdd 64 e)) * W (finProdFinEquiv (h, Fin.natAdd 64 e)) = 0 := fun e => by
    rw [h0 h e _ (by show (64 + e.val) + 128 * h.val = _; omega), mul_zero]
  rw [Finset.sum_eq_zero (s := Finset.univ) (f := fun e : Fin 64 => A (finProdFinEquiv (h, Fin.natAdd 64 e)) * W (finProdFinEquiv (h, Fin.natAdd 64 e))) fun e _ => z e, add_zero]
  refine Finset.sum_congr rfl fun e _ => ?_
  have he := e.isLt
  rw [h1 h e _ (by show e.val + 128 * h.val = _; omega)]
  refine congrArg (fun x => A x * _) (Fin.ext ?_)
  show e.val + 128 * h.val = (h.val * 64 + e.val) / 64 * 128 + (h.val * 64 + e.val) % 64
  omega

end Cert.Math

end
-- ==== Proof.MergeRef.lean ====
/- The reference's merge at an index. -/
module

public import proofs.«01_k».proof.Proof.MergeSpec
public import proofs.«01_k».proof.Proof.Gen.Reference4Ideal.Read
public import Idealize.ShloMosaic.Lib.KernelVsHost
public import Idealize.ShloMosaic.Lib.Pipeline.ValueKit

@[expose] public section

set_option maxRecDepth 16384

noncomputable section

namespace Cert.Reference4Ideal.Read

open Idealize.ShloMosaic Idealize.ShloMosaic.TcCoe
open Idealize.SL Idealize.SL.Sem
open Cert.Math

variable (x0 x1 : S16640x384.Idx → EReal) (x2 : S2x16640x384.Idx → EReal) (x3 : S16384x768.Idx → EReal)
  (x4 : S16384x256.Idx → EReal) (x5 : S16384x3072.Idx → EReal) (x6 : S16384x1024.Idx → EReal) (x7 : S1x1024.Idx → EReal)
  (x8 x9 : S384.Idx → EReal) (x10 x11 : S384x1024.Idx → EReal) (x12 : S256x1024.Idx → EReal) (x13 : S1024x1024.Idx → EReal)

/-- A row of the scanned arrays' range that the merge takes. -/
abbrev tok (i : Fin 16384) : Fin 16640 := ⟨i.val, by have := i.isLt; omega⟩

/-- The two directions' outputs, summed. -/
abbrev both (i : Fin 16384) (a : Fin 384) : EReal := x0 (ix2 (tok i) a) + x1 (ix2 (tok i) a)

theorem v5_at (i : Fin 16384) (h : Fin 6) (e : Fin 64) :
    val_main_v5 (F := Ideal) x0 x1 (ix3 i h e) = both x0 x1 i (col h e) := by
  pointwise [val_main_v5, val_main_v4, val_main_v3, val_main_v2, val_main_v1, val_main_v0]

theorem sixtyfour : Ideal.ofBits .f32 0x42800000#32 = (64 : EReal) := by
  have h64 : ((64 : ℝ) : EReal) = 64 := by norm_cast
  rw [← h64]
  simp [Ideal.ofBits, Ideal.ieee]
  rw [← EReal.coe_mul]
  norm_num

theorem v15_at (i : Fin 16384) (h : Fin 6) (z : Fin 1) :
    val_main_v15 (F := Ideal) x0 x1 (ix3 i h z) = hmean (both x0 x1 i) h := by
  unfold hmean
  rw [← sixtyfour]
  simp only [← v5_at]
  pointwise [val_main_v15, val_main_v14, val_main_v13, val_main_v12, val_main_cst, val_main_cst_0]

theorem v17_at (i : Fin 16384) (h : Fin 6) (e : Fin 64) :
    val_main_v17 (F := Ideal) x0 x1 (ix3 i h e) = both x0 x1 i (col h e) - hmean (both x0 x1 i) h := by
  rw [← v5_at, ← v15_at x0 x1 i h 0]
  pointwise [val_main_v17, val_main_v16]

theorem v22_at (i : Fin 16384) (h : Fin 6) (z : Fin 1) :
    val_main_v22 (F := Ideal) x0 x1 (ix3 i h z)
      = hmean (fun b => (both x0 x1 i b - hmean (both x0 x1 i) (hd b)) * (both x0 x1 i b - hmean (both x0 x1 i) (hd b))) h := by
  have e1 : ∀ e : Fin 64, hd (col h e) = h := fun e => Fin.ext (by have := e.isLt; show (h.val * 64 + e.val) / 64 = h.val; omega)
  unfold hmean
  rw [← sixtyfour]
  simp only [e1]
  rw [sixtyfour]
  show _ = Ideal.div (∑ e, (both x0 x1 i (col h e) - hmean (both x0 x1 i) h) * (both x0 x1 i (col h e) - hmean (both x0 x1 i) h)) 64
  rw [← sixtyfour]
  simp only [← v17_at]
  pointwise [val_main_v22, val_main_v21, val_main_v20, val_main_v19, val_main_v18, val_main_cst_1, val_main_cst_2]

theorem v30_at (i : Fin 16384) (a : Fin 384) : val_main_v30 (F := Ideal) x0 x1 (ix2 i a) = gnorm (both x0 x1 i) a := by
  have e1 : col (hd a) ⟨a.val % 64, by omega⟩ = a := Fin.ext (by show a.val / 64 * 64 + a.val % 64 = a.val; omega)
  have e2 : both x0 x1 i a = val_main_v5 (F := Ideal) x0 x1 (ix3 i (hd a) ⟨a.val % 64, by omega⟩) := by rw [v5_at, e1]
  unfold gnorm
  rw [← v22_at x0 x1 i (hd a) 0, e2, ← v15_at x0 x1 i (hd a) 0]
  pointwise [val_main_v30, val_main_v29, val_main_v28, val_main_v27, val_main_v26, val_main_v25, val_main_v24, val_main_v23, val_main_cst_3]

/-- The gate of the first branch's output. -/
abbrev og (i : Fin 16384) (a : Fin 384) : EReal := x2 (ix3 0 (tok i) a)
/-- The bonus of the first branch. -/
abbrev bonus (i : Fin 16384) (a : Fin 384) : EReal := x2 (ix3 1 (tok i) a)
/-- The attention's columns that hold values. -/
abbrev vals (i : Fin 16384) (a : Fin 384) : EReal :=
  x3 (ix2 i ⟨a.val / 64 * 128 + a.val % 64, by have := a.isLt; omega⟩)
/-- The gates of branch `n`. -/
abbrev gate (n : ℕ) (hn : n < 3) (i : Fin 16384) (k : Fin 1024) : EReal := x5 (ix2 i ⟨n * 1024 + k.val, by have := k.isLt; omega⟩)

theorem v38_at (i : Fin 16384) (a : Fin 384) :
    val_main_v38 (F := Ideal) x0 x1 x2 x8 x9 (ix2 i a)
      = branch (both x0 x1 i) (og x2 i) (bonus x2 i) (fun a => x8 (ix1 a)) (fun a => x9 (ix1 a)) a := by
  unfold branch
  rw [← v30_at]
  pointwise [val_main_v38, val_main_v37, val_main_v36, val_main_v35, val_main_v34, val_main_v33, val_main_v32, val_main_v31,
    val_main_v11, val_main_v10, val_main_v9, val_main_v8, val_main_v7, val_main_v6]

theorem v42_at (i : Fin 16384) (a : Fin 384) : val_main_v42 (F := Ideal) x3 (ix2 i a) = vals x3 i a := by
  pointwise [val_main_v42, val_main_v41, val_main_v40, val_main_v39]

/-- The sum of the gated products. -/
theorem v54_at (i : Fin 16384) (k : Fin 1024) :
    val_main_v54 (F := Ideal) x0 x1 x2 x3 x4 x5 x8 x9 x10 x11 x12 (ix2 i k)
      = mixed (branch (both x0 x1 i) (og x2 i) (bonus x2 i) (fun a => x8 (ix1 a)) (fun a => x9 (ix1 a))) (vals x3 i)
          (fun a => x4 (ix2 i a)) (gate x5 0 (by omega) i) (gate x5 1 (by omega) i) (gate x5 2 (by omega) i)
          (fun a k => x10 (ix2 a k)) (fun a k => x11 (ix2 a k)) (fun a k => x12 (ix2 a k)) k := by
  unfold mixed
  simp only [← v38_at]
  pointwise [val_main_v54, val_main_v53, val_main_v52, val_main_v51, val_main_v50, val_main_v49, val_main_v48, val_main_v47,
    val_main_v46, val_main_v45, val_main_v44, val_main_v43]
  simp only [v42_at]
  rw [show gate x5 0 (by omega) i k = x5 (ix2 i ⟨k.val, by have := k.isLt; omega⟩) from
    congrArg (fun a => x5 (ix2 i a)) (Fin.ext (by show 0 * 1024 + k.val = k.val; omega))]

/-- The merge at an index. -/
def merge (i : Fin 16384) (d : Fin 1024) : EReal :=
  x6 (ix2 i d) + x7 (ix2 0 d) * ∑ k,
    mixed (branch (both x0 x1 i) (og x2 i) (bonus x2 i) (fun a => x8 (ix1 a)) (fun a => x9 (ix1 a))) (vals x3 i)
      (fun a => x4 (ix2 i a)) (gate x5 0 (by omega) i) (gate x5 1 (by omega) i) (gate x5 2 (by omega) i)
      (fun a k => x10 (ix2 a k)) (fun a k => x11 (ix2 a k)) (fun a k => x12 (ix2 a k)) k * x13 (ix2 k d)

theorem v58_at (i : Fin 16384) (d : Fin 1024) :
    val_main_v58 (F := Ideal) x0 x1 x2 x3 x4 x5 x6 x7 x8 x9 x10 x11 x12 x13 (ix2 i d)
      = merge x0 x1 x2 x3 x4 x5 x6 x7 x8 x9 x10 x11 x12 x13 i d := by
  unfold merge
  simp only [← v54_at]
  pointwise [val_main_v58, val_main_v57, val_main_v56, val_main_v55]

end Cert.Reference4Ideal.Read
-- ==== Proof.MergeHost.lean ====
/- What the host computes for the merge kernel: the averaging matrix, the gain and shift stacked, and the attention's weights widened. -/
module

public import proofs.«01_k».proof.Proof.MergeRef
public import proofs.«01_k».proof.Proof.Gen.Kernel4Ideal.Value

@[expose] public section

set_option maxRecDepth 16384

noncomputable section

namespace Cert.Kernel4Ideal.Gen

open Idealize.ShloMosaic Idealize.ShloMosaic.TcCoe
open Idealize.SL Idealize.SL.Sem
open Idealize.ShloMosaic.Rounds
open Cert.Math Cert.Reference4Ideal.Read

variable (m : (ℓ : Loc nD τ sig) → Buf (Elt Ideal) ℓ)

abbrev A0 (c : Dev nD) : S16640x384.Idx → EReal := m ((c : Thread nD τ).loc main_arg0)
abbrev A1 (c : Dev nD) : S16640x384.Idx → EReal := m ((c : Thread nD τ).loc main_arg1)
abbrev A2 (c : Dev nD) : S2x16640x384.Idx → EReal := m ((c : Thread nD τ).loc main_arg2)
abbrev A3 (c : Dev nD) : S16384x768.Idx → EReal := m ((c : Thread nD τ).loc main_arg3)
abbrev A4 (c : Dev nD) : S16384x256.Idx → EReal := m ((c : Thread nD τ).loc main_arg4)
abbrev A5 (c : Dev nD) : S16384x3072.Idx → EReal := m ((c : Thread nD τ).loc main_arg5)
abbrev A6 (c : Dev nD) : S16384x1024.Idx → EReal := m ((c : Thread nD τ).loc main_arg6)
abbrev A7 (c : Dev nD) : S1x1024.Idx → EReal := m ((c : Thread nD τ).loc main_arg7)
abbrev A8 (c : Dev nD) : S384.Idx → EReal := m ((c : Thread nD τ).loc main_arg8)
abbrev A9 (c : Dev nD) : S384.Idx → EReal := m ((c : Thread nD τ).loc main_arg9)
abbrev A10 (c : Dev nD) : S384x1024.Idx → EReal := m ((c : Thread nD τ).loc main_arg10)
abbrev A11 (c : Dev nD) : S384x1024.Idx → EReal := m ((c : Thread nD τ).loc main_arg11)
abbrev A12 (c : Dev nD) : S256x1024.Idx → EReal := m ((c : Thread nD τ).loc main_arg12)
abbrev A13 (c : Dev nD) : S1024x1024.Idx → EReal := m ((c : Thread nD τ).loc main_arg13)

theorem V17 (c : Dev nD) : V m c main_v17 = A10 m c := by
  unfold_abbrev_sides
  simp only [hostOps0, hostOps0_1, hostOps0_2, List.flatten_cons, List.flatten_nil, List.append_nil, List.cons_append, List.nil_append]
  after_results
  rfl

theorem V19 (c : Dev nD) : V m c main_v19 = A12 m c := by
  unfold_abbrev_sides
  simp only [hostOps0, hostOps0_1, hostOps0_2, List.flatten_cons, List.flatten_nil, List.append_nil, List.cons_append, List.nil_append]
  after_results
  rfl

theorem V20 (c : Dev nD) : V m c main_v20 = A13 m c := by
  unfold_abbrev_sides
  simp only [hostOps0, hostOps0_1, hostOps0_2, List.flatten_cons, List.flatten_nil, List.append_nil, List.cons_append, List.nil_append]
  after_results
  rfl

theorem V16_0 (c : Dev nD) (a : Fin 384) : V m c main_v16 (ix2 0 a) = A8 m c (ix1 a) := by
  unfold_abbrev_sides
  simp only [hostOps0, hostOps0_1, hostOps0_2, List.flatten_cons, List.flatten_nil, List.append_nil, List.cons_append, List.nil_append]
  after_results
  pointwise []

theorem V16_1 (c : Dev nD) (a : Fin 384) : V m c main_v16 (ix2 1 a) = A9 m c (ix1 a) := by
  unfold_abbrev_sides
  simp only [hostOps0, hostOps0_1, hostOps0_2, List.flatten_cons, List.flatten_nil, List.append_nil, List.cons_append, List.nil_append]
  after_results
  pointwise []

theorem sixtyfourth : Ideal.ofBits .bf16 15488#16 = ((1 / 64 : ℝ) : EReal) := by
  simp [Ideal.ofBits, Ideal.ieee]
  rw [← EReal.coe_mul]
  norm_num

/-- The averaging matrix: one sixty-fourth where both columns are of one head. -/
theorem V10 (c : Dev nD) (b a : Fin 384) :
    V m c main_v10 (ix2 b a) = ((if b.val / 64 = a.val / 64 then 1 / 64 else 0 : ℝ) : EReal) := by
  unfold_abbrev_sides
  simp only [hostOps0, hostOps0_1, hostOps0_2, List.flatten_cons, List.flatten_nil, List.append_nil, List.cons_append, List.nil_append]
  after_results
  pointwise []
  have ha := a.isLt
  have hb := b.isLt
  rw [sixtyfourth]
  by_cases h : b.val / 64 = a.val / 64
  · rw [if_pos h, h, show IntOp.cmpi CmpIPredicate.eq (BitVec.ofNat 32 (a.val / 64)) (BitVec.ofNat 32 (a.val / 64)) = 1#1 by simp [IntOp.cmpi],
      show (FloatOps.uitofp FTy.f32 (1#1) : Ideal .f32) = (((1#1 : BitVec 1).toNat : ℝ) : EReal) from rfl]
    simp
  · rw [if_neg h, show IntOp.cmpi CmpIPredicate.eq (BitVec.ofNat 32 (b.val / 64)) (BitVec.ofNat 32 (a.val / 64)) = 0#1 by
        have : ¬ BitVec.ofNat 32 (b.val / 64) = BitVec.ofNat 32 (a.val / 64) := fun e => h (by
          have := congrArg BitVec.toNat e
          rw [BitVec.toNat_ofNat, BitVec.toNat_ofNat] at this
          omega)
        show BitVec.ofBool (_ == _) = 0#1
        rw [beq_eq_false_iff_ne.mpr this]
        rfl,
      show (FloatOps.uitofp FTy.f32 (0#1) : Ideal .f32) = (((0#1 : BitVec 1).toNat : ℝ) : EReal) from rfl]
    simp

/-- The attention's weights, head by head, widened by zeros. -/
def wide (w : S384x1024.Idx → EReal) : S6x128x1024.Idx → EReal :=
  pad S6x128x1024 ![0, 0, 0] ![0, 64, 0] ![0, 0, 0]
    (fun i : S6x64x1024.Idx => w (ix2 ⟨(i 0).val * 64 + (i 1).val, by have h0 : (i 0).val < 6 := (i 0).isLt; have h1 : (i 1).val < 64 := (i 1).isLt; omega⟩ (i 2)))
    (sitofp (F := Ideal) .f32 (constantI S_ 32 0#32)) pads_S6x64x1024_S6x128x1024_000_0640_000 h_S_

theorem V18 (c : Dev nD) (k : Fin 1024) (b : Fin 768) :
    V m c main_v18 (ix2 b k)
      = wide (A11 m c) (ix3 ⟨b.val / 128, by have := b.isLt; omega⟩ ⟨b.val % 128, by omega⟩ k) := by
  unfold_abbrev_sides
  simp only [hostOps0, hostOps0_1, hostOps0_2, List.flatten_cons, List.flatten_nil, List.append_nil, List.cons_append, List.nil_append]
  after_results
  pointwise []
  rfl

theorem V18_val (c : Dev nD) (k : Fin 1024) (h : Fin 6) (e : Fin 64) (b : Fin 768) (hb : b.val = h.val * 128 + e.val) :
    V m c main_v18 (ix2 b k) = A11 m c (ix2 (col h e) k) := by
  have he := e.isLt
  rw [V18]
  unfold wide
  exact pad_apply_of_inside _ _ _ _ _ _ _ _ (ix3 h e k : S6x64x1024.Idx) fun a => by
    match a with
    | ⟨0, _⟩ => show b.val / 128 = 0 + h.val * 1; omega
    | ⟨1, _⟩ => show b.val % 128 = 0 + e.val * 1; omega
    | ⟨2, _⟩ => show k.val = 0 + k.val * 1; omega

theorem V18_zero (c : Dev nD) (k : Fin 1024) (h : Fin 6) (e : Fin 64) (b : Fin 768) (hb : b.val = h.val * 128 + 64 + e.val) :
    V m c main_v18 (ix2 b k) = (0 : EReal) := by
  have he := e.isLt
  rw [V18]
  unfold wide
  refine (pad_apply_of_not_inside _ _ _ _ _ _ _ _ (1 : Fin 3) fun hin => ?_).trans ?_
  · have h2 : (b.val % 128 - 0) / (0 + 1) < 64 := hin.2.2
    omega
  · show ((((0#32 : BitVec 32).toInt : ℝ)) : EReal) = 0
    simp

end Cert.Kernel4Ideal.Gen
-- ==== Proof.MergePay.lean ====
/- The merge kernel's payloads at an index. -/
module

public import proofs.«01_k».proof.Proof.MergeSpec
public import proofs.«01_k».proof.Proof.Gen.Kernel4Ideal.Skeleton
public import Idealize.ShloMosaic.Lib.Pipeline.ValueKit
public import Idealize.ShloMosaic.Lib.KernelVsHost

@[expose] public section

set_option maxRecDepth 16384

noncomputable section

namespace Cert.Kernel4Ideal.Gen

open Idealize.ShloMosaic Idealize.ShloMosaic.TcCoe
open Idealize.SL Idealize.SL.Sem
open Idealize.ShloMosaic.Rounds
open Cert.Math

/-- The rows normalised by the averaging matrix, gained. -/
theorem pay5_at (y z : Vec Ideal S512x384 .bf16) (M : Vec Ideal S384x384 .bf16) (v : Vec Ideal S2x384 .f32) (i : Fin 512) (a : Fin 384) :
    k0_pay5 (F := Ideal) y z M v (ix2 i a)
      = gnormM (fun b a => M (ix2 b a)) (fun b => y (ix2 i b) + z (ix2 i b)) a * v (ix2 0 a) := by
  unfold gnormM
  pointwise [k0_pay5, k0_pay4]

/-- The first branch's row. -/
theorem branch_at (y z : Vec Ideal S512x384 .bf16) (g b : Vec Ideal S1x512x384 .bf16) (M : Vec Ideal S384x384 .bf16) (v : Vec Ideal S2x384 .f32)
    (i : Fin 512) (a : Fin 384)
    (hM : ∀ b a, M (ix2 b a) = ((if b.val / 64 = a.val / 64 then 1 / 64 else 0 : ℝ) : EReal))
    (hy : ∀ b, ∃ r : ℝ, y (ix2 i b) + z (ix2 i b) = (r : EReal)) :
    (k0_pay5 (F := Ideal) y z M v (ix2 i a) + k0_pay6 (F := Ideal) v (ix2 i a) + k0_pay3 (F := Ideal) b (ix2 i a)) * k0_pay2 (F := Ideal) g (ix2 i a)
      = branch (fun b => y (ix2 i b) + z (ix2 i b)) (fun a => g (ix3 0 i a)) (fun a => b (ix3 0 i a)) (fun a => v (ix2 0 a)) (fun a => v (ix2 1 a)) a := by
  unfold branch
  rw [pay5_at, gnormM_eq _ hM _ hy]
  pointwise [k0_pay6, k0_pay4, k0_pay3, k0_pay2]

/-- The last product, of the three gated products' sum. -/
theorem pay7_at (p7 p10 p37 p39 : FVec Ideal S512x384 .f32) (wa : Vec Ideal S384x1024 .bf16) (ga : Vec Ideal S512x1024 .bf16)
    (t : Vec Ideal S512x768 .bf16) (wb : Vec Ideal S768x1024 .bf16) (gb : Vec Ideal S512x1024 .bf16) (yc : Vec Ideal S512x256 .f32)
    (wc : Vec Ideal S256x1024 .bf16) (gc : Vec Ideal S512x1024 .bf16) (wo : Vec Ideal S1024x1024 .bf16) (i : Fin 512) (d : Fin 1024)
    (W : Fin 384 → Fin 1024 → EReal)
    (h1 : ∀ k (h : Fin 6) (e : Fin 64) (b : Fin 768), b.val = h.val * 128 + e.val → wb (ix2 b k) = W (col h e) k)
    (h0 : ∀ k (h : Fin 6) (e : Fin 64) (b : Fin 768), b.val = h.val * 128 + 64 + e.val → wb (ix2 b k) = 0) :
    k0_pay7 (F := Ideal) p7 p10 p37 p39 wa ga t wb gb yc wc gc wo (ix2 i d)
      = ∑ k, mixed (fun a => (p37 (ix2 i a) + p39 (ix2 i a) + p10 (ix2 i a)) * p7 (ix2 i a))
          (fun a => t (ix2 i ⟨a.val / 64 * 128 + a.val % 64, by have := a.isLt; omega⟩)) (fun a => yc (ix2 i a))
          (fun k => ga (ix2 i k)) (fun k => gb (ix2 i k)) (fun k => gc (ix2 i k)) (fun a k => wa (ix2 a k)) W (fun a k => wc (ix2 a k)) k
          * wo (ix2 k d) := by
  unfold mixed
  simp only [← sum_wide (fun b => t (ix2 i b)) (fun b => wb (ix2 b _)) (fun a => W a _) (h1 _) (h0 _)]
  pointwise [k0_pay7]

/-- The gate and the residual. -/
theorem pay1_at (x : Vec Ideal S512x1024 .f32) (gt : Vec Ideal S1x1024 .f32) (o : Vec Ideal S512x1024 .f32) (i : Fin 512) (d : Fin 1024) :
    k0_pay1 (F := Ideal) o x (k0_pay8 (F := Ideal) gt) (ix2 i d) = x (ix2 i d) + gt (ix2 0 d) * o (ix2 i d) := by
  pointwise [k0_pay1, k0_pay8]

end Cert.Kernel4Ideal.Gen
-- ==== Proof.MergeFold.lean ====
/- The merge kernel's array after its run. -/
module

public import proofs.«01_k».proof.Proof.MergeHost
public import proofs.«01_k».proof.Proof.MergePay
public import proofs.«01_k».proof.Proof.ReadRect

@[expose] public section

set_option maxRecDepth 16384

noncomputable section

namespace Cert.Kernel4Ideal.Gen

open Idealize.ShloMosaic Idealize.ShloMosaic.TcCoe
open Idealize.SL Idealize.SL.Sem
open Idealize.ShloMosaic.Rounds
open Cert.Math Cert.Reference4Ideal.Read

/-- One layer of a buffer of three axes, loaded. -/
theorem readLayer {e : EltTy} {a : Memref sig .tc .vmem S2x512x384 e} (ha : a.IsWhole) (X : Vec Ideal S2x512x384 e) (o : ℕ) (ho : o < 2)
    (inb) (i : Fin 512) (j : Fin 384) :
    View.readAt (Elt Ideal) a.view (Rect.unit (s := S2x512x384) ![o, 0, 0] S1x512x384.size inb).toLoadRect (ha.unread X) (ix3 0 i j)
      = X (ix3 ⟨o, ho⟩ i j) := by
  rw [ha.readAt_unread]
  congr 1; funext a; fin_cases a <;> exact Fin.ext (by simp [LoadRect.idx, Rect.toLoadRect])

/-- What a point writes back, at an index. -/
theorem out_at (c : Dev nD) (i : grid0.Coords) (arg1 : Memref sig .tc .vmem S512x384 .bf16) (harg1 : arg1.IsWhole)
    (arg2 : Memref sig .tc .vmem S512x384 .bf16) (harg2 : arg2.IsWhole) (arg3 : Memref sig .tc .vmem S2x512x384 .bf16) (harg3 : arg3.IsWhole)
    (arg4 : Memref sig .tc .vmem S384x384 .bf16) (harg4 : arg4.IsWhole) (arg5 : Memref sig .tc .vmem S2x384 .f32) (harg5 : arg5.IsWhole)
    (arg6 : Memref sig .tc .vmem S512x768 .bf16) (harg6 : arg6.IsWhole) (arg7 : Memref sig .tc .vmem S512x256 .f32) (harg7 : arg7.IsWhole)
    (arg8 : Memref sig .tc .vmem S512x1024 .bf16) (harg8 : arg8.IsWhole) (arg9 : Memref sig .tc .vmem S512x1024 .bf16) (harg9 : arg9.IsWhole)
    (arg10 : Memref sig .tc .vmem S512x1024 .bf16) (harg10 : arg10.IsWhole) (arg11 : Memref sig .tc .vmem S512x1024 .f32) (harg11 : arg11.IsWhole)
    (arg12 : Memref sig .tc .vmem S1x1024 .f32) (harg12 : arg12.IsWhole) (arg13 : Memref sig .tc .vmem S384x1024 .bf16) (harg13 : arg13.IsWhole)
    (arg14 : Memref sig .tc .vmem S768x1024 .bf16) (harg14 : arg14.IsWhole) (arg15 : Memref sig .tc .vmem S256x1024 .bf16) (harg15 : arg15.IsWhole)
    (arg16 : Memref sig .tc .vmem S1024x1024 .bf16) (harg16 : arg16.IsWhole) (arg17 : Memref sig .tc .vmem S512x1024 .f32) (harg17 : arg17.IsWhole)
    (x0 : Vec Ideal S512x384 .bf16) (x1 : Vec Ideal S512x384 .bf16) (x2 : Vec Ideal S2x512x384 .bf16) (x3 : Vec Ideal S384x384 .bf16)
    (x4 : Vec Ideal S2x384 .f32) (x5 : Vec Ideal S512x768 .bf16) (x6 : Vec Ideal S512x256 .f32) (x7 : Vec Ideal S512x1024 .bf16)
    (x8 : Vec Ideal S512x1024 .bf16) (x9 : Vec Ideal S512x1024 .bf16) (x10 : Vec Ideal S512x1024 .f32) (x11 : Vec Ideal S1x1024 .f32)
    (x12 : Vec Ideal S384x1024 .bf16) (x13 : Vec Ideal S768x1024 .bf16) (x14 : Vec Ideal S256x1024 .bf16) (x15 : Vec Ideal S1024x1024 .bf16)
    (r : Fin 512) (d : Fin 1024) (W : Fin 384 → Fin 1024 → EReal)
    (hM : ∀ b a, x3 (ix2 b a) = ((if b.val / 64 = a.val / 64 then 1 / 64 else 0 : ℝ) : EReal))
    (hy : ∀ b, ∃ ρ : ℝ, x0 (ix2 r b) + x1 (ix2 r b) = (ρ : EReal))
    (h1 : ∀ k (h : Fin 6) (e : Fin 64) (b : Fin 768), b.val = h.val * 128 + e.val → x13 (ix2 b k) = W (col h e) k)
    (h0 : ∀ k (h : Fin 6) (e : Fin 64) (b : Fin 768), b.val = h.val * 128 + 64 + e.val → x13 (ix2 b k) = 0) :
    out0_A_16 c i arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 x0 x1 x2 x3 x4 x5 x6 x7 x8 x9 x10 x11 x12 x13 x14 x15 (ix2 r d)
      = x10 (ix2 r d) + x11 (ix2 0 d) * ∑ k,
          mixed (branch (fun b => x0 (ix2 r b) + x1 (ix2 r b)) (fun a => x2 (ix3 0 r a)) (fun a => x2 (ix3 1 r a)) (fun a => x4 (ix2 0 a)) (fun a => x4 (ix2 1 a)))
            (fun a => x5 (ix2 r ⟨a.val / 64 * 128 + a.val % 64, by have := a.isLt; omega⟩)) (fun a => x6 (ix2 r a))
            (fun k => x7 (ix2 r k)) (fun k => x8 (ix2 r k)) (fun k => x9 (ix2 r k)) (fun a k => x12 (ix2 a k)) W (fun a k => x14 (ix2 a k)) k
            * x15 (ix2 k d) := by
  unfold out0_A_16
  rw [View.read_writes_junk_eq_canon]
  unfold kernelRun0_A
  dsimp only
  refine (congrFun (View.canon_cons_unit_lit _ _ _ (fun a => by fin_cases a <;> rfl)) _).trans ?_
  unfold kernelRun0_A.sl.r_6 kernelRun0_A.sl.r_5 kernelRun0_A.sl.r_4
  rw [readAll harg11, readAll harg12, readAll harg13, readAll harg8, readAll harg6, readAll harg14, readAll harg9, readAll harg7, readAll harg15,
    readAll harg10, readAll harg16]
  refine (pay1_at _ _ _ r d).trans ?_
  rw [pay7_at _ _ _ _ _ _ _ _ _ _ _ _ _ r d W h1 h0]
  unfold kernelRun0_A.sl.r kernelRun0_A.sl.r_1 kernelRun0_A.sl.r_2 kernelRun0_A.sl.r_3
  rw [readAll harg1, readAll harg2, readAll harg4, readAll harg5]
  simp only [branch_at x0 x1 _ _ x3 x4 r _ hM hy, readLayer harg3 x2 0 (by omega), readLayer harg3 x2 1 (by omega)]
  rfl

variable (m : (ℓ : Loc nD τ sig) → Buf (Elt Ideal) ℓ)

theorem idx : ∀ t : Fin cfg0.N, win0_0.index t = ![t.val, 0] ∧ win0_1.index t = ![t.val, 0] ∧ win0_2.index t = ![0, t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 1] ∧ win0_9.index t = ![t.val, 2] ∧ win0_10.index t = ![t.val, 0]
    ∧ win0_11.index t = ![0, 0] ∧ win0_12.index t = ![0, 0] ∧ win0_13.index t = ![0, 0] ∧ win0_14.index t = ![0, 0]
    ∧ win0_15.index t = ![0, 0] ∧ win0_16.index t = ![t.val, 0] :=
  (by decide +kernel : ∀ t : Fin grid0.N, _)

/-- The row of the arrays a point's row `r` is. -/
abbrev row (t : Fin cfg0.N) (r : Fin 512) : Fin 16384 :=
  ⟨t.val * 512 + r.val, by have ht : t.val < 32 := t.isLt; have := r.isLt; omega⟩

theorem blk0 (c : Dev nD) (t : Fin cfg0.N) (r : Fin 512) (a : Fin 384) : X0_0 m c t (ix2 r a) = A0 m c (ix2 (tok (row t r)) a) := by
  unfold X0_0 Pipeline.Window.fill
  rw [dif_pos (moved0_0 t _)]
  change V m c (Pipeline.arrRef spec0 0) (((cfg0.win 0).blk t).view.emb _) = _
  blk_ext [V, idx t]

theorem blk1 (c : Dev nD) (t : Fin cfg0.N) (r : Fin 512) (a : Fin 384) : X0_1 m c t (ix2 r a) = A1 m c (ix2 (tok (row t r)) a) := by
  unfold X0_1 Pipeline.Window.fill
  rw [dif_pos (moved0_1 t _)]
  change V m c (Pipeline.arrRef spec0 1) (((cfg0.win 1).blk t).view.emb _) = _
  blk_ext [V, idx t]

theorem blk2 (c : Dev nD) (t : Fin cfg0.N) (z : Fin 2) (r : Fin 512) (a : Fin 384) :
    X0_2 m c t (ix3 z r a) = A2 m c (ix3 z (tok (row t r)) a) := by
  unfold X0_2 Pipeline.Window.fill
  rw [dif_pos (moved0_2 t _)]
  change V m c (Pipeline.arrRef spec0 2) (((cfg0.win 2).blk t).view.emb _) = _
  blk_ext [V, idx t]

theorem blk3 (c : Dev nD) (t : Fin cfg0.N) (b a : Fin 384) :
    iblk m c 3 t (ix2 b a) = ((if b.val / 64 = a.val / 64 then 1 / 64 else 0 : ℝ) : EReal) := by
  refine Eq.trans ?_ (V10 m c b a)
  blk_ext [iblk, idx t]

theorem blk4_0 (c : Dev nD) (t : Fin cfg0.N) (a : Fin 384) : iblk m c 4 t (ix2 0 a) = A8 m c (ix1 a) := by
  refine Eq.trans ?_ (V16_0 m c a)
  blk_ext [iblk, idx t]

theorem blk4_1 (c : Dev nD) (t : Fin cfg0.N) (a : Fin 384) : iblk m c 4 t (ix2 1 a) = A9 m c (ix1 a) := by
  refine Eq.trans ?_ (V16_1 m c a)
  blk_ext [iblk, idx t]

theorem blk5 (c : Dev nD) (t : Fin cfg0.N) (r : Fin 512) (b : Fin 768) : iblk m c 5 t (ix2 r b) = A3 m c (ix2 (row t r) b) := by
  blk_ext [iblk, V, idx t]

theorem blk6 (c : Dev nD) (t : Fin cfg0.N) (r : Fin 512) (b : Fin 256) : iblk m c 6 t (ix2 r b) = A4 m c (ix2 (row t r) b) := by
  blk_ext [iblk, V, idx t]

theorem blk7 (c : Dev nD) (t : Fin cfg0.N) (r : Fin 512) (k : Fin 1024) : iblk m c 7 t (ix2 r k) = gate (A5 m c) 0 (by omega) (row t r) k := by
  blk_ext [iblk, V, idx t]

theorem blk8 (c : Dev nD) (t : Fin cfg0.N) (r : Fin 512) (k : Fin 1024) : iblk m c 8 t (ix2 r k) = gate (A5 m c) 1 (by omega) (row t r) k := by
  blk_ext [iblk, V, idx t]

theorem blk9 (c : Dev nD) (t : Fin cfg0.N) (r : Fin 512) (k : Fin 1024) : iblk m c 9 t (ix2 r k) = gate (A5 m c) 2 (by omega) (row t r) k := by
  blk_ext [iblk, V, idx t]

theorem blk10 (c : Dev nD) (t : Fin cfg0.N) (r : Fin 512) (d : Fin 1024) : iblk m c 10 t (ix2 r d) = A6 m c (ix2 (row t r) d) := by
  blk_ext [iblk, V, idx t]

theorem blk11 (c : Dev nD) (t : Fin cfg0.N) (d : Fin 1024) : iblk m c 11 t (ix2 0 d) = A7 m c (ix2 0 d) := by
  blk_ext [iblk, V, idx t]

theorem blk12 (c : Dev nD) (t : Fin cfg0.N) (a : Fin 384) (k : Fin 1024) : iblk m c 12 t (ix2 a k) = A10 m c (ix2 a k) := by
  rw [← V17]
  blk_ext [iblk, idx t]

theorem blk13 (c : Dev nD) (t : Fin cfg0.N) (b : Fin 768) (k : Fin 1024) : iblk m c 13 t (ix2 b k) = V m c main_v18 (ix2 b k) := by
  blk_ext [iblk, idx t]

theorem blk14 (c : Dev nD) (t : Fin cfg0.N) (a : Fin 256) (k : Fin 1024) : iblk m c 14 t (ix2 a k) = A12 m c (ix2 a k) := by
  rw [← V19]
  blk_ext [iblk, idx t]

theorem blk15 (c : Dev nD) (t : Fin cfg0.N) (k d : Fin 1024) : iblk m c 15 t (ix2 k d) = A13 m c (ix2 k d) := by
  rw [← V20]
  blk_ext [iblk, idx t]

/-- The output array. -/
def mergeA (c : Dev nD) : S16384x1024.Idx → EReal := fun y =>
  merge (A0 m c) (A1 m c) (A2 m c) (A3 m c) (A4 m c) (A5 m c) (A6 m c) (A7 m c) (A8 m c) (A9 m c) (A10 m c) (A11 m c) (A12 m c) (A13 m c) (y 0) (y 1)

/-- A point's block, at an index, when the row's two scanned arrays are real. -/
theorem block_at (c : Dev nD) (hy : ∀ i a, ∃ ρ : ℝ, both (A0 m c) (A1 m c) i a = (ρ : EReal)) (t : Fin cfg0.N) (r : Fin 512) (d : Fin 1024) :
    outsAt0 m c t (ix2 r d) = mergeA m c (ix2 (row t r) d) := by
  unfold outsAt0
  refine (out_at (r := r) (d := d) (W := fun a k => A11 m c (ix2 a k)) (hM := blk3 m c t)
    (hy := fun b => by rw [blk0, blk1]; exact hy (row t r) b)
    (h1 := fun k h e b hb => (blk13 m c t b k).trans (V18_val m c k h e b hb))
    (h0 := fun k h e b hb => (blk13 m c t b k).trans (V18_zero m c k h e b hb)) ..).trans ?_
  simp only [blk0, blk1, blk2, blk4_0, blk4_1, blk5, blk6, blk7, blk8, blk9, blk10, blk11, blk12, blk14, blk15]
  rfl

theorem final (c : Dev nD) (hy : ∀ i a, ∃ ρ : ℝ, both (A0 m c) (A1 m c) i a = (ρ : EReal)) :
    (dats m 0 c).arrAt 16 cfg0.N = mergeA m c := by
  refine (dats m 0 c).arrAt_eq_of_covers 16 _ (by decide +kernel) fun t hf y => ?_
  rw [after0_16]
  have ht : t.val < 32 := t.isLt
  have hi : (y 0).val < 512 := (y 0).isLt
  have hd : (y 1).val < 1024 := (y 1).isLt
  have key := block_at m c hy t
  generalize outsAt0 m c t = S at key ⊢
  refine (congrArg S (ix2_eta y).symm).trans ((key ⟨(y 0).val, hi⟩ ⟨(y 1).val, hd⟩).trans ?_)
  refine congrArg (mergeA m c) ?_
  funext a
  fin_cases a
  · exact Fin.ext (by blk_simp [idx t]; rfl)
  · exact Fin.ext (by blk_simp [idx t]; rfl)

end Cert.Kernel4Ideal.Gen
-- ==== Proof.MergePre.lean ====
/- What the merge's precondition says of its arguments: the two scanned arrays are finite in the rows the merge takes. -/
module

public import proofs.«01_k».proof.Proof.MergeRef
public import proofs.«01_k».proof.Proof.AttnPre
public import proofs.«01_k».proof.Pre_finite_scan

@[expose] public section

set_option maxRecDepth 16384

noncomputable section

namespace Cert.Pre_finite_scan

open Idealize.ShloMosaic
open Cert.Reference4Ideal.Read (tok both)
open Cert.Pre_finite_scores_unit_row (inf_bf16 of_bool_one)

/-- The predicate's shape relations hold. -/
theorem preFacts : Facts where
  slices_S16640x384_S16384x384_0_0 := by decide
  bcast_S_S16384x384 := by decide

/-- An array whose magnitudes in the rows taken compare below infinity is real there. -/
theorem real_of_lt [Facts] (x : S16640x384.Idx → EReal)
    (H : cmpf (F := Ideal) (φ := .bf16) .olt (Host.absf (extractStridedSlice S16384x384 ![0, 0] x Facts.slices_S16640x384_S16384x384_0_0))
        (broadcastInDim S16384x384 ![] Facts.bcast_S_S16384x384 (constant S_ .bf16 0x7F80#16)) = fun _ => 1#1)
    (i : Fin 16384) (a : Fin 384) : ∃ r : ℝ, x (ix2 (tok i) a) = (r : EReal) := by
  have e := congrFun H (ix2 i a)
  refine Cert.Math.exists_real_of_abs_lt ?_
  have e2 := of_decide_eq_true (of_bool_one e)
  have e3 : extractStridedSlice S16384x384 ![0, 0] x Facts.slices_S16640x384_S16384x384_0_0 (ix2 i a) = x (ix2 (tok i) a) :=
    extractStridedSlice_apply _ x _ _ _ (fun a => by match a with | ⟨0, _⟩ => exact (Nat.zero_add _).symm | ⟨1, _⟩ => exact (Nat.zero_add _).symm)
  rw [← e3, ← inf_bf16]
  exact e2

/-- The sum of the two arrays is real where both are. -/
theorem both_real (x0 x1 : S16640x384.Idx → EReal) (h0 : ∀ (i : Fin 16384) (a : Fin 384), ∃ r : ℝ, x0 (ix2 (tok i) a) = (r : EReal))
    (h1 : ∀ (i : Fin 16384) (a : Fin 384), ∃ r : ℝ, x1 (ix2 (tok i) a) = (r : EReal)) (i : Fin 16384) (a : Fin 384) :
    ∃ r : ℝ, both x0 x1 i a = (r : EReal) := by
  obtain ⟨r, hr⟩ := h0 i a
  obtain ⟨s, hs⟩ := h1 i a
  exact ⟨r + s, by rw [both, hr, hs, EReal.coe_add]⟩

end Cert.Pre_finite_scan
-- ==== Proof.ModsRef.lean ====
/- The reference's modulation at an index. -/
module

public import proofs.«01_k».proof.Proof.ProjSpec
public import proofs.«01_k».proof.Proof.Gen.Reference5Ideal.Read
public import Idealize.ShloMosaic.Lib.KernelVsHost
public import Idealize.ShloMosaic.Lib.Pipeline.ValueKit

@[expose] public section

set_option maxRecDepth 16384

noncomputable section

namespace Cert.Reference5Ideal.Read

open Idealize.ShloMosaic Idealize.ShloMosaic.TcCoe
open Idealize.SL Idealize.SL.Sem
open Cert.Math

variable (x0 : S1x1024.Idx → EReal) (x1 : S1024.Idx → EReal) (x2 : S4x1024x6144.Idx → EReal) (x3 : S4x6144.Idx → EReal)

/-- The conditioning's rows: the latents', the context's, and zeros. -/
def condRow (r : Fin 8) (k : Fin 1024) : EReal :=
  if r.val = 0 then x0 (ix2 0 k) else if r.val = 1 then x1 (ix1 k) else 0

/-- An entry of the conditioning times its logistic function. -/
def silu (z : EReal) : EReal := z * sigm z

/-- The modulation of one layer. -/
def modul (l : Fin 4) (r : Fin 8) (n : Fin 6144) : EReal :=
  (∑ k, x2 (ix3 l k n) * silu (condRow x0 x1 r k)) + x3 (ix2 l n)

theorem v2_at (r : Fin 8) (k : Fin 1024) : val_main_v2 (F := Ideal) x0 x1 (ix2 r k) = condRow x0 x1 r k := by
  unfold condRow
  fin_cases r <;> pointwise [val_main_v2, val_main_v1, val_main_v0, val_main_cst]

theorem one_f32 : Ideal.ofBits .f32 0x3F800000#32 = (1 : EReal) := by
  rw [show (1 : EReal) = ((1 : ℝ) : EReal) from rfl]
  simp [Ideal.ofBits, Ideal.ieee, -EReal.coe_mul]; norm_num

theorem v3_at (r : Fin 8) (k : Fin 1024) : val_main_v3 (F := Ideal) x0 x1 (ix2 r k) = silu (condRow x0 x1 r k) := by
  unfold silu sigm
  rw [← v2_at, ← one_f32]
  pointwise [val_main_v3, val_main_call0_v5, val_main_call0_v4, val_main_call0_v3, val_main_call0_v2, val_main_call0_v1, val_main_call0_v0,
    val_main_call0_cst, val_main_call0_cst_0]

theorem v8_at (l : Fin 4) (r : Fin 8) (n : Fin 6144) : val_main_v8 (F := Ideal) x0 x1 x2 x3 (ix3 l r n) = modul x0 x1 x2 x3 l r n := by
  unfold modul
  simp only [← v3_at]
  pointwise [val_main_v8, val_main_v7, val_main_v6, val_main_v5, val_main_v4]

end Cert.Reference5Ideal.Read
-- ==== Proof.ModsHost.lean ====
/- What the host computes for the modulation kernel: the conditioning's rows written over zeros, and the offsets with an axis added. -/
module

public import proofs.«01_k».proof.Proof.ModsRef
public import proofs.«01_k».proof.Proof.Gen.Kernel5Ideal.Value
public import Idealize.ShloMosaic.Lib.Routing.OpsSet
public import Idealize.ShloMosaic.Lib.Routing.OpsPair

@[expose] public section

set_option maxRecDepth 16384

noncomputable section

namespace Cert.Kernel5Ideal.Gen

open Idealize.ShloMosaic Idealize.ShloMosaic.TcCoe
open Idealize.SL Idealize.SL.Sem
open Idealize.ShloMosaic.Rounds
open Cert.Math Cert.Reference5Ideal.Read

/-- Where an entry of a row's update lands: in the row the index names, at its own column. -/
theorem lands (q : IVec S1 32) (k : S1024.Idx) (r : Fin 8) (j : Fin 1024) :
    scatter_S8x1024_S1_S1024_0_0_0_0.resultIdx? k q = some (ix2 r j) ↔ (q (ix1 0)).toInt = r.val ∧ (k 0).val = j.val := by
  refine (Routing.resultIdx?_ix2 (R := 8) (C := 1024) scatter_S8x1024_S1_S1024_0_0_0_0 k q r j).trans ?_
  have s0 : scatter_S8x1024_S1_S1024_0_0_0_0.start k q 0 = (q (ix1 0)).toInt := by
    refine (dif_pos (by decide)).trans (congrArg (fun i => (q i).toInt) ?_)
    funext a
    match a with | ⟨0, _⟩ => exact Subsingleton.elim (α := Fin 1) _ _
  have s1 : scatter_S8x1024_S1_S1024_0_0_0_0.start k q 1 = 0 := rfl
  have w0 : scatter_S8x1024_S1_S1024_0_0_0_0.window k 0 = 0 := rfl
  have w1 : scatter_S8x1024_S1_S1024_0_0_0_0.window k 1 = (k 0).val := rfl
  rw [s0, s1, w0, w1]
  omega

/-- A row written over an array. -/
theorem row_set (x : S8x1024.Idx → EReal) (q : IVec S1 32) (u : S1024.Idx → EReal) (ρ : ℕ) (hq : (q (ix1 0)).toInt = ρ) (r : Fin 8) (j : Fin 1024) :
    Host.scatter scatter_S8x1024_S1_S1024_0_0_0_0 (fun _ b => b) x q u (ix2 r j) = if r.val = ρ then u (ix1 j) else x (ix2 r j) := by
  by_cases h : r.val = ρ
  · rw [if_pos h]
    refine Routing.scatter_set_hit _ _ _ _ _ _ (fun k hk => ?_) (ix1 j) ((lands q _ r j).2 ⟨by omega, rfl⟩)
    have e := ((lands q k r j).1 hk).2
    exact congrArg u (funext fun a => by match a with | ⟨0, _⟩ => exact Fin.ext e)
  · rw [if_neg h]
    refine Routing.scatter_set_miss _ _ _ _ _ fun k hk => h ?_
    have e := ((lands q k r j).1 hk).1
    omega

variable (m : (ℓ : Loc nD τ sig) → Buf (Elt Ideal) ℓ)

abbrev A0 (c : Dev nD) : S1x1024.Idx → EReal := m ((c : Thread nD τ).loc main_arg0)
abbrev A1 (c : Dev nD) : S1024.Idx → EReal := m ((c : Thread nD τ).loc main_arg1)
abbrev A2 (c : Dev nD) : S4x1024x6144.Idx → EReal := m ((c : Thread nD τ).loc main_arg2)
abbrev A3 (c : Dev nD) : S4x6144.Idx → EReal := m ((c : Thread nD τ).loc main_arg3)

theorem V6 (c : Dev nD) (l : Fin 4) (n : Fin 6144) : V m c main_v6 (ix3 l 0 n) = A3 m c (ix2 l n) := by
  unfold_abbrev_sides
  after_results
  pointwise []

theorem V5 (c : Dev nD) (r : Fin 8) (j : Fin 1024) : V m c main_v5 (ix2 r j) = condRow (A0 m c) (A1 m c) r j := by
  unfold_abbrev_sides
  after_results
  refine (row_set _ _ _ 1 (by rfl) r j).trans ?_
  rw [row_set _ _ _ 0 (by rfl) r j]
  unfold condRow
  fin_cases r <;> pointwise []

end Cert.Kernel5Ideal.Gen
-- ==== Proof.ModsPay.lean ====
/- The modulation kernel's payload at an index. -/
module

public import proofs.«01_k».proof.Proof.ModsRef
public import proofs.«01_k».proof.Proof.ERealSum
public import proofs.«01_k».proof.Proof.Gen.Kernel5Ideal.Skeleton

@[expose] public section

set_option maxRecDepth 16384

noncomputable section

namespace Cert.Kernel5Ideal.Gen

open Idealize.ShloMosaic Idealize.ShloMosaic.TcCoe
open Idealize.SL Idealize.SL.Sem
open Idealize.ShloMosaic.Rounds
open Cert.Math Cert.Reference5Ideal.Read

/-- The product from the two factors' rounded parts and what rounding left of them, as the kernel adds it up. -/
theorem pay1_split (v0 : Vec Ideal S8x1024 .f32) (w : Vec Ideal S1x1024x1536 .f32) (b : Vec Ideal S1x1x1536 .f32) (r : Fin 8) (n : Fin 1536) :
    k0_pay1 (F := Ideal) v0 w b (ix3 0 r n)
      = ((∑ k, (silu (v0 (ix2 r k)) - silu (v0 (ix2 r k))) * w (ix3 0 k n))
          + (∑ k, silu (v0 (ix2 r k)) * (w (ix3 0 k n) - w (ix3 0 k n)))
          + ∑ k, silu (v0 (ix2 r k)) * w (ix3 0 k n)) + b (ix3 0 0 n) := by
  unfold silu sigm
  simp only [← tanh_logistic]
  rw [← half_const]
  pointwise [k0_pay1]

/-- A real times its logistic function is real. -/
theorem silu_real {x : EReal} (h : ∃ r : ℝ, x = (r : EReal)) : ∃ r : ℝ, silu x = (r : EReal) := by
  obtain ⟨r, rfl⟩ := h
  refine ⟨r * (1 / 2 * Real.tanh (1 / 2 * r) + 1 / 2), ?_⟩
  unfold silu sigm
  rw [← tanh_logistic, ← EReal.coe_mul]
  show (r : EReal) * (((1 / 2 : ℝ) : EReal) * ((Real.tanh (1 / 2 * r) : ℝ) : EReal) + ((1 / 2 : ℝ) : EReal)) = _
  rw [← EReal.coe_mul, ← EReal.coe_add, ← EReal.coe_mul]

/-- A real less itself is zero. -/
theorem sub_self_real {x : EReal} (h : ∃ r : ℝ, x = (r : EReal)) : x - x = 0 := by
  obtain ⟨r, rfl⟩ := h
  rw [← EReal.coe_sub, sub_self, EReal.coe_zero]

/-- Where the factors are real, what rounding leaves of them is zero and the product is the one of the factors. -/
theorem pay1_at (v0 : Vec Ideal S8x1024 .f32) (w : Vec Ideal S1x1024x1536 .f32) (b : Vec Ideal S1x1x1536 .f32) (r : Fin 8) (n : Fin 1536)
    (h0 : ∀ k, ∃ ρ : ℝ, v0 (ix2 r k) = (ρ : EReal)) (hw : ∀ k, ∃ ρ : ℝ, w (ix3 0 k n) = (ρ : EReal)) :
    k0_pay1 (F := Ideal) v0 w b (ix3 0 r n) = (∑ k, w (ix3 0 k n) * silu (v0 (ix2 r k))) + b (ix3 0 0 n) := by
  rw [pay1_split]
  simp only [sub_self_real (silu_real (h0 _)), sub_self_real (hw _), zero_mul, mul_zero, Finset.sum_const_zero, zero_add, mul_comm]

end Cert.Kernel5Ideal.Gen
-- ==== Proof.ModsFold.lean ====
/- The modulation kernel's array after its run. -/
module

public import proofs.«01_k».proof.Proof.ModsHost
public import proofs.«01_k».proof.Proof.ModsPay

@[expose] public section

set_option maxRecDepth 16384

noncomputable section

namespace Cert.Kernel5Ideal.Gen

open Idealize.ShloMosaic Idealize.ShloMosaic.TcCoe
open Idealize.SL Idealize.SL.Sem
open Idealize.ShloMosaic.Rounds
open Cert.Math Cert.Reference5Ideal.Read

/-- What a point writes back, at an index. -/
theorem out_at (x0 : Vec Ideal S8x1024 .f32) (x1 : Vec Ideal S1x1024x1536 .f32) (x2 : Vec Ideal S1x1x1536 .f32) (r : Fin 8) (n : Fin 1536)
    (h0 : ∀ k, ∃ ρ : ℝ, x0 (ix2 r k) = (ρ : EReal)) (h1 : ∀ k, ∃ ρ : ℝ, x1 (ix3 0 k n) = (ρ : EReal)) :
    out0_3 x0 x1 x2 (ix3 0 r n) = (∑ k, x1 (ix3 0 k n) * silu (x0 (ix2 r k))) + x2 (ix3 0 0 n) := by
  unfold out0_3
  rw [View.canon_cons_unit_lit _ _ _ (fun a => by fin_cases a <;> rfl), View.ld_unit_lit _ _ (fun a => by fin_cases a <;> rfl),
    View.ld_unit_lit _ _ (fun a => by fin_cases a <;> rfl), View.ld_unit_lit _ _ (fun a => by fin_cases a <;> rfl)]
  exact pay1_at x0 x1 x2 r n h0 h1

variable (m : (ℓ : Loc nD τ sig) → Buf (Elt Ideal) ℓ)

theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

/-- A point's layer. -/
abbrev layer (t : Fin cfg0.N) : Fin 4 := ⟨t.val / 4, by have ht : t.val < 16 := t.isLt; omega⟩

/-- The column of the arrays a point's column `n` is. -/
abbrev column (t : Fin cfg0.N) (n : Fin 1536) : Fin 6144 := ⟨t.val % 4 * 1536 + n.val, by have := n.isLt; omega⟩

theorem blk0 (c : Dev nD) (t : Fin cfg0.N) (r : Fin 8) (k : Fin 1024) : iblk m c 0 t (ix2 r k) = condRow (A0 m c) (A1 m c) r k := by
  refine Eq.trans ?_ (V5 m c r k)
  blk_ext [iblk, idx t]

theorem blk1 (c : Dev nD) (t : Fin cfg0.N) (k : Fin 1024) (n : Fin 1536) :
    iblk m c 1 t (ix3 0 k n) = A2 m c (ix3 (layer t) k (column t n)) := by
  blk_ext [iblk, V, idx t]

theorem blk2 (c : Dev nD) (t : Fin cfg0.N) (n : Fin 1536) : iblk m c 2 t (ix3 0 0 n) = A3 m c (ix2 (layer t) (column t n)) := by
  refine Eq.trans ?_ (V6 m c (layer t) (column t n))
  blk_ext [iblk, idx t]

/-- The output array. -/
def modA (c : Dev nD) : S4x8x6144.Idx → EReal := fun y => modul (A0 m c) (A1 m c) (A2 m c) (A3 m c) (y 0) (y 1) (y 2)

variable (h0 : ∀ (c : Dev nD) i, ∃ ρ : ℝ, A0 m c i = (ρ : EReal)) (h1 : ∀ (c : Dev nD) i, ∃ ρ : ℝ, A1 m c i = (ρ : EReal))
  (h2 : ∀ (c : Dev nD) i, ∃ ρ : ℝ, A2 m c i = (ρ : EReal))

include h0 h1

/-- The conditioning's rows are real where the two given ones are. -/
theorem cond_real (c : Dev nD) (r : Fin 8) (k : Fin 1024) : ∃ ρ : ℝ, condRow (A0 m c) (A1 m c) r k = (ρ : EReal) := by
  unfold condRow
  split
  · exact h0 c _
  · split
    · exact h1 c _
    · exact ⟨0, rfl⟩

include h2

/-- A point's block, at an index. -/
theorem block_at (c : Dev nD) (t : Fin cfg0.N) (r : Fin 8) (n : Fin 1536) :
    out0_3 (iblk m c 0 t) (iblk m c 1 t) (iblk m c 2 t) (ix3 0 r n) = modA m c (ix3 (layer t) r (column t n)) := by
  refine (out_at _ _ _ r n (fun k => ?_) (fun k => ?_)).trans ?_
  · rw [blk0]; exact cond_real m h0 h1 c r k
  · rw [blk1]; exact h2 c _
  · simp only [blk0, blk1, blk2]
    rfl

theorem final (c : Dev nD) : (dats m 0 c).arrAt 3 cfg0.N = modA m c := by
  refine (dats m 0 c).arrAt_eq_of_covers 3 _ (by decide +kernel) fun t hf y => ?_
  rw [after0_3]
  have ht : t.val < 16 := t.isLt
  have hz : (y 0).val < 1 := (y 0).isLt
  have hr : (y 1).val < 8 := (y 1).isLt
  have hn : (y 2).val < 1536 := (y 2).isLt
  have key := block_at m h0 h1 h2 c t
  generalize out0_3 (iblk m c 0 t) (iblk m c 1 t) (iblk m c 2 t) = S at key ⊢
  have ey : y = ix3 (0 : Fin 1) (⟨(y 1).val, hr⟩ : Fin 8) (⟨(y 2).val, hn⟩ : Fin 1536) := by
    funext a
    fin_cases a
    · exact Fin.ext (by show (y 0).val = 0; omega)
    · rfl
    · rfl
  refine (congrArg S ey).trans ((key ⟨(y 1).val, hr⟩ ⟨(y 2).val, hn⟩).trans ?_)
  refine congrArg (modA m c) ?_
  funext a
  fin_cases a
  · exact Fin.ext (by blk_simp [idx t]; show t.val / 4 = _; omega)
  · exact Fin.ext (by blk_simp [idx t]; rfl)
  · exact Fin.ext (by blk_simp [idx t]; rfl)

end Cert.Kernel5Ideal.Gen
-- ==== Proof.ModsPre.lean ====
/- What the modulation's precondition says of its arguments: finite conditioning and finite weights. -/
module

public import proofs.«01_k».proof.Proof.AttnPre
public import proofs.«01_k».proof.Pre_finite_modulation

@[expose] public section

set_option maxRecDepth 16384

noncomputable section

namespace Cert.Pre_finite_modulation

open Idealize.ShloMosaic
open Cert.Pre_finite_scores_unit_row (of_bool_one)

/-- The predicate's shape relations hold. -/
theorem preFacts : Facts where
  bcast_S_S1x1024 := by decide
  bcast_S_S1024 := by decide
  bcast_S_S4x1024x6144 := by decide

/-- The word the predicate compares with is infinity. -/
theorem inf_f32 : Ideal.ofBits .f32 0x7F800000#32 = (⊤ : EReal) := by
  simp [Ideal.ofBits, Ideal.ieee]

/-- An array whose magnitudes compare below infinity is real. -/
theorem real_of_lt {s : Shape} (b : S_.BroadcastsInDim s (![] : Fin 0 → Fin s.rank)) (x : s.Idx → EReal)
    (H : cmpf (F := Ideal) (φ := .f32) .olt (Host.absf x) (broadcastInDim s ![] b (constant S_ .f32 0x7F800000#32)) = fun _ => 1#1) (i : s.Idx) :
    ∃ r : ℝ, x i = (r : EReal) := by
  refine Cert.Math.exists_real_of_abs_lt ?_
  have e := of_decide_eq_true (of_bool_one (congrFun H i))
  rw [← inf_f32]
  exact e

end Cert.Pre_finite_modulation
-- ==== Proof.FtPre.lean ====
/- The shape relations of the transform's two preconditions: a finite array and a finite table. -/
module

public import proofs.«01_k».proof.Proof.ModsPre
public import proofs.«01_k».proof.Pre_finite_first_stage
public import proofs.«01_k».proof.Pre_finite_second_stage

@[expose] public section

set_option maxRecDepth 16384

noncomputable section

namespace Cert.Pre_finite_first_stage

/-- The predicate's shape relations hold. -/
theorem preFacts : Facts where
  bcast_S_S128x65536 := by decide
  bcast_S_S256x128 := by decide

end Cert.Pre_finite_first_stage

namespace Cert.Pre_finite_second_stage

/-- The predicate's shape relations hold. -/
theorem preFacts : Facts where
  bcast_S_S128x128x512 := by decide
  bcast_S_S2x128x128 := by decide

end Cert.Pre_finite_second_stage
-- ==== Proof.Ft1Ref.lean ====
/- The reference's first stage of the position transform at an index. -/
module

public import proofs.«01_k».proof.Proof.ModsRef
public import proofs.«01_k».proof.Proof.Gen.Reference6Ideal.Read

@[expose] public section

set_option maxRecDepth 16384

noncomputable section

namespace Cert.Reference6Ideal.Read

open Idealize.ShloMosaic Idealize.ShloMosaic.TcCoe
open Idealize.SL Idealize.SL.Sem

open Cert.Math

/-- The real part of a column's transform, times the conjugate of a root. -/
def turnRe (u v a b : Fin 128 → EReal) (tc ts : EReal) : EReal :=
  ((∑ q, u q * a q) + ∑ q, v q * b q) * tc + ((∑ q, u q * b q) - ∑ q, v q * a q) * ts

/-- The imaginary part of the same. -/
def turnIm (u v a b : Fin 128 → EReal) (tc ts : EReal) : EReal :=
  ((∑ q, u q * b q) - ∑ q, v q * a q) * tc - ((∑ q, u q * a q) + ∑ q, v q * b q) * ts

/-- The rows of the table: the cosines', then the sines'. -/
abbrev cosRow (p : Fin 128) : Fin 256 := ⟨p.val, by have := p.isLt; omega⟩
abbrev sinRow (p : Fin 128) : Fin 256 := ⟨128 + p.val, by have := p.isLt; omega⟩

/-- A residue's columns in the array: the real parts, then the imaginary ones. -/
abbrev reCol (t : Fin 128) (n : Fin 256) : Fin 65536 := ⟨t.val * 512 + n.val, by have := n.isLt; have := t.isLt; omega⟩
abbrev imCol (t : Fin 128) (n : Fin 256) : Fin 65536 := ⟨t.val * 512 + 256 + n.val, by have := n.isLt; have := t.isLt; omega⟩

/-- A channel's lane. -/
abbrev lane (n : Fin 256) : Fin 128 := ⟨n.val % 128, Nat.mod_lt _ (by decide)⟩

/-- A channel's lane, read off the two halves of the channels. -/
theorem lane_split (f : Fin 128 → EReal) (n : Fin 256) :
    (if h : n.val < 128 then f ⟨n.val, h⟩ else f ⟨n.val - 128, by have := n.isLt; omega⟩) = f (lane n) := by
  have hn := n.isLt
  split
  · exact congrArg f (Fin.ext (by show n.val = n.val % 128; omega))
  · exact congrArg f (Fin.ext (by show n.val - 128 = n.val % 128; omega))

variable (x0 : S128x65536.Idx → EReal) (x1 : S256x128.Idx → EReal) (x2 : S2x128x128x128.Idx → EReal)

/-- The first stage of the transform at a row, a residue and a channel. -/
def stage1 (p t : Fin 128) (h : Fin 2) (n : Fin 256) : EReal :=
  if h.val = 0 then
    turnRe (fun q => x1 (ix2 (cosRow p) q)) (fun q => x1 (ix2 (sinRow p) q)) (fun q => x0 (ix2 q (reCol t n))) (fun q => x0 (ix2 q (imCol t n)))
      (x2 (ix4 0 t p (lane n))) (x2 (ix4 1 t p (lane n)))
  else
    turnIm (fun q => x1 (ix2 (cosRow p) q)) (fun q => x1 (ix2 (sinRow p) q)) (fun q => x0 (ix2 q (reCol t n))) (fun q => x0 (ix2 q (imCol t n)))
      (x2 (ix4 0 t p (lane n))) (x2 (ix4 1 t p (lane n)))

/-- The first stage of the transform. -/
def stage1A : S128x65536.Idx → EReal := fun y =>
  stage1 x0 x1 x2 (y 0) ⟨(y 1).val / 512, by have h : (y 1).val < 65536 := (y 1).isLt; omega⟩ ⟨(y 1).val / 256 % 2, Nat.mod_lt _ (by decide)⟩
    ⟨(y 1).val % 256, Nat.mod_lt _ (by decide)⟩

theorem re_at (q t : Fin 128) (n : Fin 256) : val_main_v2 (F := Ideal) x0 (ix3 q t n) = x0 (ix2 q (reCol t n)) := by
  pointwise [val_main_v2, val_main_v1, val_main_v0]

theorem im_at (q t : Fin 128) (n : Fin 256) : val_main_v4 (F := Ideal) x0 (ix3 q t n) = x0 (ix2 q (imCol t n)) := by
  pointwise [val_main_v4, val_main_v3, val_main_v0]

theorem cos_at (p t : Fin 128) (n : Fin 256) : val_main_v16 (F := Ideal) x2 (ix3 p t n) = x2 (ix4 0 t p (lane n)) := by
  refine Eq.trans ?_ (lane_split (fun l => x2 (ix4 0 t p l)) n)
  pointwise [val_main_v16, val_main_v15, val_main_v14, val_main_v13]

theorem sin_at (p t : Fin 128) (n : Fin 256) : val_main_v20 (F := Ideal) x2 (ix3 p t n) = x2 (ix4 1 t p (lane n)) := by
  refine Eq.trans ?_ (lane_split (fun l => x2 (ix4 1 t p l)) n)
  pointwise [val_main_v20, val_main_v19, val_main_v18, val_main_v17]

theorem sumRe_at (p t : Fin 128) (n : Fin 256) :
    val_main_v9 (F := Ideal) x0 x1 (ix3 p t n)
      = (∑ q, x1 (ix2 (cosRow p) q) * x0 (ix2 q (reCol t n))) + ∑ q, x1 (ix2 (sinRow p) q) * x0 (ix2 q (imCol t n)) := by
  simp only [← re_at, ← im_at]
  pointwise [val_main_v9, val_main_v8, val_main_v7, val_main_v6, val_main_v5]

theorem sumIm_at (p t : Fin 128) (n : Fin 256) :
    val_main_v12 (F := Ideal) x0 x1 (ix3 p t n)
      = (∑ q, x1 (ix2 (cosRow p) q) * x0 (ix2 q (imCol t n))) - ∑ q, x1 (ix2 (sinRow p) q) * x0 (ix2 q (reCol t n)) := by
  simp only [← re_at, ← im_at]
  pointwise [val_main_v12, val_main_v11, val_main_v10, val_main_v6, val_main_v5]

theorem v29_at (p t : Fin 128) (h : Fin 2) (n : Fin 256) : val_main_v29 (F := Ideal) x0 x1 x2 (ix4 p t h n) = stage1 x0 x1 x2 p t h n := by
  unfold stage1 turnRe turnIm
  simp only [← sumRe_at, ← sumIm_at, ← cos_at, ← sin_at]
  fin_cases h <;> pointwise [val_main_v29, val_main_v28, val_main_v27, val_main_v26, val_main_v25, val_main_v24, val_main_v23, val_main_v22, val_main_v21]

theorem v30_eq : val_main_v30 (F := Ideal) x0 x1 x2 = stage1A x0 x1 x2 := by
  funext y
  have h0 : (y 0).val < 128 := (y 0).isLt
  have h1 : (y 1).val < 65536 := (y 1).isLt
  rw [val_main_v30_apply]
  refine (congrArg (val_main_v29 (F := Ideal) x0 x1 x2) (funext fun a => ?_)).trans
    (v29_at x0 x1 x2 (y 0) ⟨(y 1).val / 512, by omega⟩ ⟨(y 1).val / 256 % 2, Nat.mod_lt _ (by decide)⟩ ⟨(y 1).val % 256, Nat.mod_lt _ (by decide)⟩)
  fin_cases a
  · exact Fin.ext (by show ((y 0).val * 65536 + (y 1).val) / 65536 = (y 0).val; omega)
  · exact Fin.ext (by show ((y 0).val * 65536 + (y 1).val) / 512 % 128 = (y 1).val / 512; omega)
  · exact Fin.ext (by show ((y 0).val * 65536 + (y 1).val) / 256 % 2 = (y 1).val / 256 % 2; omega)
  · exact Fin.ext (by show ((y 0).val * 65536 + (y 1).val) % 256 = (y 1).val % 256; omega)

end Cert.Reference6Ideal.Read
-- ==== Proof.Ft1Pay.lean ====
/- The first stage's payload at an index. -/
module

public import proofs.«01_k».proof.Proof.Ft1Ref
public import proofs.«01_k».proof.Proof.ModsPay
public import proofs.«01_k».proof.Proof.Gen.Kernel6Ideal.Frame

@[expose] public section

set_option maxRecDepth 16384

noncomputable section

namespace Cert.Kernel6Ideal.Gen

open Idealize.ShloMosaic Idealize.ShloMosaic.TcCoe
open Idealize.SL Idealize.SL.Sem

open Idealize.ShloMosaic.Rounds
open Cert.Math Cert.Reference6Ideal.Read
open Cert.Kernel5Ideal.Gen (sub_self_real)

/-- The product with the table from the rounded parts of the factors and what rounding left of them, as the kernel adds it up. -/
theorem pay2_split (u : Vec Ideal S256x128 .f32) (w : Vec Ideal S128x4096 .f32) (p : Fin 256) (j : Fin 4096) :
    k0_pay2 (F := Ideal) u w (ix2 p j)
      = ((∑ q, (u (ix2 p q) - u (ix2 p q)) * w (ix2 q j)) + (∑ q, u (ix2 p q) * (w (ix2 q j) - w (ix2 q j)))) + ∑ q, u (ix2 p q) * w (ix2 q j) := by
  pointwise [k0_pay2]

variable (x0 : Vec Ideal S128x4096 .f32) (x1 : Vec Ideal S256x128 .f32) (x2 : Vec Ideal S2x8x128x128 .f32)

/-- Where the factors are real, the product with the table. -/
theorem prod_at (h0 : ∀ i, ∃ ρ : ℝ, x0 i = (ρ : EReal)) (h1 : ∀ i, ∃ ρ : ℝ, x1 i = (ρ : EReal)) (p : Fin 256) (j : Fin 4096) :
    k0_pay66 x0 x1 x2 (ix2 p j) = ∑ q, x1 (ix2 p q) * x0 (ix2 q j) := by
  unfold k0_pay66
  rw [View.ld_unit_lit _ _ (fun a => by fin_cases a <;> rfl), View.ld_unit_lit _ _ (fun a => by fin_cases a <;> rfl), pay2_split]
  simp only [sub_self_real (h0 _), sub_self_real (h1 _), zero_mul, mul_zero, Finset.sum_const_zero, zero_add]

/-- Rows of a strip of columns of a product. -/
def strip (z : FVec Ideal S256x4096 .f32) (o : Fin 2 → ℕ) (h : S256x4096.Slices o S256x256) (r : Fin 2 → ℕ) (h' : S256x256.Slices r S128x256) :
    FVec Ideal S128x256 .f32 :=
  extractStridedSlice S128x256 r (extractStridedSlice S256x256 o z h) h'

theorem strip_at (z : FVec Ideal S256x4096 .f32) (o : Fin 2 → ℕ) (h : S256x4096.Slices o S256x256) (r : Fin 2 → ℕ) (h' : S256x256.Slices r S128x256)
    (ho : o 0 = 0) (hr : r 1 = 0) (p : Fin 128) (n : Fin 256) (p' : Fin 256) (j : Fin 4096) (hp : p'.val = r 0 + p.val) (hj : j.val = o 1 + n.val) :
    strip z o h r h' (ix2 p n) = z (ix2 p' j) := by
  unfold strip
  refine (extractStridedSlice_apply r _ h' (ix2 p n) (ix2 p' n) fun a => ?_).trans
    (extractStridedSlice_apply o z h (ix2 p' n) (ix2 p' j) fun a => ?_)
  · fin_cases a
    · exact hp
    · show n.val = r 1 + n.val; omega
  · fin_cases a
    · show p'.val = o 0 + p'.val; omega
    · exact hj

/-- A residue's roots, for each channel. -/
theorem roots_at (v : Vec Ideal S1x1x128x128 .f32) (p : Fin 128) (n : Fin 256) : k0_pay39 (F := Ideal) v (ix2 p n) = v (ix4 0 0 p (lane n)) := by
  refine Eq.trans ?_ (lane_split (fun l => v (ix4 0 0 p l)) n)
  pointwise [k0_pay39]

/-- The sums whose products with the roots the two stores add up and subtract. -/
def sumRe (z : FVec Ideal S256x4096 .f32) (o o' : Fin 2 → ℕ) (h : S256x4096.Slices o S256x256) (h' : S256x4096.Slices o' S256x256) : FVec Ideal S128x256 .f32 :=
  addf (strip z o h ![0, 0] slices_S256x256_o0_0_S128x256) (strip z o' h' ![128, 0] slices_S256x256_o128_0_S128x256)

def sumIm (z : FVec Ideal S256x4096 .f32) (o o' : Fin 2 → ℕ) (h : S256x4096.Slices o S256x256) (h' : S256x4096.Slices o' S256x256) : FVec Ideal S128x256 .f32 :=
  subf (strip z o' h' ![0, 0] slices_S256x256_o0_0_S128x256) (strip z o h ![128, 0] slices_S256x256_o128_0_S128x256)

/-- A residue's columns in a block: the real parts, then the imaginary ones. -/
abbrev reIn (e : Fin 8) (n : Fin 256) : Fin 4096 := ⟨e.val * 512 + n.val, by have := n.isLt; have := e.isLt; omega⟩
abbrev imIn (e : Fin 8) (n : Fin 256) : Fin 4096 := ⟨e.val * 512 + 256 + n.val, by have := n.isLt; have := e.isLt; omega⟩

/-- One column of the block a point writes back. -/
def colVal (e : Fin 8) (h : Fin 2) (p : Fin 128) (n : Fin 256) : EReal :=
  if h.val = 0 then
    turnRe (fun q => x1 (ix2 (cosRow p) q)) (fun q => x1 (ix2 (sinRow p) q)) (fun q => x0 (ix2 q (reIn e n))) (fun q => x0 (ix2 q (imIn e n)))
      (x2 (ix4 0 e p (lane n))) (x2 (ix4 1 e p (lane n)))
  else
    turnIm (fun q => x1 (ix2 (cosRow p) q)) (fun q => x1 (ix2 (sinRow p) q)) (fun q => x0 (ix2 q (reIn e n))) (fun q => x0 (ix2 q (imIn e n)))
      (x2 (ix4 0 e p (lane n))) (x2 (ix4 1 e p (lane n)))

/-- The block a point writes back. -/
def tileVal (y : S128x4096.Idx) : EReal :=
  colVal x0 x1 x2 ⟨(y 1).val / 512, by have h : (y 1).val < 4096 := (y 1).isLt; omega⟩ ⟨(y 1).val / 256 % 2, Nat.mod_lt _ (by decide)⟩ (y 0)
    ⟨(y 1).val % 256, Nat.mod_lt _ (by decide)⟩

/-- A store's payload, once known at every index, is that store's columns of the block. -/
theorem tile_of (e : Fin 8) (h : Fin 2) (w : FVec Ideal S128x256 .f32) (hw : ∀ p n, w (ix2 p n) = colVal x0 x1 x2 e h p n) (y : S128x4096.Idx)
    (off : Fin 2 → ℕ) (ho0 : off 0 = 0) (ho1 : off 1 = e.val * 512 + h.val * 256) :
    View.TileAt (Val := Elt Ideal) (S := S128x4096) (e := .f32) y off S128x256.size w (tileVal x0 x1 x2 y) := by
  intro x hx
  have e0 : (y 0).val = off 0 + (x 0).val := hx 0
  have e1 : (y 1).val = off 1 + (x 1).val := hx 1
  have l1 : (x 1).val < 256 := (x 1).isLt
  have lh := h.isLt
  have ex : x = ix2 (x 0) (x 1) := by funext a; fin_cases a <;> rfl
  have p0 : x 0 = y 0 := Fin.ext (by omega)
  have pe : (⟨(y 1).val / 512, by have h : (y 1).val < 4096 := (y 1).isLt; omega⟩ : Fin 8) = e := Fin.ext (by show (y 1).val / 512 = e.val; omega)
  have ph : (⟨(y 1).val / 256 % 2, Nat.mod_lt _ (by decide)⟩ : Fin 2) = h := Fin.ext (by show (y 1).val / 256 % 2 = h.val; omega)
  have pn : (⟨(y 1).val % 256, Nat.mod_lt _ (by decide)⟩ : Fin 256) = x 1 := Fin.ext (by show (y 1).val % 256 = (x 1).val; omega)
  rw [ex]
  refine (hw (x 0) (x 1)).trans ?_
  unfold tileVal
  rw [pe, ph, pn, p0]

/-- A residue's roots read through the window. -/
theorem ld_at (s : Fin 2) (e : Fin 8) (off : Fin 4 → ℕ) (inb) (ho : off = ![s.val, e.val, 0, 0]) (p l : Fin 128) :
    View.ld x2 (Rect.unit (s := S2x8x128x128) off S1x1x128x128.size inb) (ix4 (0 : Fin 1) (0 : Fin 1) p l) = x2 (ix4 s e p l) := by
  subst ho
  refine View.ld_unit_apply_of _ _ _ _ _ _ fun a => ?_
  fin_cases a
  · rfl
  · rfl
  · exact (Nat.zero_add _).symm
  · exact (Nat.zero_add _).symm

variable (h0 : ∀ i, ∃ ρ : ℝ, x0 i = (ρ : EReal)) (h1 : ∀ i, ∃ ρ : ℝ, x1 i = (ρ : EReal))

include h0 h1

theorem sumRe_in (e : Fin 8) (o o' : Fin 2 → ℕ) (h h') (ho : o = ![0, e.val * 512]) (ho' : o' = ![0, e.val * 512 + 256]) (p : Fin 128) (n : Fin 256) :
    sumRe (k0_pay66 x0 x1 x2) o o' h h' (ix2 p n)
      = (∑ q, x1 (ix2 (cosRow p) q) * x0 (ix2 q (reIn e n))) + ∑ q, x1 (ix2 (sinRow p) q) * x0 (ix2 q (imIn e n)) := by
  subst ho ho'
  rw [← prod_at x0 x1 x2 h0 h1, ← prod_at x0 x1 x2 h0 h1]
  exact congr (congrArg HAdd.hAdd (strip_at _ _ _ _ _ rfl rfl p n (cosRow p) (reIn e n) (Nat.zero_add _).symm rfl))
    (strip_at _ _ _ _ _ rfl rfl p n (sinRow p) (imIn e n) rfl rfl)

theorem sumIm_in (e : Fin 8) (o o' : Fin 2 → ℕ) (h h') (ho : o = ![0, e.val * 512]) (ho' : o' = ![0, e.val * 512 + 256]) (p : Fin 128) (n : Fin 256) :
    sumIm (k0_pay66 x0 x1 x2) o o' h h' (ix2 p n)
      = (∑ q, x1 (ix2 (cosRow p) q) * x0 (ix2 q (imIn e n))) - ∑ q, x1 (ix2 (sinRow p) q) * x0 (ix2 q (reIn e n)) := by
  subst ho ho'
  rw [← prod_at x0 x1 x2 h0 h1, ← prod_at x0 x1 x2 h0 h1]
  exact congr (congrArg HSub.hSub (strip_at _ _ _ _ _ rfl rfl p n (cosRow p) (imIn e n) (Nat.zero_add _).symm rfl))
    (strip_at _ _ _ _ _ rfl rfl p n (sinRow p) (reIn e n) rfl rfl)

/-- What a store of real parts writes. -/
theorem tile_re (e : Fin 8) (o o' : Fin 2 → ℕ) (h h') (ho : o = ![0, e.val * 512]) (ho' : o' = ![0, e.val * 512 + 256])
    (tc ts : Vec Ideal S1x1x128x128 .f32) (hc : ∀ p l, tc (ix4 0 0 p l) = x2 (ix4 0 e p l)) (hs : ∀ p l, ts (ix4 0 0 p l) = x2 (ix4 1 e p l))
    (y : S128x4096.Idx) (off : Fin 2 → ℕ) (ho0 : off 0 = 0) (ho1 : off 1 = e.val * 512 + 0 * 256) :
    View.TileAt (Val := Elt Ideal) (S := S128x4096) (e := .f32) y off S128x256.size
      (addf (mulf (sumRe (k0_pay66 x0 x1 x2) o o' h h') (k0_pay39 tc)) (mulf (sumIm (k0_pay66 x0 x1 x2) o o' h h') (k0_pay39 ts))) (tileVal x0 x1 x2 y) := by
  refine tile_of x0 x1 x2 e 0 _ (fun p n => ?_) y off ho0 ho1
  show sumRe (k0_pay66 x0 x1 x2) o o' h h' (ix2 p n) * k0_pay39 (F := Ideal) tc (ix2 p n) + sumIm (k0_pay66 x0 x1 x2) o o' h h' (ix2 p n) * k0_pay39 (F := Ideal) ts (ix2 p n) = _
  rw [sumRe_in x0 x1 x2 h0 h1 e o o' h h' ho ho', sumIm_in x0 x1 x2 h0 h1 e o o' h h' ho ho', roots_at, roots_at, hc, hs]
  rfl

/-- What a store of imaginary parts writes. -/
theorem tile_im (e : Fin 8) (o o' : Fin 2 → ℕ) (h h') (ho : o = ![0, e.val * 512]) (ho' : o' = ![0, e.val * 512 + 256])
    (tc ts : Vec Ideal S1x1x128x128 .f32) (hc : ∀ p l, tc (ix4 0 0 p l) = x2 (ix4 0 e p l)) (hs : ∀ p l, ts (ix4 0 0 p l) = x2 (ix4 1 e p l))
    (y : S128x4096.Idx) (off : Fin 2 → ℕ) (ho0 : off 0 = 0) (ho1 : off 1 = e.val * 512 + 1 * 256) :
    View.TileAt (Val := Elt Ideal) (S := S128x4096) (e := .f32) y off S128x256.size
      (subf (mulf (sumIm (k0_pay66 x0 x1 x2) o o' h h') (k0_pay39 tc)) (mulf (sumRe (k0_pay66 x0 x1 x2) o o' h h') (k0_pay39 ts))) (tileVal x0 x1 x2 y) := by
  refine tile_of x0 x1 x2 e 1 _ (fun p n => ?_) y off ho0 ho1
  show sumIm (k0_pay66 x0 x1 x2) o o' h h' (ix2 p n) * k0_pay39 (F := Ideal) tc (ix2 p n) - sumRe (k0_pay66 x0 x1 x2) o o' h h' (ix2 p n) * k0_pay39 (F := Ideal) ts (ix2 p n) = _
  rw [sumRe_in x0 x1 x2 h0 h1 e o o' h h' ho ho', sumIm_in x0 x1 x2 h0 h1 e o o' h h' ho ho', roots_at, roots_at, hc, hs]
  rfl

/-- The block a point writes back. -/
theorem out_eq : out0_3 x0 x1 x2 = tileVal x0 x1 x2 := by
  funext y
  unfold out0_3
  refine View.canon_eq_of_allAt _ y _ (cover0_3 _ _ _ _ _ _ _ _ _ _ _ _ _ _ _ _ y) ?_
  refine View.allAt_cons_unit _ _ _ _ _ (tile_im x0 x1 x2 h0 h1 7 ![0, 3584] ![0, 3840] slices_S256x4096_o0_3584_S256x256 slices_S256x4096_o0_3840_S256x256
    rfl rfl (View.ld x2 r0_30) (View.ld x2 r0_31) (ld_at x2 0 7 _ _ rfl) (ld_at x2 1 7 _ _ rfl) y _ rfl rfl) ?_
  refine View.allAt_cons_unit _ _ _ _ _ (tile_re x0 x1 x2 h0 h1 7 ![0, 3584] ![0, 3840] slices_S256x4096_o0_3584_S256x256 slices_S256x4096_o0_3840_S256x256
    rfl rfl (View.ld x2 r0_30) (View.ld x2 r0_31) (ld_at x2 0 7 _ _ rfl) (ld_at x2 1 7 _ _ rfl) y _ rfl rfl) ?_
  refine View.allAt_cons_unit _ _ _ _ _ (tile_im x0 x1 x2 h0 h1 6 ![0, 3072] ![0, 3328] slices_S256x4096_o0_3072_S256x256 slices_S256x4096_o0_3328_S256x256
    rfl rfl (View.ld x2 r0_26) (View.ld x2 r0_27) (ld_at x2 0 6 _ _ rfl) (ld_at x2 1 6 _ _ rfl) y _ rfl rfl) ?_
  refine View.allAt_cons_unit _ _ _ _ _ (tile_re x0 x1 x2 h0 h1 6 ![0, 3072] ![0, 3328] slices_S256x4096_o0_3072_S256x256 slices_S256x4096_o0_3328_S256x256
    rfl rfl (View.ld x2 r0_26) (View.ld x2 r0_27) (ld_at x2 0 6 _ _ rfl) (ld_at x2 1 6 _ _ rfl) y _ rfl rfl) ?_
  refine View.allAt_cons_unit _ _ _ _ _ (tile_im x0 x1 x2 h0 h1 5 ![0, 2560] ![0, 2816] slices_S256x4096_o0_2560_S256x256 slices_S256x4096_o0_2816_S256x256
    rfl rfl (View.ld x2 r0_22) (View.ld x2 r0_23) (ld_at x2 0 5 _ _ rfl) (ld_at x2 1 5 _ _ rfl) y _ rfl rfl) ?_
  refine View.allAt_cons_unit _ _ _ _ _ (tile_re x0 x1 x2 h0 h1 5 ![0, 2560] ![0, 2816] slices_S256x4096_o0_2560_S256x256 slices_S256x4096_o0_2816_S256x256
    rfl rfl (View.ld x2 r0_22) (View.ld x2 r0_23) (ld_at x2 0 5 _ _ rfl) (ld_at x2 1 5 _ _ rfl) y _ rfl rfl) ?_
  refine View.allAt_cons_unit _ _ _ _ _ (tile_im x0 x1 x2 h0 h1 4 ![0, 2048] ![0, 2304] slices_S256x4096_o0_2048_S256x256 slices_S256x4096_o0_2304_S256x256
    rfl rfl (View.ld x2 r0_18) (View.ld x2 r0_19) (ld_at x2 0 4 _ _ rfl) (ld_at x2 1 4 _ _ rfl) y _ rfl rfl) ?_
  refine View.allAt_cons_unit _ _ _ _ _ (tile_re x0 x1 x2 h0 h1 4 ![0, 2048] ![0, 2304] slices_S256x4096_o0_2048_S256x256 slices_S256x4096_o0_2304_S256x256
    rfl rfl (View.ld x2 r0_18) (View.ld x2 r0_19) (ld_at x2 0 4 _ _ rfl) (ld_at x2 1 4 _ _ rfl) y _ rfl rfl) ?_
  refine View.allAt_cons_unit _ _ _ _ _ (tile_im x0 x1 x2 h0 h1 3 ![0, 1536] ![0, 1792] slices_S256x4096_o0_1536_S256x256 slices_S256x4096_o0_1792_S256x256
    rfl rfl (View.ld x2 r0_14) (View.ld x2 r0_15) (ld_at x2 0 3 _ _ rfl) (ld_at x2 1 3 _ _ rfl) y _ rfl rfl) ?_
  refine View.allAt_cons_unit _ _ _ _ _ (tile_re x0 x1 x2 h0 h1 3 ![0, 1536] ![0, 1792] slices_S256x4096_o0_1536_S256x256 slices_S256x4096_o0_1792_S256x256
    rfl rfl (View.ld x2 r0_14) (View.ld x2 r0_15) (ld_at x2 0 3 _ _ rfl) (ld_at x2 1 3 _ _ rfl) y _ rfl rfl) ?_
  refine View.allAt_cons_unit _ _ _ _ _ (tile_im x0 x1 x2 h0 h1 2 ![0, 1024] ![0, 1280] slices_S256x4096_o0_1024_S256x256 slices_S256x4096_o0_1280_S256x256
    rfl rfl (View.ld x2 r0_10) (View.ld x2 r0_11) (ld_at x2 0 2 _ _ rfl) (ld_at x2 1 2 _ _ rfl) y _ rfl rfl) ?_
  refine View.allAt_cons_unit _ _ _ _ _ (tile_re x0 x1 x2 h0 h1 2 ![0, 1024] ![0, 1280] slices_S256x4096_o0_1024_S256x256 slices_S256x4096_o0_1280_S256x256
    rfl rfl (View.ld x2 r0_10) (View.ld x2 r0_11) (ld_at x2 0 2 _ _ rfl) (ld_at x2 1 2 _ _ rfl) y _ rfl rfl) ?_
  refine View.allAt_cons_unit _ _ _ _ _ (tile_im x0 x1 x2 h0 h1 1 ![0, 512] ![0, 768] slices_S256x4096_o0_512_S256x256 slices_S256x4096_o0_768_S256x256
    rfl rfl (View.ld x2 r0_6) (View.ld x2 r0_7) (ld_at x2 0 1 _ _ rfl) (ld_at x2 1 1 _ _ rfl) y _ rfl rfl) ?_
  refine View.allAt_cons_unit _ _ _ _ _ (tile_re x0 x1 x2 h0 h1 1 ![0, 512] ![0, 768] slices_S256x4096_o0_512_S256x256 slices_S256x4096_o0_768_S256x256
    rfl rfl (View.ld x2 r0_6) (View.ld x2 r0_7) (ld_at x2 0 1 _ _ rfl) (ld_at x2 1 1 _ _ rfl) y _ rfl rfl) ?_
  refine View.allAt_cons_unit _ _ _ _ _ (tile_im x0 x1 x2 h0 h1 0 ![0, 0] ![0, 256] slices_S256x4096_o0_0_S256x256 slices_S256x4096_o0_256_S256x256
    rfl rfl (View.ld x2 r0_2) (View.ld x2 r0_3) (ld_at x2 0 0 _ _ rfl) (ld_at x2 1 0 _ _ rfl) y _ rfl rfl) ?_
  refine View.allAt_cons_unit _ _ _ _ _ (tile_re x0 x1 x2 h0 h1 0 ![0, 0] ![0, 256] slices_S256x4096_o0_0_S256x256 slices_S256x4096_o0_256_S256x256
    rfl rfl (View.ld x2 r0_2) (View.ld x2 r0_3) (ld_at x2 0 0 _ _ rfl) (ld_at x2 1 0 _ _ rfl) y _ rfl rfl) ?_
  exact View.allAt_nil _ _

end Cert.Kernel6Ideal.Gen
-- ==== Proof.Ft1Fold.lean ====
/- The first stage's array after its run. -/
module

public import proofs.«01_k».proof.Proof.Ft1Pay
public import proofs.«01_k».proof.Proof.Gen.Kernel6Ideal.Value
public import Idealize.ShloMosaic.Lib.Pipeline.ValueKit

@[expose] public section

set_option maxRecDepth 16384

noncomputable section

namespace Cert.Kernel6Ideal.Gen

open Idealize.ShloMosaic Idealize.ShloMosaic.TcCoe
open Idealize.SL Idealize.SL.Sem

open Idealize.ShloMosaic.Rounds
open Cert.Math Cert.Reference6Ideal.Read

variable (m : (ℓ : Loc nD τ sig) → Buf (Elt Ideal) ℓ)

abbrev A0 (c : Dev nD) : S128x65536.Idx → EReal := m ((c : Thread nD τ).loc main_arg0)
abbrev A1 (c : Dev nD) : S256x128.Idx → EReal := m ((c : Thread nD τ).loc main_arg1)
abbrev A2 (c : Dev nD) : S2x128x128x128.Idx → EReal := m ((c : Thread nD τ).loc main_arg2)

theorem idx : ∀ t : Fin cfg0.N, win0_0.index t = ![0, t.val] ∧ win0_1.index t = ![0, 0] ∧ win0_2.index t = ![0, t.val, 0, 0]
    ∧ win0_3.index t = ![0, t.val] :=
  (by decide +kernel : ∀ t : Fin grid0.N, _)

/-- The residue a point's residue `e` is. -/
abbrev residue (t : Fin cfg0.N) (e : Fin 8) : Fin 128 := ⟨t.val * 8 + e.val, by have ht : t.val < 16 := t.isLt; omega⟩

theorem blk0 (c : Dev nD) (t : Fin cfg0.N) (q : Fin 128) (j : Fin 4096) (w : Fin 65536) (hw : w.val = t.val * 4096 + j.val) :
    iblk m c 0 t (ix2 q j) = A0 m c (ix2 q w) := by
  have hl : t.val * 4096 + j.val < 65536 := hw ▸ w.isLt
  rw [show w = ⟨t.val * 4096 + j.val, hl⟩ from Fin.ext hw]
  blk_ext [iblk, V, idx t]

theorem blk1 (c : Dev nD) (t : Fin cfg0.N) (p : Fin 256) (q : Fin 128) : iblk m c 1 t (ix2 p q) = A1 m c (ix2 p q) := by
  blk_ext [iblk, V, idx t]

theorem blk2 (c : Dev nD) (t : Fin cfg0.N) (s : Fin 2) (e : Fin 8) (p l : Fin 128) :
    iblk m c 2 t (ix4 s e p l) = A2 m c (ix4 s (residue t e) p l) := by
  blk_ext [iblk, V, idx t]

variable (h0 : ∀ (c : Dev nD) i, ∃ ρ : ℝ, A0 m c i = (ρ : EReal)) (h1 : ∀ (c : Dev nD) i, ∃ ρ : ℝ, A1 m c i = (ρ : EReal))

include h0 h1

/-- A point's block of the output, at an index. -/
theorem block_at (c : Dev nD) (t : Fin cfg0.N) (p : Fin 128) (j : Fin 4096) (w : Fin 65536) (hw : w.val = t.val * 4096 + j.val) :
    out0_3 (iblk m c 0 t) (iblk m c 1 t) (iblk m c 2 t) (ix2 p j) = stage1A (A0 m c) (A1 m c) (A2 m c) (ix2 p w) := by
  have ht : t.val < 16 := t.isLt
  rw [out_eq _ _ _
    (fun i => (h0 c _).imp fun ρ h => ((congrArg (iblk m c 0 t) (ix2_eta i).symm).trans
      (blk0 m c t (i 0) (i 1) ⟨t.val * 4096 + (i 1).val, by have hj : (i 1).val < 4096 := (i 1).isLt; omega⟩ rfl)).trans h)
    (fun i => (h1 c _).imp fun ρ h => ((congrArg (iblk m c 1 t) (ix2_eta i).symm).trans (blk1 m c t (i 0) (i 1))).trans h)]
  have et : (⟨w.val / 512, by omega⟩ : Fin 128) = residue t ⟨j.val / 512, by omega⟩ := Fin.ext (by show w.val / 512 = t.val * 8 + j.val / 512; omega)
  have eh : (⟨w.val / 256 % 2, Nat.mod_lt _ (by decide)⟩ : Fin 2) = ⟨j.val / 256 % 2, Nat.mod_lt _ (by decide)⟩ :=
    Fin.ext (by show w.val / 256 % 2 = j.val / 256 % 2; omega)
  have en : (⟨w.val % 256, Nat.mod_lt _ (by decide)⟩ : Fin 256) = ⟨j.val % 256, Nat.mod_lt _ (by decide)⟩ :=
    Fin.ext (by show w.val % 256 = j.val % 256; omega)
  show colVal _ _ _ ⟨j.val / 512, _⟩ ⟨j.val / 256 % 2, _⟩ p ⟨j.val % 256, _⟩ = stage1 (A0 m c) (A1 m c) (A2 m c) p ⟨w.val / 512, _⟩ ⟨w.val / 256 % 2, _⟩ ⟨w.val % 256, _⟩
  rw [et, eh, en]
  unfold colVal stage1
  have eR : ∀ (q : Fin 128) (e : Fin 8) (n : Fin 256), iblk m c 0 t (ix2 q (reIn e n)) = A0 m c (ix2 q (reCol (residue t e) n)) := fun q e n =>
    blk0 m c t q _ _ (by show (t.val * 8 + e.val) * 512 + n.val = t.val * 4096 + (e.val * 512 + n.val); omega)
  have eI : ∀ (q : Fin 128) (e : Fin 8) (n : Fin 256), iblk m c 0 t (ix2 q (imIn e n)) = A0 m c (ix2 q (imCol (residue t e) n)) := fun q e n =>
    blk0 m c t q _ _ (by show (t.val * 8 + e.val) * 512 + 256 + n.val = t.val * 4096 + (e.val * 512 + 256 + n.val); omega)
  simp only [eR, eI, blk1, blk2]

theorem final (c : Dev nD) : (dats m 0 c).arrAt 3 cfg0.N = stage1A (A0 m c) (A1 m c) (A2 m c) := by
  refine (dats m 0 c).arrAt_eq_of_covers 3 _ (by decide +kernel) fun t hf y => ?_
  rw [after0_3]
  have ht : t.val < 16 := t.isLt
  have hp : (y 0).val < 128 := (y 0).isLt
  have hj : (y 1).val < 4096 := (y 1).isLt
  have key := block_at m h0 h1 c t
  generalize out0_3 (iblk m c 0 t) (iblk m c 1 t) (iblk m c 2 t) = S at key ⊢
  have ey : y = ix2 (⟨(y 0).val, hp⟩ : Fin 128) (⟨(y 1).val, hj⟩ : Fin 4096) := by
    funext a
    fin_cases a <;> rfl
  refine (congrArg S ey).trans ((key ⟨(y 0).val, hp⟩ ⟨(y 1).val, hj⟩ ⟨t.val * 4096 + (y 1).val, by omega⟩ rfl).trans ?_)
  refine congrArg (stage1A (A0 m c) (A1 m c) (A2 m c)) ?_
  funext a
  fin_cases a
  · exact Fin.ext (by blk_simp [idx t]; rfl)
  · exact Fin.ext (by blk_simp [idx t]; rfl)

end Cert.Kernel6Ideal.Gen
-- ==== Proof.Ft2Ref.lean ====
/- The reference's second stage of the position transform at an index. -/
module

public import proofs.«01_k».proof.Proof.ModsRef
public import proofs.«01_k».proof.Proof.Gen.Reference7Ideal.Read

@[expose] public section

set_option maxRecDepth 16384

noncomputable section

namespace Cert.Reference7Ideal.Read

open Idealize.ShloMosaic Idealize.ShloMosaic.TcCoe
open Idealize.SL Idealize.SL.Sem
open Cert.Math

variable (x0 : S128x128x512.Idx → EReal) (x1 : S2x128x128.Idx → EReal)

/-- The column of a block's imaginary part. -/
abbrev imag (n : Fin 256) : Fin 512 := ⟨256 + n.val, by have := n.isLt; omega⟩

/-- The column of a block's real part. -/
abbrev real (n : Fin 256) : Fin 512 := ⟨n.val, by have := n.isLt; omega⟩

/-- The real part of the transform of one column, before it is scaled. -/
def stage2 (p k : Fin 128) (n : Fin 256) : EReal :=
  (∑ q, x1 (ix3 0 p q) * x0 (ix3 k q (real n))) + ∑ q, x1 (ix3 1 p q) * x0 (ix3 k q (imag n))

/-- The second stage of the transform: the columns of all the blocks side by side. -/
def stage2A : S128x32768.Idx → EReal := fun y =>
  Ideal.div (stage2 x0 x1 (y 0) ⟨(y 1).val / 256, by have h : (y 1).val < 32768 := (y 1).isLt; omega⟩ ⟨(y 1).val % 256, Nat.mod_lt _ (by decide)⟩)
    (Ideal.ofBits .f32 0x44800000#32)

theorem v10_at (p k : Fin 128) (n : Fin 256) :
    val_main_v10 (F := Ideal) x0 x1 (ix3 p k n) = Ideal.div (stage2 x0 x1 p k n) (Ideal.ofBits .f32 0x44800000#32) := by
  unfold stage2
  pointwise [val_main_v10, val_main_v9, val_main_cst, val_main_v8, val_main_v7, val_main_v6, val_main_v5, val_main_v4, val_main_v3, val_main_v2,
    val_main_v1, val_main_v0]

theorem v11_eq : val_main_v11 (F := Ideal) x0 x1 = stage2A x0 x1 := by
  funext y
  have h0 : (y 0).val < 128 := (y 0).isLt
  have h1 : (y 1).val < 32768 := (y 1).isLt
  rw [val_main_v11_apply]
  refine (congrArg (val_main_v10 (F := Ideal) x0 x1) (funext fun a => ?_)).trans
    (v10_at x0 x1 (y 0) ⟨(y 1).val / 256, by omega⟩ ⟨(y 1).val % 256, Nat.mod_lt _ (by decide)⟩)
  fin_cases a
  · exact Fin.ext (by show ((y 0).val * 32768 + (y 1).val) / 32768 = (y 0).val; omega)
  · exact Fin.ext (by show ((y 0).val * 32768 + (y 1).val) / 256 % 128 = (y 1).val / 256; omega)
  · exact Fin.ext (by show ((y 0).val * 32768 + (y 1).val) % 256 = (y 1).val % 256; omega)

end Cert.Reference7Ideal.Read
-- ==== Proof.Ft2Pay.lean ====
/- The second stage's payload at an index. -/
module

public import proofs.«01_k».proof.Proof.Ft2Ref
public import proofs.«01_k».proof.Proof.ModsPay
public import proofs.«01_k».proof.Proof.Gen.Kernel7Ideal.Frame

@[expose] public section

set_option maxRecDepth 16384

noncomputable section

namespace Cert.Kernel7Ideal.Gen

open Idealize.ShloMosaic Idealize.ShloMosaic.TcCoe
open Idealize.SL Idealize.SL.Sem
open Idealize.ShloMosaic.Rounds
open Cert.Math Cert.Reference7Ideal.Read
open Cert.Kernel5Ideal.Gen (sub_self_real)

/-- The scale is the inverse of the number divided by. -/
theorem scale_div (x : EReal) : x * Ideal.ofBits .f32 0x3A800000#32 = Ideal.div x (Ideal.ofBits .f32 0x44800000#32) := by
  have e1 : Ideal.ofBits .f32 0x3A800000#32 = ((1 / 1024 : ℝ) : EReal) := by
    simp [Ideal.ofBits, Ideal.ieee, -EReal.coe_mul]; norm_num
  have e2 : Ideal.ofBits .f32 0x44800000#32 = ((1024 : ℝ) : EReal) := by
    simp [Ideal.ofBits, Ideal.ieee, -EReal.coe_mul]; norm_num
  rw [e1, e2, Ideal.div_coe (by norm_num)]

/-- One block's columns from the rounded parts of the factors and what rounding left of them, as the kernel adds them up. -/
theorem pay5_split (u v : FVec Ideal S128x128 .f32) (b : Vec Ideal S1x128x512 .f32) (p : Fin 128) (n : Fin 256) :
    k0_pay5 (F := Ideal) u v b (ix2 p n)
      = ((((∑ q, (u (ix2 p q) - u (ix2 p q)) * b (ix3 0 q (real n))) + (∑ q, u (ix2 p q) * (b (ix3 0 q (real n)) - b (ix3 0 q (real n)))))
            + ∑ q, u (ix2 p q) * b (ix3 0 q (real n)))
          + (((∑ q, (v (ix2 p q) - v (ix2 p q)) * b (ix3 0 q (imag n))) + (∑ q, v (ix2 p q) * (b (ix3 0 q (imag n)) - b (ix3 0 q (imag n)))))
            + ∑ q, v (ix2 p q) * b (ix3 0 q (imag n))))
        * Ideal.ofBits .f32 0x3A800000#32 := by
  pointwise [k0_pay5]

/-- Where the factors are real, one block's columns are the transform. -/
theorem pay5_at (u v : FVec Ideal S128x128 .f32) (b : Vec Ideal S1x128x512 .f32) (p : Fin 128) (n : Fin 256)
    (hu : ∀ q, ∃ ρ : ℝ, u (ix2 p q) = (ρ : EReal)) (hv : ∀ q, ∃ ρ : ℝ, v (ix2 p q) = (ρ : EReal))
    (hb : ∀ q n, ∃ ρ : ℝ, b (ix3 0 q n) = (ρ : EReal)) :
    k0_pay5 (F := Ideal) u v b (ix2 p n)
      = Ideal.div ((∑ q, u (ix2 p q) * b (ix3 0 q (real n))) + ∑ q, v (ix2 p q) * b (ix3 0 q (imag n))) (Ideal.ofBits .f32 0x44800000#32) := by
  rw [pay5_split, ← scale_div]
  simp only [sub_self_real (hu _), sub_self_real (hv _), sub_self_real (hb _ _), zero_mul, mul_zero, Finset.sum_const_zero, zero_add]

variable (x0 : Vec Ideal S8x128x512 .f32) (x1 : Vec Ideal S2x128x128 .f32)

theorem cos_at (p q : Fin 128) : k0_pay32 x0 x1 (ix2 p q) = x1 (ix3 0 p q) := by
  unfold k0_pay32
  pointwise [k0_pay2]

theorem sin_at (p q : Fin 128) : k0_pay33 x0 x1 (ix2 p q) = x1 (ix3 1 p q) := by
  unfold k0_pay33
  pointwise [k0_pay3]

/-- One column of the block a point writes back. -/
def colVal (e : Fin 8) (p : Fin 128) (n : Fin 256) : EReal :=
  Ideal.div ((∑ q, x1 (ix3 0 p q) * x0 (ix3 e q (real n))) + ∑ q, x1 (ix3 1 p q) * x0 (ix3 e q (imag n))) (Ideal.ofBits .f32 0x44800000#32)

/-- The block a point writes back. -/
def tileVal (y : S128x2048.Idx) : EReal :=
  colVal x0 x1 ⟨(y 1).val / 256, by have h : (y 1).val < 2048 := (y 1).isLt; omega⟩ (y 0) ⟨(y 1).val % 256, Nat.mod_lt _ (by decide)⟩

variable (h0 : ∀ i, ∃ ρ : ℝ, x0 i = (ρ : EReal)) (h1 : ∀ i, ∃ ρ : ℝ, x1 i = (ρ : EReal))

include h0 h1

/-- A store's payload at an index. -/
theorem col_at (e : Fin 8) (b : Vec Ideal S1x128x512 .f32) (hb : ∀ q n, b (ix3 0 q n) = x0 (ix3 e q n)) (p : Fin 128) (n : Fin 256) :
    k0_pay5 (F := Ideal) (k0_pay32 x0 x1) (k0_pay33 x0 x1) b (ix2 p n) = colVal x0 x1 e p n := by
  refine (pay5_at _ _ _ p n (fun q => ?_) (fun q => ?_) (fun q n => ?_)).trans ?_
  · rw [cos_at]; exact h1 _
  · rw [sin_at]; exact h1 _
  · rw [hb]; exact h0 _
  · unfold colVal
    simp only [cos_at, sin_at, hb]

/-- What one store writes is that store's columns of the block. -/
theorem tile_at (e : Fin 8) (b : Vec Ideal S1x128x512 .f32) (hb : ∀ q n, b (ix3 0 q n) = x0 (ix3 e q n)) (y : S128x2048.Idx)
    (off : Fin 2 → ℕ) (ho0 : off 0 = 0) (ho1 : off 1 = 256 * e.val) :
    View.TileAt (Val := Elt Ideal) (S := S128x2048) (e := .f32) y off S128x256.size (k0_pay5 (F := Ideal) (k0_pay32 x0 x1) (k0_pay33 x0 x1) b)
      (tileVal x0 x1 y) := by
  intro x hx
  have e0 : (y 0).val = off 0 + (x 0).val := hx 0
  have e1 : (y 1).val = off 1 + (x 1).val := hx 1
  have l1 : (x 1).val < 256 := (x 1).isLt
  have ex : x = ix2 (x 0) (x 1) := by funext a; fin_cases a <;> rfl
  have p0 : x 0 = y 0 := Fin.ext (by omega)
  have pe : (⟨(y 1).val / 256, by have h : (y 1).val < 2048 := (y 1).isLt; omega⟩ : Fin 8) = e := Fin.ext (by show (y 1).val / 256 = e.val; omega)
  have pn : (⟨(y 1).val % 256, Nat.mod_lt _ (by decide)⟩ : Fin 256) = x 1 := Fin.ext (by show (y 1).val % 256 = (x 1).val; omega)
  rw [ex]
  refine (col_at x0 x1 h0 h1 e b hb (x 0) (x 1)).trans ?_
  unfold tileVal
  rw [pe, pn, p0]

omit h0 h1 in
/-- A block read through the window is the array's block. -/
theorem ld_at (e : Fin 8) (off : Fin 3 → ℕ) (inb) (ho : off = ![e.val, 0, 0]) (q : Fin 128) (n : Fin 512) :
    View.ld x0 (Rect.unit (s := S8x128x512) off S1x128x512.size inb) (ix3 (0 : Fin 1) q n) = x0 (ix3 e q n) := by
  subst ho
  refine View.ld_unit_apply_of _ _ _ _ _ _ fun a => ?_
  fin_cases a
  · rfl
  · exact (Nat.zero_add _).symm
  · exact (Nat.zero_add _).symm

/-- The block a point writes back. -/
theorem out_eq : out0_2 x0 x1 = tileVal x0 x1 := by
  funext y
  unfold out0_2
  refine View.canon_eq_of_allAt _ y _ (cover0_2 _ _ _ _ _ _ _ _ y) ?_
  refine View.allAt_cons_unit _ _ _ _ _ (tile_at x0 x1 h0 h1 7 (View.ld x0 r0_16) (ld_at x0 7 _ _ rfl) y _ rfl rfl) ?_
  refine View.allAt_cons_unit _ _ _ _ _ (tile_at x0 x1 h0 h1 6 (View.ld x0 r0_14) (ld_at x0 6 _ _ rfl) y _ rfl rfl) ?_
  refine View.allAt_cons_unit _ _ _ _ _ (tile_at x0 x1 h0 h1 5 (View.ld x0 r0_12) (ld_at x0 5 _ _ rfl) y _ rfl rfl) ?_
  refine View.allAt_cons_unit _ _ _ _ _ (tile_at x0 x1 h0 h1 4 (View.ld x0 r0_10) (ld_at x0 4 _ _ rfl) y _ rfl rfl) ?_
  refine View.allAt_cons_unit _ _ _ _ _ (tile_at x0 x1 h0 h1 3 (View.ld x0 r0_8) (ld_at x0 3 _ _ rfl) y _ rfl rfl) ?_
  refine View.allAt_cons_unit _ _ _ _ _ (tile_at x0 x1 h0 h1 2 (View.ld x0 r0_6) (ld_at x0 2 _ _ rfl) y _ rfl rfl) ?_
  refine View.allAt_cons_unit _ _ _ _ _ (tile_at x0 x1 h0 h1 1 (View.ld x0 r0_4) (ld_at x0 1 _ _ rfl) y _ rfl rfl) ?_
  refine View.allAt_cons_unit _ _ _ _ _ (tile_at x0 x1 h0 h1 0 (View.ld x0 r0_2) (ld_at x0 0 _ _ rfl) y _ rfl rfl) ?_
  exact View.allAt_nil _ _

end Cert.Kernel7Ideal.Gen
-- ==== Proof.Ft2Fold.lean ====
/- The second stage's array after its run. -/
module

public import proofs.«01_k».proof.Proof.Ft2Pay
public import proofs.«01_k».proof.Proof.Gen.Kernel7Ideal.Value
public import Idealize.ShloMosaic.Lib.Pipeline.ValueKit

@[expose] public section

set_option maxRecDepth 16384

noncomputable section

namespace Cert.Kernel7Ideal.Gen

open Idealize.ShloMosaic Idealize.ShloMosaic.TcCoe
open Idealize.SL Idealize.SL.Sem

open Idealize.ShloMosaic.Rounds
open Cert.Math Cert.Reference7Ideal.Read

variable (m : (ℓ : Loc nD τ sig) → Buf (Elt Ideal) ℓ)

abbrev A0 (c : Dev nD) : S128x128x512.Idx → EReal := m ((c : Thread nD τ).loc main_arg0)
abbrev A1 (c : Dev nD) : S2x128x128.Idx → EReal := m ((c : Thread nD τ).loc main_arg1)

theorem idx : ∀ t : Fin cfg0.N, win0_0.index t = ![t.val, 0, 0] ∧ win0_1.index t = ![0, 0, 0] ∧ win0_2.index t = ![0, t.val] :=
  (by decide +kernel : ∀ t : Fin grid0.N, _)

/-- The block of the array a point's block `e` is. -/
abbrev blockOf (t : Fin cfg0.N) (e : Fin 8) : Fin 128 := ⟨t.val * 8 + e.val, by have ht : t.val < 16 := t.isLt; omega⟩

theorem blk0 (c : Dev nD) (t : Fin cfg0.N) (e : Fin 8) (q : Fin 128) (n : Fin 512) : iblk m c 0 t (ix3 e q n) = A0 m c (ix3 (blockOf t e) q n) := by
  blk_ext [iblk, V, idx t]

theorem blk1 (c : Dev nD) (t : Fin cfg0.N) (s : Fin 2) (p q : Fin 128) : iblk m c 1 t (ix3 s p q) = A1 m c (ix3 s p q) := by
  blk_ext [iblk, V, idx t]

variable (h0 : ∀ (c : Dev nD) i, ∃ ρ : ℝ, A0 m c i = (ρ : EReal)) (h1 : ∀ (c : Dev nD) i, ∃ ρ : ℝ, A1 m c i = (ρ : EReal))

include h0 h1

/-- A point's block of the output, at an index. -/
theorem block_at (c : Dev nD) (t : Fin cfg0.N) (p : Fin 128) (j : Fin 2048) (w : Fin 32768) (hw : w.val = t.val * 2048 + j.val) :
    out0_2 (iblk m c 0 t) (iblk m c 1 t) (ix2 p j) = stage2A (A0 m c) (A1 m c) (ix2 p w) := by
  have ht : t.val < 16 := t.isLt
  rw [out_eq _ _
    (fun i => (h0 c _).imp fun ρ h => ((congrArg (iblk m c 0 t) (ix3_eta i).symm).trans (blk0 m c t (i 0) (i 1) (i 2))).trans h)
    (fun i => (h1 c _).imp fun ρ h => ((congrArg (iblk m c 1 t) (ix3_eta i).symm).trans (blk1 m c t (i 0) (i 1) (i 2))).trans h)]
  have ek : (⟨w.val / 256, by omega⟩ : Fin 128) = blockOf t ⟨j.val / 256, by omega⟩ := Fin.ext (by show w.val / 256 = t.val * 8 + j.val / 256; omega)
  have en : (⟨w.val % 256, Nat.mod_lt _ (by decide)⟩ : Fin 256) = ⟨j.val % 256, Nat.mod_lt _ (by decide)⟩ :=
    Fin.ext (by show w.val % 256 = j.val % 256; omega)
  show colVal _ _ ⟨j.val / 256, _⟩ p ⟨j.val % 256, _⟩ = Ideal.div (stage2 (A0 m c) (A1 m c) p ⟨w.val / 256, _⟩ ⟨w.val % 256, _⟩) _
  rw [ek, en]
  unfold colVal stage2
  simp only [blk0, blk1]

theorem final (c : Dev nD) : (dats m 0 c).arrAt 2 cfg0.N = stage2A (A0 m c) (A1 m c) := by
  refine (dats m 0 c).arrAt_eq_of_covers 2 _ (by decide +kernel) fun t hf y => ?_
  rw [after0_2]
  have ht : t.val < 16 := t.isLt
  have hp : (y 0).val < 128 := (y 0).isLt
  have hj : (y 1).val < 2048 := (y 1).isLt
  have key := block_at m h0 h1 c t
  generalize out0_2 (iblk m c 0 t) (iblk m c 1 t) = S at key ⊢
  have ey : y = ix2 (⟨(y 0).val, hp⟩ : Fin 128) (⟨(y 1).val, hj⟩ : Fin 2048) := by
    funext a
    fin_cases a <;> rfl
  refine (congrArg S ey).trans ((key ⟨(y 0).val, hp⟩ ⟨(y 1).val, hj⟩ ⟨t.val * 2048 + (y 1).val, by omega⟩ rfl).trans ?_)
  refine congrArg (stage2A (A0 m c) (A1 m c)) ?_
  funext a
  fin_cases a
  · exact Fin.ext (by blk_simp [idx t]; rfl)
  · exact Fin.ext (by blk_simp [idx t]; rfl)

end Cert.Kernel7Ideal.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.AttnValue
public import proofs.«01_k».proof.Proof.FfnFold
public import proofs.«01_k».proof.Proof.ProjFold
public import proofs.«01_k».proof.Proof.MergeFold
public import proofs.«01_k».proof.Proof.MergePre
public import proofs.«01_k».proof.Proof.ModsFold
public import proofs.«01_k».proof.Proof.FtPre
public import proofs.«01_k».proof.Proof.Ft1Fold
public import proofs.«01_k».proof.Proof.Ft2Fold
public import proofs.«01_k».proof.Proof.ModsPre
public import Idealize.ShloMosaic.Adequacy
public import Idealize.ShloMosaic.Init

@[expose] public section

noncomputable section

namespace Cert.Proof

open Idealize.ShloMosaic Idealize.SL.Sem

/-- The attention reference terminates and keeps its arguments; it has no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The feed-forward reference terminates and keeps its arguments; it has no semaphore. -/
theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The input projection's reference terminates and keeps its arguments; it has no semaphore. -/
theorem frame_ri3 : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- The merge's reference terminates and keeps its arguments; it has no semaphore. -/
theorem frame_ri4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The modulation's reference terminates and keeps its arguments; it has no semaphore. -/
theorem frame_ri5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem frame_ri6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem frame_ri7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The attention kernel and its reference end with equal results. -/
theorem algebraic : Cert.algebraic_KernelIdeal_ReferenceIdeal_pre_finite_scores_unit_row
    (hPre_finite_scores_unit_row := Cert.Pre_finite_scores_unit_row.preFacts) := by
  intro m ρ m' ρ' hpre hagree
  refine ⟨fun c => Cert.KernelIdeal.Gen.attn (Cert.KernelIdeal.Gen.Q0 m c) (Cert.KernelIdeal.Gen.K0 m c) (Cert.KernelIdeal.Gen.W0 m c), ?_, ?_⟩
  · exact (θ_run Cert.KernelIdeal.defs _ _).mono
      (fun _ h c => ⟨(h c).1.trans (Cert.KernelIdeal.Gen.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    haveI := Cert.Pre_finite_scores_unit_row.preFacts
    have hp := hpre c
    rw [(hagree c).1, (hagree c).2.1, (hagree c).2.2, Cert.ReferenceIdeal.Read.val_main_v23_eq]
    exact (Cert.Attn.attn_eq _ _ _
      (fun h i' d hi => Cert.Pre_finite_scores_unit_row.query_real _ _ _ hp.1 h ⟨i'.val, hi⟩ i' rfl d)
      (fun h κ d => Cert.Pre_finite_scores_unit_row.key_real _ _ _ hp.2.1 _)
      (fun h κ => Cert.Pre_finite_scores_unit_row.row_one _ _ _ hp.2.2 h κ)).symm

/-- The feed-forward kernel and its reference end with equal results. -/
theorem algebraic2 : Cert.algebraic_Kernel2Ideal_Reference2Ideal := by
  intro m ρ m' ρ' _ hagree
  refine ⟨fun c => Cert.Kernel2Ideal.Gen.ffnA m c, ?_, ?_⟩
  · exact (θ_run Cert.Kernel2Ideal.defs _ _).mono
      (fun _ h c => ⟨(h c).1.trans (Cert.Kernel2Ideal.Gen.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨h0, h1, h2, h3, h4, h5, h6, h7⟩ := hagree c
    rw [Cert.Reference2Ideal.Read.val_main_v47_eq, h0, h1, h2, h3, h4, h5, h6, h7]
    funext y
    refine (congrArg (Cert.Reference2Ideal.Read.val_main_v47 (F := Ideal) _ _ _ _ _ _ _ _) (ix2_eta y).symm).trans ?_
    exact Cert.Reference2Ideal.Read.v47_at _ _ _ _ _ _ _ _ (y 0) (y 1)

/-- The input projection's kernel and its reference end with equal results. -/
theorem algebraic3 : Cert.algebraic_Kernel3Ideal_Reference3Ideal := by
  intro m ρ m' ρ' _ hagree
  refine ⟨fun c => Cert.Kernel3Ideal.Gen.gatesA m c, fun c => Cert.Kernel3Ideal.Gen.mixA m c, ?_, ?_⟩
  · exact (θ_run Cert.Kernel3Ideal.defs _ _).mono
      (fun _ h c => ⟨(h c).1.trans (Cert.Kernel3Ideal.Gen.final_gates m c), (h c).2.1.trans (Cert.Kernel3Ideal.Gen.final_mix m c), (h c).2.2⟩)
      (Cert.Kernel3Ideal.Value.run_blocks (F := Ideal) m ρ)
  · refine (θ_run Cert.Reference3Ideal.defs _ _).mono (fun _ h c => ⟨(h c).1.trans ?_, (h c).2.1.trans ?_, (h c).2.2⟩)
      (Cert.Reference3Ideal.Value.run (F := Ideal) m' ρ')
    · obtain ⟨h0, h1, h2, h3, h4, h5⟩ := hagree c
      rw [Cert.Reference3Ideal.Read.val_main_v52_eq, h0, h1, h2, h3, h4]
      funext y
      refine (congrArg (Cert.Reference3Ideal.Read.val_main_v52 (F := Ideal) _ _ _ _ _) (ix2_eta y).symm).trans ?_
      exact Cert.Reference3Ideal.Read.v52_at _ _ _ _ _ (y 0) (y 1)
    · obtain ⟨h0, h1, h2, h3, h4, h5⟩ := hagree c
      rw [Cert.Reference3Ideal.Read.val_main_v45_eq, h0, h1, h2, h3, h4, h5]
      funext y
      refine (congrArg (Cert.Reference3Ideal.Read.val_main_v45 (F := Ideal) _ _ _ _ _ _) (ix2_eta y).symm).trans ?_
      exact Cert.Reference3Ideal.Read.v45_at _ _ _ _ _ _ (y 0) (y 1)

/-- The merge's kernel and its reference end with equal results. -/
theorem algebraic4 : Cert.algebraic_Kernel4Ideal_Reference4Ideal_pre_finite_scan (hPre_finite_scan := Cert.Pre_finite_scan.preFacts) := by
  intro m ρ m' ρ' hpre hagree
  haveI := Cert.Pre_finite_scan.preFacts
  refine ⟨fun c => Cert.Kernel4Ideal.Gen.mergeA m c, ?_, ?_⟩
  · refine (θ_run Cert.Kernel4Ideal.defs _ _).mono
      (fun _ h c => ⟨(h c).1.trans (Cert.Kernel4Ideal.Gen.final m c ?_), (h c).2⟩)
      (Cert.Kernel4Ideal.Value.run_blocks (F := Ideal) m ρ)
    have hp := hpre c
    exact Cert.Pre_finite_scan.both_real _ _ (Cert.Pre_finite_scan.real_of_lt _ hp.1) (Cert.Pre_finite_scan.real_of_lt _ hp.2)
  · refine (θ_run Cert.Reference4Ideal.defs _ _).mono (fun _ h c => ⟨(h c).1.trans ?_, (h c).2⟩)
      (Cert.Reference4Ideal.Value.run (F := Ideal) m' ρ')
    obtain ⟨h0, h1, h2, h3, h4, h5, h6, h7, h8, h9, h10, h11, h12, h13⟩ := hagree c
    rw [Cert.Reference4Ideal.Read.val_main_v58_eq, h0, h1, h2, h3, h4, h5, h6, h7, h8, h9, h10, h11, h12, h13]
    funext y
    refine (congrArg (Cert.Reference4Ideal.Read.val_main_v58 (F := Ideal) _ _ _ _ _ _ _ _ _ _ _ _ _ _) (ix2_eta y).symm).trans ?_
    exact Cert.Reference4Ideal.Read.v58_at _ _ _ _ _ _ _ _ _ _ _ _ _ _ (y 0) (y 1)

/-- The modulation's kernel and its reference end with equal results. -/
theorem algebraic5 : Cert.algebraic_Kernel5Ideal_Reference5Ideal_pre_finite_modulation
    (hPre_finite_modulation := Cert.Pre_finite_modulation.preFacts) := by
  intro m ρ m' ρ' hpre hagree
  haveI := Cert.Pre_finite_modulation.preFacts
  refine ⟨fun c => Cert.Kernel5Ideal.Gen.modA m c, ?_, ?_⟩
  · exact (θ_run Cert.Kernel5Ideal.defs _ _).mono
      (fun _ h c => ⟨(h c).1.trans (Cert.Kernel5Ideal.Gen.final m
        (fun c => Cert.Pre_finite_modulation.real_of_lt _ _ (hpre c).1)
        (fun c => Cert.Pre_finite_modulation.real_of_lt _ _ (hpre c).2.1)
        (fun c => Cert.Pre_finite_modulation.real_of_lt _ _ (hpre c).2.2) c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨h0, h1, h2, h3⟩ := hagree c
    rw [Cert.Reference5Ideal.Read.val_main_v8_eq, h0, h1, h2, h3]
    funext y
    refine (congrArg (Cert.Reference5Ideal.Read.val_main_v8 (F := Ideal) _ _ _ _) (ix3_eta y).symm).trans ?_
    exact Cert.Reference5Ideal.Read.v8_at _ _ _ _ (y 0) (y 1) (y 2)

/-- The first stage's kernel and its reference end with equal results. -/
theorem algebraic6 : Cert.algebraic_Kernel6Ideal_Reference6Ideal_pre_finite_first_stage
    (hPre_finite_first_stage := Cert.Pre_finite_first_stage.preFacts) := by
  intro m ρ m' ρ' hpre hagree
  haveI := Cert.Pre_finite_first_stage.preFacts
  refine ⟨fun c => Cert.Reference6Ideal.Read.stage1A (Cert.Kernel6Ideal.Gen.A0 m c) (Cert.Kernel6Ideal.Gen.A1 m c) (Cert.Kernel6Ideal.Gen.A2 m c), ?_, ?_⟩
  · exact (θ_run Cert.Kernel6Ideal.defs _ _).mono
      (fun _ h c => ⟨(h c).1.trans (Cert.Kernel6Ideal.Gen.final m
        (fun c => Cert.Pre_finite_modulation.real_of_lt _ _ (hpre c).1)
        (fun c => Cert.Pre_finite_modulation.real_of_lt _ _ (hpre c).2) c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    obtain ⟨h0, h1, h2⟩ := hagree c
    rw [Cert.Reference6Ideal.Read.val_main_v30_eq, h0, h1, h2]
    exact Cert.Reference6Ideal.Read.v30_eq _ _ _

/-- The second stage's kernel and its reference end with equal results. -/
theorem algebraic7 : Cert.algebraic_Kernel7Ideal_Reference7Ideal_pre_finite_second_stage
    (hPre_finite_second_stage := Cert.Pre_finite_second_stage.preFacts) := by
  intro m ρ m' ρ' hpre hagree
  haveI := Cert.Pre_finite_second_stage.preFacts
  refine ⟨fun c => Cert.Reference7Ideal.Read.stage2A (Cert.Kernel7Ideal.Gen.A0 m c) (Cert.Kernel7Ideal.Gen.A1 m c), ?_, ?_⟩
  · exact (θ_run Cert.Kernel7Ideal.defs _ _).mono
      (fun _ h c => ⟨(h c).1.trans (Cert.Kernel7Ideal.Gen.final m
        (fun c => Cert.Pre_finite_modulation.real_of_lt _ _ (hpre c).1)
        (fun c => Cert.Pre_finite_modulation.real_of_lt _ _ (hpre c).2) c), (h c).2⟩)
      (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    obtain ⟨h0, h1⟩ := hagree c
    rw [Cert.Reference7Ideal.Read.val_main_v11_eq, h0, h1]
    exact Cert.Reference7Ideal.Read.v11_eq _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_scores_unit_row.preFacts, Cert.Pre_finite_scan.preFacts, Cert.Pre_finite_modulation.preFacts,
  Cert.Pre_finite_first_stage.preFacts, Cert.Pre_finite_second_stage.preFacts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, fun m ρ _ => Cert.Kernel4Ideal.Gen.frame m ρ,
  frame_ri4, fun m ρ _ => frame_ri4 m ρ trivial,
  fun m ρ _ => Cert.Kernel5.Gen.frame m ρ, fun m ρ _ => Cert.Kernel5Ideal.Gen.frame m ρ, fun m ρ _ => Cert.Kernel5Ideal.Gen.frame m ρ,
  frame_ri5, fun m ρ _ => frame_ri5 m ρ trivial,
  fun m ρ _ => Cert.Kernel6.Gen.frame m ρ, fun m ρ _ => Cert.Kernel6Ideal.Gen.frame m ρ, fun m ρ _ => Cert.Kernel6Ideal.Gen.frame m ρ,
  frame_ri6, fun m ρ _ => frame_ri6 m ρ trivial,
  fun m ρ _ => Cert.Kernel7.Gen.frame m ρ, fun m ρ _ => Cert.Kernel7Ideal.Gen.frame m ρ, fun m ρ _ => Cert.Kernel7Ideal.Gen.frame m ρ,
  frame_ri7, fun m ρ _ => frame_ri7 m ρ trivial,
  trivial, algebraic, trivial, algebraic2, trivial, algebraic3, trivial, algebraic4, trivial, algebraic5, trivial, algebraic6,
  trivial, algebraic7⟩

end Cert.Proof

end
